-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_finite [hPre_fox_finite : Cert.Pre_fox_finite.Facts] (m : (ℓ : Loc Cert.KernelIdeal.nD Cert.KernelIdeal.τ Cert.KernelIdeal.sig) → Buf (Elt Ideal) ℓ) : Prop :=
  ∀ c : Dev Cert.KernelIdeal.nD,
    (Cert.Pre_fox_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_finite [hPre_fox_finite : Cert.Pre_fox_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mem_finite [hPre_mem_finite : Cert.Pre_mem_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mem_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mem_finite [hPre_mem_finite : Cert.Pre_mem_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mem_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fox_finite [hKernelIdeal : Cert.KernelIdeal.Facts] [hPre_fox_finite : Cert.Pre_fox_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fox_finite [hReferenceIdeal : Cert.ReferenceIdeal.Facts] [hPre_fox_finite : Cert.Pre_fox_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_mem_finite [hKernel5Ideal : Cert.Kernel5Ideal.Facts] [hPre_mem_finite : Cert.Pre_mem_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mem_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_mem_finite [hReference5Ideal : Cert.Reference5Ideal.Facts] [hPre_mem_finite : Cert.Pre_mem_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mem_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_fox_finite [hKernelIdeal : Cert.KernelIdeal.Facts] [hReferenceIdeal : Cert.ReferenceIdeal.Facts] [hPre_fox_finite : Cert.Pre_fox_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_mem_finite [hKernel5Ideal : Cert.Kernel5Ideal.Facts] [hReference5Ideal : Cert.Reference5Ideal.Facts] [hPre_mem_finite : Cert.Pre_mem_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mem_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_fox_finite : Cert.Pre_fox_finite.Facts) (hPre_mem_finite : Cert.Pre_mem_finite.Facts),
    quiescent_Kernel (hKernel := hKernel)
    ∧ quiescent_KernelIdeal (hKernelIdeal := hKernelIdeal)
    ∧ quiescent_KernelIdeal_pre_fox_finite (hKernelIdeal := hKernelIdeal) (hPre_fox_finite := hPre_fox_finite)
    ∧ quiescent_ReferenceIdeal (hReferenceIdeal := hReferenceIdeal)
    ∧ quiescent_ReferenceIdeal_pre_fox_finite (hReferenceIdeal := hReferenceIdeal) (hPre_fox_finite := hPre_fox_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_mem_finite (hKernel5Ideal := hKernel5Ideal) (hPre_mem_finite := hPre_mem_finite)
    ∧ quiescent_Reference5Ideal (hReference5Ideal := hReference5Ideal)
    ∧ quiescent_Reference5Ideal_pre_mem_finite (hReference5Ideal := hReference5Ideal) (hPre_mem_finite := hPre_mem_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_fox_finite (hKernelIdeal := hKernelIdeal) (hReferenceIdeal := hReferenceIdeal) (hPre_fox_finite := hPre_fox_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_mem_finite (hKernel5Ideal := hKernel5Ideal) (hReference5Ideal := hReference5Ideal) (hPre_mem_finite := hPre_mem_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_fox_finite.lean ====
abbrev S2x4096x14616 : Shape := ⟨3, ![2, 4096, 14616]⟩
abbrev S24 : Shape := ⟨1, ![24]⟩
abbrev S2x4096x3072 : Shape := ⟨3, ![2, 4096, 3072]⟩
abbrev S_ : Shape := ⟨0, ![]⟩
abbrev S2x4096x24 : Shape := ⟨3, ![2, 4096, 24]⟩

class Facts : Prop where
  slices_S2x4096x14616_S2x4096x3072_0_0_6400 : S2x4096x14616.Slices ![0, 0, 6400] S2x4096x3072
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  slices_S2x4096x14616_S2x4096x24_0_0_11008 : S2x4096x14616.Slices ![0, 0, 11008] S2x4096x24
  bcast_S_S2x4096x24 : S_.BroadcastsInDim S2x4096x24 (![] : Fin 0 → Fin S2x4096x24.rank)
  reducesTo_S2x4096x24_S_d0_1_2 : S2x4096x24.ReducesTo [0, 1, 2] S_
  bcast_S_S24 : S_.BroadcastsInDim S24 (![] : Fin 0 → Fin S24.rank)
  reducesTo_S24_S_d0 : S24.ReducesTo [0] S_

variable [Facts]

def fn {F : FTy → Type} [FloatOps F] (main_arg0 : FVec F S2x4096x14616 .f32) (main_arg1 : FVec F S24 .f32) : IVec S_ 1 :=
  let main_v0 : FVec F S2x4096x3072 .f32 := (extractStridedSlice S2x4096x3072 ![0, 0, 6400] · slices_S2x4096x14616_S2x4096x3072_0_0_6400) main_arg0
  let main_v1 : FVec F S2x4096x3072 .f32 := Host.absf main_v0
  let main_cst : FVec F S_ .f32 := constant S_ .f32 0x7F800000#32
  let main_v2 : FVec F S2x4096x3072 .f32 := broadcastInDim S2x4096x3072 ![] bcast_S_S2x4096x3072 main_cst
  let main_v3 : IVec S2x4096x3072 1 := cmpf .olt main_v1 main_v2
  let main_c : IVec S_ 1 := constantI S_ 1 1#1
  let main_v4 : IVec S_ 1 := (fun x v => Host.reduce IntOp.andi x v reducesTo_S2x4096x3072_S_d0_1_2 h_S_) main_v3 main_c
  let main_v5 : FVec F S2x4096x24 .f32 := (extractStridedSlice S2x4096x24 ![0, 0, 11008] · slices_S2x4096x14616_S2x4096x24_0_0_11008) main_arg0
  let main_v6 : FVec F S2x4096x24 .f32 := Host.absf main_v5
  let main_cst_0 : FVec F S_ .f32 := constant S_ .f32 0x7F800000#32
  let main_v7 : FVec F S2x4096x24 .f32 := broadcastInDim S2x4096x24 ![] bcast_S_S2x4096x24 main_cst_0
  let main_v8 : IVec S2x4096x24 1 := cmpf .olt main_v6 main_v7
  let main_c_1 : IVec S_ 1 := constantI S_ 1 1#1
  let main_v9 : IVec S_ 1 := (fun x v => Host.reduce IntOp.andi x v reducesTo_S2x4096x24_S_d0_1_2 h_S_) main_v8 main_c_1
  let main_v10 : IVec S_ 1 := andi main_v4 main_v9
  let main_v11 : FVec F S24 .f32 := Host.absf main_arg1
  let main_cst_2 : FVec F S_ .f32 := constant S_ .f32 0x7F800000#32
  let main_v12 : FVec F S24 .f32 := broadcastInDim S24 ![] bcast_S_S24 main_cst_2
  let main_v13 : IVec S24 1 := cmpf .olt main_v11 main_v12
  let main_c_3 : IVec S_ 1 := constantI S_ 1 1#1
  let main_v14 : IVec S_ 1 := (fun x v => Host.reduce IntOp.andi x v reducesTo_S24_S_d0 h_S_) main_v13 main_c_3
  let main_v15 : IVec S_ 1 := andi main_v10 main_v14
  main_v15
-- ==== Pre_mem_finite.lean ====
abbrev S2x4096x14616 : Shape := ⟨3, ![2, 4096, 14616]⟩
abbrev S2x256x2048 : Shape := ⟨3, ![2, 256, 2048]⟩
abbrev S2x4096x1024 : Shape := ⟨3, ![2, 4096, 1024]⟩
abbrev S_ : Shape := ⟨0, ![]⟩
abbrev S2x256x1024 : Shape := ⟨3, ![2, 256, 1024]⟩

class Facts : Prop where
  slices_S2x4096x14616_S2x4096x1024_0_0_12568 : S2x4096x14616.Slices ![0, 0, 12568] S2x4096x1024
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  slices_S2x256x2048_S2x256x1024_0_0_0 : S2x256x2048.Slices ![0, 0, 0] S2x256x1024
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn {F : FTy → Type} [FloatOps F] (main_arg0 : FVec F S2x4096x14616 .f32) (main_arg1 : FVec F S2x256x2048 .f32) : IVec S_ 1 :=
  let main_v0 : FVec F S2x4096x1024 .f32 := (extractStridedSlice S2x4096x1024 ![0, 0, 12568] · slices_S2x4096x14616_S2x4096x1024_0_0_12568) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  let main_v5 : FVec F S2x256x1024 .f32 := (extractStridedSlice S2x256x1024 ![0, 0, 0] · slices_S2x256x2048_S2x256x1024_0_0_0) main_arg1
  let main_v6 : FVec F S2x256x1024 .f32 := Host.absf main_v5
  let main_cst_0 : FVec F S_ .f32 := constant S_ .f32 0x7F800000#32
  let main_v7 : FVec F S2x256x1024 .f32 := broadcastInDim S2x256x1024 ![] bcast_S_S2x256x1024 main_cst_0
  let main_v8 : IVec S2x256x1024 1 := cmpf .olt main_v6 main_v7
  let main_c_1 : IVec S_ 1 := constantI S_ 1 1#1
  let main_v9 : IVec S_ 1 := (fun x v => Host.reduce IntOp.andi x v reducesTo_S2x256x1024_S_d0_1_2 h_S_) main_v8 main_c_1
  let main_v10 : IVec S_ 1 := andi main_v4 main_v9
  main_v10
-- ==== Kernel.lean ====
abbrev S2x4096x14616 : Shape := ⟨3, ![2, 4096, 14616]⟩
abbrev S24 : Shape := ⟨1, ![24]⟩
abbrev S2x4096x24 : Shape := ⟨3, ![2, 4096, 24]⟩
abbrev S1x1x24 : Shape := ⟨3, ![1, 1, 24]⟩
abbrev S_ : Shape := ⟨0, ![]⟩
abbrev S2x4096x24x1 : Shape := ⟨4, ![2, 4096, 24, 1]⟩
abbrev S2x4096x24x3 : Shape := ⟨4, ![2, 4096, 24, 3]⟩
abbrev S2x4096x12x2x3 : Shape := ⟨5, ![2, 4096, 12, 2, 3]⟩
abbrev S2x4096x12x2x61 : Shape := ⟨5, ![2, 4096, 12, 2, 61]⟩
abbrev S2x4096x12x2x64 : Shape := ⟨5, ![2, 4096, 12, 2, 64]⟩
abbrev S2x4096x1536 : Shape := ⟨3, ![2, 4096, 1536]⟩
abbrev S2x4096x12x1x64 : Shape := ⟨5, ![2, 4096, 12, 1, 64]⟩
abbrev S2x4096x12x64 : Shape := ⟨4, ![2, 4096, 12, 64]⟩
abbrev S2x4096x12x128 : Shape := ⟨4, ![2, 4096, 12, 128]⟩
abbrev S2x4096x3072 : Shape := ⟨3, ![2, 4096, 3072]⟩
abbrev S2x4096x1024 : Shape := ⟨3, ![2, 4096, 1024]⟩
abbrev S2x4096x4096 : Shape := ⟨3, ![2, 4096, 4096]⟩
abbrev S8192x1536 : Shape := ⟨2, ![8192, 1536]⟩
abbrev S1536x8192 : Shape := ⟨2, ![1536, 8192]⟩
abbrev S24x64x8192 : Shape := ⟨3, ![24, 64, 8192]⟩
abbrev S24x16x8192 : Shape := ⟨3, ![24, 16, 8192]⟩
abbrev S24x80x8192 : Shape := ⟨3, ![24, 80, 8192]⟩
abbrev S1920x8192 : Shape := ⟨2, ![1920, 8192]⟩
abbrev S2x4096x4608 : Shape := ⟨3, ![2, 4096, 4608]⟩
abbrev S2x4096x256 : Shape := ⟨3, ![2, 4096, 256]⟩
abbrev S2x4096x9216 : Shape := ⟨3, ![2, 4096, 9216]⟩
abbrev S1x512x512 : Shape := ⟨3, ![1, 512, 512]⟩
abbrev S1x4096x512 : Shape := ⟨3, ![1, 4096, 512]⟩
abbrev S640x4096 : Shape := ⟨2, ![640, 4096]⟩
abbrev S8x1x512 : Shape := ⟨3, ![8, 1, 512]⟩
abbrev S8x80x512 : Shape := ⟨3, ![8, 80, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S80x256 : Shape := ⟨2, ![80, 256]⟩
abbrev S80x512 : Shape := ⟨2, ![80, 512]⟩
abbrev S1x80x512 : Shape := ⟨3, ![1, 80, 512]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S64x512 : Shape := ⟨2, ![64, 512]⟩
abbrev S128x512 : Shape := ⟨2, ![128, 512]⟩

abbrev nBuf : Space → Nat
  | .hbm => 80
  | .vmem => 14
  | .smem => 0
  | _ => 0

abbrev bufTy : (tb : Table) → Fin (tcTables nBuf tb) → BufTy
  | .hbm, ⟨0, _⟩ => ⟨S2x4096x14616, .f32⟩
  | .hbm, ⟨1, _⟩ => ⟨S24, .f32⟩
  | .hbm, ⟨2, _⟩ => ⟨S2x4096x24, .f32⟩
  | .hbm, ⟨3, _⟩ => ⟨S1x1x24, .f32⟩
  | .hbm, ⟨4, _⟩ => ⟨S2x4096x24, .f32⟩
  | .hbm, ⟨5, _⟩ => ⟨S2x4096x24, .f32⟩
  | .hbm, ⟨6, _⟩ => ⟨S2x4096x24, .f32⟩
  | .hbm, ⟨7, _⟩ => ⟨S_, .f32⟩
  | .hbm, ⟨8, _⟩ => ⟨S2x4096x24, .f32⟩
  | .hbm, ⟨9, _⟩ => ⟨S2x4096x24, .f32⟩
  | .hbm, ⟨10, _⟩ => ⟨S2x4096x24, .f32⟩
  | .hbm, ⟨11, _⟩ => ⟨S2x4096x24, .f32⟩
  | .hbm, ⟨12, _⟩ => ⟨S2x4096x24, .f32⟩
  | .hbm, ⟨13, _⟩ => ⟨S_, .f32⟩
  | .hbm, ⟨14, _⟩ => ⟨S2x4096x24, .f32⟩
  | .hbm, ⟨15, _⟩ => ⟨S2x4096x24, .f32⟩
  | .hbm, ⟨16, _⟩ => ⟨S2x4096x24, .f32⟩
  | .hbm, ⟨17, _⟩ => ⟨S2x4096x24, .f32⟩
  | .hbm, ⟨18, _⟩ => ⟨S2x4096x24, .f32⟩
  | .hbm, ⟨19, _⟩ => ⟨S_, .f32⟩
  | .hbm, ⟨20, _⟩ => ⟨S_, .f32⟩
  | .hbm, ⟨21, _⟩ => ⟨S2x4096x24, .f32⟩
  | .hbm, ⟨22, _⟩ => ⟨S_, .f32⟩
  | .hbm, ⟨23, _⟩ => ⟨S_, .f32⟩
  | .hbm, ⟨24, _⟩ => ⟨S2x4096x24, .f32⟩
  | .hbm, ⟨25, _⟩ => ⟨S2x4096x24, .f32⟩
  | .hbm, ⟨26, _⟩ => ⟨S2x4096x24, .bf16⟩
  | .hbm, ⟨27, _⟩ => ⟨S2x4096x24, .f32⟩
  | .hbm, ⟨28, _⟩ => ⟨S2x4096x24, .f32⟩
  | .hbm, ⟨29, _⟩ => ⟨S2x4096x24, .bf16⟩
  | .hbm, ⟨30, _⟩ => ⟨S2x4096x24, .f32⟩
  | .hbm, ⟨31, _⟩ => ⟨S2x4096x24, .f32⟩
  | .hbm, ⟨32, _⟩ => ⟨S2x4096x24, .f32⟩
  | .hbm, ⟨33, _⟩ => ⟨S2x4096x24, .bf16⟩
  | .hbm, ⟨34, _⟩ => ⟨S2x4096x24, .f32⟩
  | .hbm, ⟨35, _⟩ => ⟨S2x4096x24x1, .f32⟩
  | .hbm, ⟨36, _⟩ => ⟨S2x4096x24x1, .f32⟩
  | .hbm, ⟨37, _⟩ => ⟨S2x4096x24x1, .f32⟩
  | .hbm, ⟨38, _⟩ => ⟨S2x4096x24x3, .f32⟩
  | .hbm, ⟨39, _⟩ => ⟨S2x4096x12x2x3, .f32⟩
  | .hbm, ⟨40, _⟩ => ⟨S_, .f32⟩
  | .hbm, ⟨41, _⟩ => ⟨S2x4096x12x2x61, .f32⟩
  | .hbm, ⟨42, _⟩ => ⟨S2x4096x12x2x64, .f32⟩
  | .hbm, ⟨43, _⟩ => ⟨S2x4096x1536, .f32⟩
  | .hbm, ⟨44, _⟩ => ⟨S2x4096x12x2x64, .f32⟩
  | .hbm, ⟨45, _⟩ => ⟨S2x4096x12x1x64, .f32⟩
  | .hbm, ⟨46, _⟩ => ⟨S2x4096x12x64, .f32⟩
  | .hbm, ⟨47, _⟩ => ⟨S2x4096x12x1x64, .f32⟩
  | .hbm, ⟨48, _⟩ => ⟨S2x4096x12x64, .f32⟩
  | .hbm, ⟨49, _⟩ => ⟨S2x4096x12x128, .f32⟩
  | .hbm, ⟨50, _⟩ => ⟨S2x4096x1536, .f32⟩
  | .hbm, ⟨51, _⟩ => ⟨S2x4096x1536, .bf16⟩
  | .hbm, ⟨52, _⟩ => ⟨S2x4096x12x1x64, .f32⟩
  | .hbm, ⟨53, _⟩ => ⟨S2x4096x12x64, .f32⟩
  | .hbm, ⟨54, _⟩ => ⟨S2x4096x12x1x64, .f32⟩
  | .hbm, ⟨55, _⟩ => ⟨S2x4096x12x64, .f32⟩
  | .hbm, ⟨56, _⟩ => ⟨S2x4096x12x128, .f32⟩
  | .hbm, ⟨57, _⟩ => ⟨S2x4096x1536, .f32⟩
  | .hbm, ⟨58, _⟩ => ⟨S2x4096x1536, .bf16⟩
  | .hbm, ⟨59, _⟩ => ⟨S2x4096x3072, .f32⟩
  | .hbm, ⟨60, _⟩ => ⟨S2x4096x1024, .f32⟩
  | .hbm, ⟨61, _⟩ => ⟨S2x4096x4096, .f32⟩
  | .hbm, ⟨62, _⟩ => ⟨S2x4096x4096, .bf16⟩
  | .hbm, ⟨63, _⟩ => ⟨S2x4096x1536, .f32⟩
  | .hbm, ⟨64, _⟩ => ⟨S8192x1536, .f32⟩
  | .hbm, ⟨65, _⟩ => ⟨S1536x8192, .f32⟩
  | .hbm, ⟨66, _⟩ => ⟨S24x64x8192, .f32⟩
  | .hbm, ⟨67, _⟩ => ⟨S_, .f32⟩
  | .hbm, ⟨68, _⟩ => ⟨S24x16x8192, .f32⟩
  | .hbm, ⟨69, _⟩ => ⟨S24x80x8192, .f32⟩
  | .hbm, ⟨70, _⟩ => ⟨S1920x8192, .f32⟩
  | .hbm, ⟨71, _⟩ => ⟨S1920x8192, .bf16⟩
  | .hbm, ⟨72, _⟩ => ⟨S2x4096x1536, .f32⟩
  | .hbm, ⟨73, _⟩ => ⟨S2x4096x4608, .f32⟩
  | .hbm, ⟨74, _⟩ => ⟨S2x4096x1024, .f32⟩
  | .hbm, ⟨75, _⟩ => ⟨S2x4096x1536, .f32⟩
  | .hbm, ⟨76, _⟩ => ⟨S2x4096x256, .f32⟩
  | .hbm, ⟨77, _⟩ => ⟨S2x4096x256, .f32⟩
  | .hbm, ⟨78, _⟩ => ⟨S2x4096x9216, .f32⟩
  | .hbm, ⟨79, _⟩ => ⟨S2x4096x1536, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S640x4096, .bf16⟩
  | .local _ .vmem, ⟨7, _⟩ => ⟨S640x4096, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .bf16⟩
  | .local _ .vmem, ⟨11, _⟩ => ⟨S1x512x512, .bf16⟩
  | .local _ .vmem, ⟨12, _⟩ => ⟨S8x1x512, .f32⟩
  | .local _ .vmem, ⟨13, _⟩ => ⟨S8x80x512, .f32⟩
  | _, _ => ⟨S2x4096x14616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_cst : Ref sig .tc := ⟨.hbm, 19, rfl⟩
abbrev main_call0_call0_v0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 8], ![false, false, false]⟩

@[reducible] def k0_t1_loop (i : grid0.Coords) : Scf.Loop 32 :=
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_25 : BitVec 32 := 1#32
  ⟨c0_i32_24, v65, c1_i32_25⟩
def k0_mult1 (i : grid0.Coords) (k0_t1 : Fin (k0_t1_loop i).trips) : BitVec 32 :=
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  v748
def k0_off1 (i : grid0.Coords) (k0_t1 : Fin (k0_t1_loop i).trips) : Fin 3 → Nat :=
  let c0_415 : Index := 0#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v750 : Index := Scalar.indexCast v749
  let c0_416 : Index := 0#32
  ![0, v750.toNat, 0]
def k0_off2 (i : grid0.Coords) (k0_t1 : Fin (k0_t1_loop i).trips) : Fin 3 → Nat :=
  let c0_421 : Index := 0#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v758 : Index := Scalar.indexCast v749
  let c128_422 : Index := 128#32
  ![0, v758.toNat, 128]
def k0_off3 (i : grid0.Coords) (k0_t1 : Fin (k0_t1_loop i).trips) : Fin 3 → Nat :=
  let c0_427 : Index := 0#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v766 : Index := Scalar.indexCast v749
  let c256_428 : Index := 256#32
  ![0, v766.toNat, 256]
def k0_off4 (i : grid0.Coords) (k0_t1 : Fin (k0_t1_loop i).trips) : Fin 3 → Nat :=
  let c0_433 : Index := 0#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v774 : Index := Scalar.indexCast v749
  let c384_434 : Index := 384#32
  ![0, v774.toNat, 384]
def k0_off5 (i : grid0.Coords) (k0_t1 : Fin (k0_t1_loop i).trips) : Fin 2 → Nat :=
  let c0_446 : Index := 0#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v794 : Index := Scalar.indexCast v749
  ![0, v794.toNat]
def k0_off6 (i : grid0.Coords) (k0_t1 : Fin (k0_t1_loop i).trips) : Fin 2 → Nat :=
  let c80_461 : Index := 80#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v820 : Index := Scalar.indexCast v749
  ![80, v820.toNat]
def k0_off7 (i : grid0.Coords) (k0_t1 : Fin (k0_t1_loop i).trips) : Fin 2 → Nat :=
  let c160_476 : Index := 160#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v846 : Index := Scalar.indexCast v749
  ![160, v846.toNat]
def k0_off8 (i : grid0.Coords) (k0_t1 : Fin (k0_t1_loop i).trips) : Fin 2 → Nat :=
  let c240_491 : Index := 240#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v872 : Index := Scalar.indexCast v749
  ![240, v872.toNat]
def k0_off9 (i : grid0.Coords) (k0_t1 : Fin (k0_t1_loop i).trips) : Fin 2 → Nat :=
  let c320_506 : Index := 320#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v898 : Index := Scalar.indexCast v749
  ![320, v898.toNat]
def k0_off10 (i : grid0.Coords) (k0_t1 : Fin (k0_t1_loop i).trips) : Fin 2 → Nat :=
  let c400_521 : Index := 400#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v924 : Index := Scalar.indexCast v749
  ![400, v924.toNat]
def k0_off11 (i : grid0.Coords) (k0_t1 : Fin (k0_t1_loop i).trips) : Fin 2 → Nat :=
  let c480_536 : Index := 480#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v950 : Index := Scalar.indexCast v749
  ![480, v950.toNat]
def k0_off12 (i : grid0.Coords) (k0_t1 : Fin (k0_t1_loop i).trips) : Fin 2 → Nat :=
  let c560_551 : Index := 560#32
  let c0_i32_24 : BitVec 32 := 0#32
  let c1_i32_25 : BitVec 32 := 1#32
  let arg11 : BitVec 32 := Scf.iv c0_i32_24 c1_i32_25 k0_t1
  let c256_i32_414 : BitVec 32 := 256#32
  let v748 : BitVec 32 := Scalar.muli arg11 c256_i32_414
  let v749 : BitVec 32 := v748
  let v976 : Index := Scalar.indexCast v749
  ![560, v976.toNat]
@[reducible] def k0_t2_loop (i : grid0.Coords) : Scf.Loop 32 :=
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let v62 : BitVec 32 := Scalar.addi c0_i32_24 v61
  let c1_i32_26 : BitVec 32 := 1#32
  ⟨v65, v62, c1_i32_26⟩
def k0_mult2 (i : grid0.Coords) (k0_t2 : Fin (k0_t2_loop i).trips) : BitVec 32 :=
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  v748
def k0_off13 (i : grid0.Coords) (k0_t2 : Fin (k0_t2_loop i).trips) : Fin 3 → Nat :=
  let c0_415 : Index := 0#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v750 : Index := Scalar.indexCast v749
  let c0_416 : Index := 0#32
  ![0, v750.toNat, 0]
def k0_off14 (i : grid0.Coords) (k0_t2 : Fin (k0_t2_loop i).trips) : Fin 3 → Nat :=
  let c0_421 : Index := 0#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v758 : Index := Scalar.indexCast v749
  let c128_422 : Index := 128#32
  ![0, v758.toNat, 128]
def k0_off15 (i : grid0.Coords) (k0_t2 : Fin (k0_t2_loop i).trips) : Fin 3 → Nat :=
  let c0_427 : Index := 0#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v766 : Index := Scalar.indexCast v749
  let c256_428 : Index := 256#32
  ![0, v766.toNat, 256]
def k0_off16 (i : grid0.Coords) (k0_t2 : Fin (k0_t2_loop i).trips) : Fin 3 → Nat :=
  let c0_433 : Index := 0#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v774 : Index := Scalar.indexCast v749
  let c384_434 : Index := 384#32
  ![0, v774.toNat, 384]
def k0_off17 (i : grid0.Coords) (k0_t2 : Fin (k0_t2_loop i).trips) : Fin 2 → Nat :=
  let c0_446 : Index := 0#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v794 : Index := Scalar.indexCast v749
  ![0, v794.toNat]
def k0_off18 (i : grid0.Coords) (k0_t2 : Fin (k0_t2_loop i).trips) : Fin 2 → Nat :=
  let c80_461 : Index := 80#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v820 : Index := Scalar.indexCast v749
  ![80, v820.toNat]
def k0_off19 (i : grid0.Coords) (k0_t2 : Fin (k0_t2_loop i).trips) : Fin 2 → Nat :=
  let c160_476 : Index := 160#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v846 : Index := Scalar.indexCast v749
  ![160, v846.toNat]
def k0_off20 (i : grid0.Coords) (k0_t2 : Fin (k0_t2_loop i).trips) : Fin 2 → Nat :=
  let c240_491 : Index := 240#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v872 : Index := Scalar.indexCast v749
  ![240, v872.toNat]
def k0_off21 (i : grid0.Coords) (k0_t2 : Fin (k0_t2_loop i).trips) : Fin 2 → Nat :=
  let c320_506 : Index := 320#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v898 : Index := Scalar.indexCast v749
  ![320, v898.toNat]
def k0_off22 (i : grid0.Coords) (k0_t2 : Fin (k0_t2_loop i).trips) : Fin 2 → Nat :=
  let c400_521 : Index := 400#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v924 : Index := Scalar.indexCast v749
  ![400, v924.toNat]
def k0_off23 (i : grid0.Coords) (k0_t2 : Fin (k0_t2_loop i).trips) : Fin 2 → Nat :=
  let c480_536 : Index := 480#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v950 : Index := Scalar.indexCast v749
  ![480, v950.toNat]
def k0_off24 (i : grid0.Coords) (k0_t2 : Fin (k0_t2_loop i).trips) : Fin 2 → Nat :=
  let c560_551 : Index := 560#32
  let c0_i32_24 : BitVec 32 := 0#32
  let arg2 : BitVec 32 := BitVec.ofNat 32 (i 2).val
  let c2_i32 : BitVec 32 := 2#32
  let v60 : BitVec 32 := Scalar.muli arg2 c2_i32
  let v61 : BitVec 32 := Scalar.subi v60 c0_i32_24
  let c1_i32 : BitVec 32 := 1#32
  let v63 : BitVec 32 := Scalar.divsi v61 c1_i32
  let v64 : BitVec 32 := Scalar.muli v63 c1_i32
  let v65 : BitVec 32 := Scalar.addi c0_i32_24 v64
  let c1_i32_26 : BitVec 32 := 1#32
  let arg11 : BitVec 32 := Scf.iv v65 c1_i32_26 k0_t2
  let c256_i32_414 : BitVec 32 := 256#32
  let v748 : BitVec 32 := Scalar.muli arg11 c256_i32_414
  let v749 : BitVec 32 := v748
  let v976 : Index := Scalar.indexCast v749
  ![560, v976.toNat]
def k0_mult3 (i : grid0.Coords) : BitVec 32 :=
  let arg2 : BitVec 32 := BitVec.ofNat 32 (i 2).val
  let c2_i32_27 : BitVec 32 := 2#32
  let v66 : BitVec 32 := Scalar.muli arg2 c2_i32_27
  let c0_i32_28 : BitVec 32 := 0#32
  let v67 : BitVec 32 := Scalar.addi v66 c0_i32_28
  let c256_i32 : BitVec 32 := 256#32
  let v68 : BitVec 32 := Scalar.muli v67 c256_i32
  v68
def k0_off25 (i : grid0.Coords) (c0_i32_28 : BitVec 32) : Fin 3 → Nat :=
  let c0_29 : Index := 0#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v73 : Index := Scalar.indexCast v69
  let c0_30 : Index := 0#32
  ![0, v73.toNat, 0]
def k0_off26 (i : grid0.Coords) (c0_i32_28 : BitVec 32) : Fin 3 → Nat :=
  let c0_37 : Index := 0#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v85 : Index := Scalar.indexCast v69
  let c128_38 : Index := 128#32
  ![0, v85.toNat, 128]
def k0_off27 (i : grid0.Coords) (c0_i32_28 : BitVec 32) : Fin 3 → Nat :=
  let c0_45 : Index := 0#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v97 : Index := Scalar.indexCast v69
  let c256_46 : Index := 256#32
  ![0, v97.toNat, 256]
def k0_off28 (i : grid0.Coords) (c0_i32_28 : BitVec 32) : Fin 3 → Nat :=
  let c0_53 : Index := 0#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v109 : Index := Scalar.indexCast v69
  let c384_54 : Index := 384#32
  ![0, v109.toNat, 384]
def k0_off29 (i : grid0.Coords) (c0_i32_28 : BitVec 32) : Fin 2 → Nat :=
  let c0_68 : Index := 0#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v133 : Index := Scalar.indexCast v69
  ![0, v133.toNat]
def k0_off30 (i : grid0.Coords) (c0_i32_28 : BitVec 32) : Fin 2 → Nat :=
  let c80 : Index := 80#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v159 : Index := Scalar.indexCast v69
  ![80, v159.toNat]
def k0_off31 (i : grid0.Coords) (c0_i32_28 : BitVec 32) : Fin 2 → Nat :=
  let c160 : Index := 160#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v185 : Index := Scalar.indexCast v69
  ![160, v185.toNat]
def k0_off32 (i : grid0.Coords) (c0_i32_28 : BitVec 32) : Fin 2 → Nat :=
  let c240 : Index := 240#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v211 : Index := Scalar.indexCast v69
  ![240, v211.toNat]
def k0_off33 (i : grid0.Coords) (c0_i32_28 : BitVec 32) : Fin 2 → Nat :=
  let c320 : Index := 320#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v237 : Index := Scalar.indexCast v69
  ![320, v237.toNat]
def k0_off34 (i : grid0.Coords) (c0_i32_28 : BitVec 32) : Fin 2 → Nat :=
  let c400 : Index := 400#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v263 : Index := Scalar.indexCast v69
  ![400, v263.toNat]
def k0_off35 (i : grid0.Coords) (c0_i32_28 : BitVec 32) : Fin 2 → Nat :=
  let c480 : Index := 480#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v289 : Index := Scalar.indexCast v69
  ![480, v289.toNat]
def k0_off36 (i : grid0.Coords) (c0_i32_28 : BitVec 32) : Fin 2 → Nat :=
  let c560 : Index := 560#32
  let arg2 : BitVec 32 := BitVec.ofNat 32 (i 2).val
  let c2_i32_27 : BitVec 32 := 2#32
  let v66 : BitVec 32 := Scalar.muli arg2 c2_i32_27
  let v67 : BitVec 32 := Scalar.addi v66 c0_i32_28
  let c256_i32 : BitVec 32 := 256#32
  let v68 : BitVec 32 := Scalar.muli v67 c256_i32
  let v69 : BitVec 32 := v68
  let v315 : Index := Scalar.indexCast v69
  ![560, v315.toNat]
def k0_mult4 (i : grid0.Coords) : BitVec 32 :=
  let arg2 : BitVec 32 := BitVec.ofNat 32 (i 2).val
  let c2_i32_167 : BitVec 32 := 2#32
  let v329 : BitVec 32 := Scalar.muli arg2 c2_i32_167
  let c1_i32_168 : BitVec 32 := 1#32
  let v330 : BitVec 32 := Scalar.addi v329 c1_i32_168
  let c256_i32_169 : BitVec 32 := 256#32
  let v331 : BitVec 32 := Scalar.muli v330 c256_i32_169
  v331
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S2x4096x14616 : Shape := ⟨3, ![2, 4096, 14616]⟩
abbrev S24 : Shape := ⟨1, ![24]⟩
abbrev S2x4096x1536 : Shape := ⟨3, ![2, 4096, 1536]⟩
abbrev S2x4096x24x64 : Shape := ⟨4, ![2, 4096, 24, 64]⟩
abbrev S2x24x4096x64 : Shape := ⟨4, ![2, 24, 4096, 64]⟩
abbrev S2x4096x24 : Shape := ⟨3, ![2, 4096, 24]⟩
abbrev S1x1x24 : Shape := ⟨3, ![1, 1, 24]⟩
abbrev S_ : Shape := ⟨0, ![]⟩
abbrev S2x24x4096 : Shape := ⟨3, ![2, 24, 4096]⟩
abbrev S2x24x4096x4096 : Shape := ⟨4, ![2, 24, 4096, 4096]⟩
abbrev S2x24x4096x1 : Shape := ⟨4, ![2, 24, 4096, 1]⟩
abbrev S2x24x1x4096 : Shape := ⟨4, ![2, 24, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 85
  | .vmem => 0
  | .smem => 0
  | _ => 0

abbrev bufTy : (tb : Table) → Fin (tcTables nBuf tb) → BufTy
  | .hbm, ⟨0, _⟩ => ⟨S2x4096x14616, .f32⟩
  | .hbm, ⟨1, _⟩ => ⟨S24, .f32⟩
  | .hbm, ⟨2, _⟩ => ⟨S2x4096x1536, .f32⟩
  | .hbm, ⟨3, _⟩ => ⟨S2x4096x24x64, .f32⟩
  | .hbm, ⟨4, _⟩ => ⟨S2x24x4096x64, .f32⟩
  | .hbm, ⟨5, _⟩ => ⟨S2x4096x1536, .f32⟩
  | .hbm, ⟨6, _⟩ => ⟨S2x4096x24x64, .f32⟩
  | .hbm, ⟨7, _⟩ => ⟨S2x24x4096x64, .f32⟩
  | .hbm, ⟨8, _⟩ => ⟨S2x4096x1536, .f32⟩
  | .hbm, ⟨9, _⟩ => ⟨S2x4096x24x64, .f32⟩
  | .hbm, ⟨10, _⟩ => ⟨S2x24x4096x64, .f32⟩
  | .hbm, ⟨11, _⟩ => ⟨S2x4096x24, .f32⟩
  | .hbm, ⟨12, _⟩ => ⟨S1x1x24, .f32⟩
  | .hbm, ⟨13, _⟩ => ⟨S2x4096x24, .f32⟩
  | .hbm, ⟨14, _⟩ => ⟨S2x4096x24, .f32⟩
  | .hbm, ⟨15, _⟩ => ⟨S2x4096x24, .f32⟩
  | .hbm, ⟨16, _⟩ => ⟨S_, .f32⟩
  | .hbm, ⟨17, _⟩ => ⟨S2x4096x24, .f32⟩
  | .hbm, ⟨18, _⟩ => ⟨S2x4096x24, .f32⟩
  | .hbm, ⟨19, _⟩ => ⟨S2x4096x24, .f32⟩
  | .hbm, ⟨20, _⟩ => ⟨S2x4096x24, .f32⟩
  | .hbm, ⟨21, _⟩ => ⟨S2x4096x24, .i1⟩
  | .hbm, ⟨22, _⟩ => ⟨S2x4096x24, .f32⟩
  | .hbm, ⟨23, _⟩ => ⟨S2x4096x24, .f32⟩
  | .hbm, ⟨24, _⟩ => ⟨S2x4096x24, .f32⟩
  | .hbm, ⟨25, _⟩ => ⟨S2x4096x24, .f32⟩
  | .hbm, ⟨26, _⟩ => ⟨S2x4096x24, .f32⟩
  | .hbm, ⟨27, _⟩ => ⟨S2x4096x24, .f32⟩
  | .hbm, ⟨28, _⟩ => ⟨S2x4096x24, .f32⟩
  | .hbm, ⟨29, _⟩ => ⟨S2x4096x24, .f32⟩
  | .hbm, ⟨30, _⟩ => ⟨S2x4096x24, .f32⟩
  | .hbm, ⟨31, _⟩ => ⟨S_, .f32⟩
  | .hbm, ⟨32, _⟩ => ⟨S_, .f32⟩
  | .hbm, ⟨33, _⟩ => ⟨S2x4096x24, .f32⟩
  | .hbm, ⟨34, _⟩ => ⟨S2x24x4096, .f32⟩
  | .hbm, ⟨35, _⟩ => ⟨S2x24x4096x4096, .f32⟩
  | .hbm, ⟨36, _⟩ => ⟨S_, .f32⟩
  | .hbm, ⟨37, _⟩ => ⟨S2x24x4096x4096, .f32⟩
  | .hbm, ⟨38, _⟩ => ⟨S2x24x4096x4096, .f32⟩
  | .hbm, ⟨39, _⟩ => ⟨S2x24x4096x1, .f32⟩
  | .hbm, ⟨40, _⟩ => ⟨S2x24x4096x4096, .f32⟩
  | .hbm, ⟨41, _⟩ => ⟨S2x24x4096x4096, .f32⟩
  | .hbm, ⟨42, _⟩ => ⟨S2x24x1x4096, .f32⟩
  | .hbm, ⟨43, _⟩ => ⟨S2x24x4096x4096, .f32⟩
  | .hbm, ⟨44, _⟩ => ⟨S2x24x4096x4096, .f32⟩
  | .hbm, ⟨45, _⟩ => ⟨S4096, .i32⟩
  | .hbm, ⟨46, _⟩ => ⟨S1x4096, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .f32⟩
  | .hbm, ⟨52, _⟩ => ⟨S_, .f32⟩
  | .hbm, ⟨53, _⟩ => ⟨S2x24x4096x4096, .i1⟩
  | .hbm, ⟨54, _⟩ => ⟨S2x24x4096x4096, .f32⟩
  | .hbm, ⟨55, _⟩ => ⟨S2x24x4096x4096, .f32⟩
  | .hbm, ⟨56, _⟩ => ⟨S_, .f32⟩
  | .hbm, ⟨57, _⟩ => ⟨S2x24x4096, .f32⟩
  | .hbm, ⟨58, _⟩ => ⟨S_, .f32⟩
  | .hbm, ⟨59, _⟩ => ⟨S2x24x4096, .f32⟩
  | .hbm, ⟨60, _⟩ => ⟨S2x24x4096, .f32⟩
  | .hbm, ⟨61, _⟩ => ⟨S2x24x4096x1, .f32⟩
  | .hbm, ⟨62, _⟩ => ⟨S2x24x4096x4096, .f32⟩
  | .hbm, ⟨63, _⟩ => ⟨S2x24x4096x4096, .f32⟩
  | .hbm, ⟨64, _⟩ => ⟨S2x24x4096x4096, .f32⟩
  | .hbm, ⟨65, _⟩ => ⟨S_, .f32⟩
  | .hbm, ⟨66, _⟩ => ⟨S2x24x4096, .f32⟩
  | .hbm, ⟨67, _⟩ => ⟨S2x24x4096x1, .f32⟩
  | .hbm, ⟨68, _⟩ => ⟨S2x24x4096x4096, .f32⟩
  | .hbm, ⟨69, _⟩ => ⟨S2x24x4096x4096, .f32⟩
  | .hbm, ⟨70, _⟩ => ⟨S2x24x4096x64, .f32⟩
  | .hbm, ⟨71, _⟩ => ⟨S2x4096x24x64, .f32⟩
  | .hbm, ⟨72, _⟩ => ⟨S2x4096x1536, .f32⟩
  | .hbm, ⟨73, _⟩ => ⟨S2x4096x1536, .f32⟩
  | .hbm, ⟨74, _⟩ => ⟨S2x4096x1536, .f32⟩
  | .hbm, ⟨75, _⟩ => ⟨S2x4096x1536, .f32⟩
  | .hbm, ⟨76, _⟩ => ⟨S_, .f32⟩
  | .hbm, ⟨77, _⟩ => ⟨S2x4096x1536, .f32⟩
  | .hbm, ⟨78, _⟩ => ⟨S2x4096x1536, .f32⟩
  | .hbm, ⟨79, _⟩ => ⟨S_, .f32⟩
  | .hbm, ⟨80, _⟩ => ⟨S2x4096x1536, .f32⟩
  | .hbm, ⟨81, _⟩ => ⟨S2x4096x1536, .f32⟩
  | .hbm, ⟨82, _⟩ => ⟨S2x4096x1536, .f32⟩
  | .hbm, ⟨83, _⟩ => ⟨S2x4096x1536, .f32⟩
  | .hbm, ⟨84, _⟩ => ⟨S2x4096x1536, .bf16⟩
  | _, _ => ⟨S2x4096x14616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v13 : Ref sig .tc := ⟨.hbm, 30, rfl⟩
abbrev main_call1_call0_cst : Ref sig .tc := ⟨.hbm, 31, rfl⟩
abbrev main_call1_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v31 : Ref sig .tc := ⟨.hbm, 55, rfl⟩
abbrev main_cst_1 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]
-- ==== Kernel2.lean ====
abbrev S8192x4096 : Shape := ⟨2, ![8192, 4096]⟩
abbrev S4096x14616 : Shape := ⟨2, ![4096, 14616]⟩
abbrev S4096x1536 : Shape := ⟨2, ![4096, 1536]⟩
abbrev S4096x4608 : Shape := ⟨2, ![4096, 4608]⟩
abbrev S4096x1024 : Shape := ⟨2, ![4096, 1024]⟩
abbrev S4096x256 : Shape := ⟨2, ![4096, 256]⟩
abbrev S4096x9216 : Shape := ⟨2, ![4096, 9216]⟩
abbrev S8192x9216 : Shape := ⟨2, ![8192, 9216]⟩
abbrev S1024x4096 : Shape := ⟨2, ![1024, 4096]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S4096x1536, .f32⟩
  | .hbm, ⟨3, _⟩ => ⟨S4096x4608, .f32⟩
  | .hbm, ⟨4, _⟩ => ⟨S4096x1024, .f32⟩
  | .hbm, ⟨5, _⟩ => ⟨S4096x1536, .f32⟩
  | .hbm, ⟨6, _⟩ => ⟨S4096x256, .f32⟩
  | .hbm, ⟨7, _⟩ => ⟨S4096x256, .f32⟩
  | .hbm, ⟨8, _⟩ => ⟨S4096x9216, .f32⟩
  | .hbm, ⟨9, _⟩ => ⟨S4096x9216, .bf16⟩
  | .hbm, ⟨10, _⟩ => ⟨S8192x4096, .bf16⟩
  | .hbm, ⟨11, _⟩ => ⟨S8192x9216, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x14616 : Shape := ⟨2, ![4096, 14616]⟩
abbrev S8192x14616 : Shape := ⟨2, ![8192, 14616]⟩
abbrev S8192x1536 : Shape := ⟨2, ![8192, 1536]⟩
abbrev S8192x4608 : Shape := ⟨2, ![8192, 4608]⟩
abbrev S8192x1024 : Shape := ⟨2, ![8192, 1024]⟩
abbrev S8192x256 : Shape := ⟨2, ![8192, 256]⟩
abbrev S8192x9216 : Shape := ⟨2, ![8192, 9216]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S8192x14616, .f32⟩
  | .hbm, ⟨3, _⟩ => ⟨S8192x1536, .f32⟩
  | .hbm, ⟨4, _⟩ => ⟨S8192x4608, .f32⟩
  | .hbm, ⟨5, _⟩ => ⟨S8192x1024, .f32⟩
  | .hbm, ⟨6, _⟩ => ⟨S8192x1536, .f32⟩
  | .hbm, ⟨7, _⟩ => ⟨S8192x256, .f32⟩
  | .hbm, ⟨8, _⟩ => ⟨S8192x256, .f32⟩
  | .hbm, ⟨9, _⟩ => ⟨S8192x9216, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S4096x14616 : Shape := ⟨2, ![4096, 14616]⟩
abbrev S4096x3072 : Shape := ⟨2, ![4096, 3072]⟩
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S4096x3072, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S8192x4096, .bf16⟩
  | .hbm, ⟨7, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x14616 : Shape := ⟨2, ![4096, 14616]⟩
abbrev S8192x14616 : Shape := ⟨2, ![8192, 14616]⟩
abbrev S8192x3072 : Shape := ⟨2, ![8192, 3072]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S8192x14616, .f32⟩
  | .hbm, ⟨3, _⟩ => ⟨S8192x3072, .f32⟩
  | .hbm, ⟨4, _⟩ => ⟨S8192x1024, .f32⟩
  | .hbm, ⟨5, _⟩ => ⟨S8192x4096, .f32⟩
  | .hbm, ⟨6, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S4096x14616 : Shape := ⟨2, ![4096, 14616]⟩
abbrev S14616x4096 : Shape := ⟨2, ![14616, 4096]⟩
abbrev S1536x4096 : Shape := ⟨2, ![1536, 4096]⟩
abbrev S1920x8192 : Shape := ⟨2, ![1920, 8192]⟩
abbrev S1024x4096 : Shape := ⟨2, ![1024, 4096]⟩
abbrev S1920x1024 : Shape := ⟨2, ![1920, 1024]⟩
abbrev S1536x1024 : Shape := ⟨2, ![1536, 1024]⟩
abbrev S16x1024 : Shape := ⟨2, ![16, 1024]⟩
abbrev S64x1024 : Shape := ⟨2, ![64, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S14616x4096, .f32⟩
  | .hbm, ⟨3, _⟩ => ⟨S1536x4096, .f32⟩
  | .hbm, ⟨4, _⟩ => ⟨S1536x4096, .bf16⟩
  | .hbm, ⟨5, _⟩ => ⟨S8192x4096, .bf16⟩
  | .hbm, ⟨6, _⟩ => ⟨S1920x8192, .bf16⟩
  | .local _ .vmem, ⟨0, _⟩ => ⟨S1536x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1920x1024, .bf16⟩
  | .local _ .vmem, ⟨4, _⟩ => ⟨S1920x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x4096 : Shape := ⟨2, ![8192, 4096]⟩
abbrev S4096x14616 : Shape := ⟨2, ![4096, 14616]⟩
abbrev S8192x14616 : Shape := ⟨2, ![8192, 14616]⟩
abbrev S8192x1536 : Shape := ⟨2, ![8192, 1536]⟩
abbrev S8192x24x64 : Shape := ⟨3, ![8192, 24, 64]⟩
abbrev S_ : Shape := ⟨0, ![]⟩
abbrev S8192x24x16 : Shape := ⟨3, ![8192, 24, 16]⟩
abbrev S8192x24x80 : Shape := ⟨3, ![8192, 24, 80]⟩
abbrev S8192x1920 : Shape := ⟨2, ![8192, 1920]⟩
abbrev S1920x8192 : Shape := ⟨2, ![1920, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x14616, .f32⟩
  | .hbm, ⟨2, _⟩ => ⟨S8192x14616, .f32⟩
  | .hbm, ⟨3, _⟩ => ⟨S8192x1536, .f32⟩
  | .hbm, ⟨4, _⟩ => ⟨S8192x24x64, .f32⟩
  | .hbm, ⟨5, _⟩ => ⟨S_, .f32⟩
  | .hbm, ⟨6, _⟩ => ⟨S8192x24x16, .f32⟩
  | .hbm, ⟨7, _⟩ => ⟨S8192x24x80, .f32⟩
  | .hbm, ⟨8, _⟩ => ⟨S8192x1920, .f32⟩
  | .hbm, ⟨9, _⟩ => ⟨S1920x8192, .f32⟩
  | .hbm, ⟨10, _⟩ => ⟨S1920x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2x4096x14616 : Shape := ⟨3, ![2, 4096, 14616]⟩
abbrev S2x256x2048 : Shape := ⟨3, ![2, 256, 2048]⟩
abbrev S2x4096x3072 : Shape := ⟨3, ![2, 4096, 3072]⟩
abbrev S2x4096x1024 : Shape := ⟨3, ![2, 4096, 1024]⟩
abbrev S2x4096x4096 : Shape := ⟨3, ![2, 4096, 4096]⟩
abbrev S2x4096x1536 : Shape := ⟨3, ![2, 4096, 1536]⟩
abbrev S2x4096x4608 : Shape := ⟨3, ![2, 4096, 4608]⟩
abbrev S2x4096x256 : Shape := ⟨3, ![2, 4096, 256]⟩
abbrev S2x4096x9216 : Shape := ⟨3, ![2, 4096, 9216]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S512x1024 : Shape := ⟨2, ![512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x14616, .f32⟩
  | .hbm, ⟨1, _⟩ => ⟨S2x256x2048, .f32⟩
  | .hbm, ⟨2, _⟩ => ⟨S2x4096x3072, .f32⟩
  | .hbm, ⟨3, _⟩ => ⟨S2x4096x1024, .f32⟩
  | .hbm, ⟨4, _⟩ => ⟨S2x4096x4096, .f32⟩
  | .hbm, ⟨5, _⟩ => ⟨S2x4096x4096, .bf16⟩
  | .hbm, ⟨6, _⟩ => ⟨S2x256x2048, .bf16⟩
  | .hbm, ⟨7, _⟩ => ⟨S2x4096x1536, .f32⟩
  | .hbm, ⟨8, _⟩ => ⟨S2x4096x4608, .f32⟩
  | .hbm, ⟨9, _⟩ => ⟨S2x4096x1024, .f32⟩
  | .hbm, ⟨10, _⟩ => ⟨S2x4096x1536, .f32⟩
  | .hbm, ⟨11, _⟩ => ⟨S2x4096x256, .f32⟩
  | .hbm, ⟨12, _⟩ => ⟨S2x4096x256, .f32⟩
  | .hbm, ⟨13, _⟩ => ⟨S2x4096x9216, .f32⟩
  | .hbm, ⟨14, _⟩ => ⟨S2x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | _, _ => ⟨S2x4096x14616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x4096x14616 : Shape := ⟨3, ![2, 4096, 14616]⟩
abbrev S2x256x2048 : Shape := ⟨3, ![2, 256, 2048]⟩
abbrev S2x256x1024 : Shape := ⟨3, ![2, 256, 1024]⟩
abbrev S2x4096x1024 : Shape := ⟨3, ![2, 4096, 1024]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x14616, .f32⟩
  | .hbm, ⟨1, _⟩ => ⟨S2x256x2048, .f32⟩
  | .hbm, ⟨2, _⟩ => ⟨S2x256x1024, .f32⟩
  | .hbm, ⟨3, _⟩ => ⟨S2x256x1024, .f32⟩
  | .hbm, ⟨4, _⟩ => ⟨S2x4096x1024, .f32⟩
  | .hbm, ⟨5, _⟩ => ⟨S2x4096x4x256, .f32⟩
  | .hbm, ⟨6, _⟩ => ⟨S2x256x4x256, .f32⟩
  | .hbm, ⟨7, _⟩ => ⟨S2x256x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x4x256x4096, .f32⟩
  | .hbm, ⟨27, _⟩ => ⟨S2x4096x4x256, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .bf16⟩
  | _, _ => ⟨S2x4096x14616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S2x256x4096 : Shape := ⟨3, ![2, 256, 4096]⟩
abbrev S4096x2048 : Shape := ⟨2, ![4096, 2048]⟩
abbrev S512x4096 : Shape := ⟨2, ![512, 4096]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .f32⟩
  | .hbm, ⟨2, _⟩ => ⟨S512x4096, .f32⟩
  | .hbm, ⟨3, _⟩ => ⟨S512x4096, .bf16⟩
  | .hbm, ⟨4, _⟩ => ⟨S512x2048, .bf16⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | .local _ .vmem, ⟨5, _⟩ => ⟨S4096x512, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x256x4096 : Shape := ⟨3, ![2, 256, 4096]⟩
abbrev S4096x2048 : Shape := ⟨2, ![4096, 2048]⟩
abbrev S2x256x2048 : Shape := ⟨3, ![2, 256, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x2048, .f32⟩
  | .hbm, ⟨2, _⟩ => ⟨S2x256x2048, .f32⟩
  | .hbm, ⟨3, _⟩ => ⟨S512x2048, .f32⟩
  | .hbm, ⟨4, _⟩ => ⟨S512x2048, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S2x256x4096 : Shape := ⟨3, ![2, 256, 4096]⟩
abbrev S4096 : Shape := ⟨1, ![4096]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩

abbrev nBuf : Space → Nat
  | .hbm => 5
  | .vmem => 3
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S512x4096, .f32⟩
  | .hbm, ⟨3, _⟩ => ⟨S1x4096, .f32⟩
  | .hbm, ⟨4, _⟩ => ⟨S512x4096, .bf16⟩
  | .local _ .vmem, ⟨0, _⟩ => ⟨S512x4096, .f32⟩
  | .local _ .vmem, ⟨1, _⟩ => ⟨S1x4096, .f32⟩
  | .local _ .vmem, ⟨2, _⟩ => ⟨S512x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S2x256x4096 : Shape := ⟨3, ![2, 256, 4096]⟩
abbrev S4096 : Shape := ⟨1, ![4096]⟩
abbrev S_ : Shape := ⟨0, ![]⟩
abbrev S2x256 : Shape := ⟨2, ![2, 256]⟩
abbrev S2x256x1 : Shape := ⟨3, ![2, 256, 1]⟩
abbrev S1x1x4096 : Shape := ⟨3, ![1, 1, 4096]⟩
abbrev S512x4096 : Shape := ⟨2, ![512, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S2x256x4096, .f32⟩
  | .hbm, ⟨3, _⟩ => ⟨S_, .f32⟩
  | .hbm, ⟨4, _⟩ => ⟨S2x256, .f32⟩
  | .hbm, ⟨5, _⟩ => ⟨S2x256x1, .f32⟩
  | .hbm, ⟨6, _⟩ => ⟨S_, .f32⟩
  | .hbm, ⟨7, _⟩ => ⟨S2x256x1, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S2x256x1, .f32⟩
  | .hbm, ⟨13, _⟩ => ⟨S2x256x4096, .f32⟩
  | .hbm, ⟨14, _⟩ => ⟨S2x256x4096, .f32⟩
  | .hbm, ⟨15, _⟩ => ⟨S1x1x4096, .f32⟩
  | .hbm, ⟨16, _⟩ => ⟨S2x256x4096, .f32⟩
  | .hbm, ⟨17, _⟩ => ⟨S2x256x4096, .f32⟩
  | .hbm, ⟨18, _⟩ => ⟨S512x4096, .f32⟩
  | .hbm, ⟨19, _⟩ => ⟨S512x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.FoxArr.lean ====
/- What the forgetting attention's region finds in its input arrays, as terms over the argument arrays, and their entries. -/
module

public import proofs.«01_k».proof.Defs
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

abbrev TP := FVec Ideal S2x4096x14616 .f32
abbrev TB := FVec Ideal S24 .f32

/-- The negated forget logits. -/
def NF (p : TP) (b : TB) : FVec Ideal S2x4096x24 .f32 :=
  Host.negf (addf (extractStridedSlice S2x4096x24 ![0, 0, 11008] p slices_S2x4096x14616_S2x4096x24_0_0_11008)
    (broadcastInDim S2x4096x24 ![0, 1, 2] bcast_S1x1x24_S2x4096x24_0_1_2 (broadcastInDim S1x1x24 ![2] bcast_S24_S1x1x24_2 b)))

/-- The log forget gates, of the negated logits. -/
def LF (z : FVec Ideal S2x4096x24 .f32) : FVec Ideal S2x4096x24 .f32 :=
  Host.negf (addf (maximumf z (broadcastInDim S2x4096x24 ![] bcast_S_S2x4096x24 (constant S_ .f32 0x00000000#32)))
    (Host.log (addf (broadcastInDim S2x4096x24 ![] bcast_S_S2x4096x24 (constant S_ .f32 0x3F800000#32)) (Host.exp (Host.negf (Host.absf z))))))

/-- Their running sums along the sequence. -/
def CUM (x : FVec Ideal S2x4096x24 .f32) : FVec Ideal S2x4096x24 .f32 :=
  Host.reduceWindowAdd ![1, 4096, 1] ![1, 1, 1] ![0, 4095, 0] ![0, 0, 0] x (broadcastInDim S_ ![] bcast_S_S_ (constant S_ .f32 0x00000000#32))
    reduceWindows_S2x4096x24_S2x4096x24_w1s1p0_0_w4096s1p4095_0_w1s1p0_0 h_S_

/-- The running sums in units of the logarithm of two. -/
def CC (x : FVec Ideal S2x4096x24 .f32) : FVec Ideal S2x4096x24 .f32 :=
  Host.divf x (broadcastInDim S2x4096x24 ![] bcast_S_S2x4096x24 (Host.log (constant S_ .f32 0x40000000#32)))

/-- The three parts of the running sums, and zeros, per head. -/
def BIAS (x : FVec Ideal S2x4096x24 .f32) : FVec Ideal S2x4096x12x2x64 .f32 :=
  concatenate S2x4096x12x2x64 4
    [⟨S2x4096x12x2x3, shapeCast S2x4096x12x2x3 (concatenate S2x4096x24x3 3
        [⟨S2x4096x24x1, broadcastInDim S2x4096x24x1 ![0, 1, 2] bcast_S2x4096x24_S2x4096x24x1_0_1_2 (extf .f32 (truncf .bf16 x bitsLt_bf16_f32) bitsLt_bf16_f32)⟩,
         ⟨S2x4096x24x1, broadcastInDim S2x4096x24x1 ![0, 1, 2] bcast_S2x4096x24_S2x4096x24x1_0_1_2 (extf .f32 (truncf .bf16 (subf x (extf .f32 (truncf .bf16 x bitsLt_bf16_f32) bitsLt_bf16_f32)) bitsLt_bf16_f32) bitsLt_bf16_f32)⟩,
         ⟨S2x4096x24x1, broadcastInDim S2x4096x24x1 ![0, 1, 2] bcast_S2x4096x24_S2x4096x24x1_0_1_2 (extf .f32 (truncf .bf16 (subf (subf x (extf .f32 (truncf .bf16 x bitsLt_bf16_f32) bitsLt_bf16_f32)) (extf .f32 (truncf .bf16 (subf x (extf .f32 (truncf .bf16 x bitsLt_bf16_f32) bitsLt_bf16_f32)) bitsLt_bf16_f32) bitsLt_bf16_f32)) bitsLt_bf16_f32) bitsLt_bf16_f32)⟩]
        concatenates_S2x4096x24x1_S2x4096x24x1_S2x4096x24x1_S2x4096x24x3_d3 : FVec Ideal S2x4096x24x3 .f32) shapeCasts_S2x4096x24x3_S2x4096x12x2x3⟩,
     ⟨S2x4096x12x2x61, broadcastInDim S2x4096x12x2x61 ![] bcast_S_S2x4096x12x2x61 (constant S_ .f32 0x00000000#32 : FVec Ideal S_ .f32)⟩]
    concatenates_S2x4096x12x2x3_S2x4096x12x2x61_S2x4096x12x2x64_d4

/-- The keys, per head. -/
def KK (p : TP) : FVec Ideal S2x4096x12x2x64 .f32 :=
  shapeCast S2x4096x12x2x64 (extractStridedSlice S2x4096x1536 ![0, 0, 7936] p slices_S2x4096x14616_S2x4096x1536_0_0_7936) shapeCasts_S2x4096x1536_S2x4096x12x2x64

/-- The heads of even, and of odd, number. -/
def EV (x : FVec Ideal S2x4096x12x2x64 .f32) : FVec Ideal S2x4096x12x64 .f32 :=
  shapeCast S2x4096x12x64 (extractStridedSlice S2x4096x12x1x64 ![0, 0, 0, 0, 0] x slices_S2x4096x12x2x64_S2x4096x12x1x64_0_0_0_0_0) shapeCasts_S2x4096x12x1x64_S2x4096x12x64
def OD (x : FVec Ideal S2x4096x12x2x64 .f32) : FVec Ideal S2x4096x12x64 .f32 :=
  shapeCast S2x4096x12x64 (extractStridedSlice S2x4096x12x1x64 ![0, 0, 0, 1, 0] x slices_S2x4096x12x2x64_S2x4096x12x1x64_0_0_0_1_0) shapeCasts_S2x4096x12x1x64_S2x4096x12x64

/-- Two arrays beside each other in each pair of heads. -/
def PR (x y : FVec Ideal S2x4096x12x64 .f32) : FVec Ideal S2x4096x1536 .bf16 :=
  truncf .bf16 (shapeCast S2x4096x1536 (concatenate S2x4096x12x128 3 [⟨S2x4096x12x64, x⟩, ⟨S2x4096x12x64, y⟩] concatenates_S2x4096x12x64_S2x4096x12x64_S2x4096x12x128_d3 : FVec Ideal S2x4096x12x128 .f32) shapeCasts_S2x4096x12x128_S2x4096x1536 : FVec Ideal S2x4096x1536 .f32) bitsLt_bf16_f32

/-- The queries' array, the values' and the gates'. -/
def AQ (p : TP) : FVec Ideal S2x4096x4096 .bf16 :=
  truncf .bf16 (concatenate S2x4096x4096 2
    [⟨S2x4096x3072, extractStridedSlice S2x4096x3072 ![0, 0, 6400] p slices_S2x4096x14616_S2x4096x3072_0_0_6400⟩,
     ⟨S2x4096x1024, extractStridedSlice S2x4096x1024 ![0, 0, 12568] p slices_S2x4096x14616_S2x4096x1024_0_0_12568⟩]
    concatenates_S2x4096x3072_S2x4096x1024_S2x4096x4096_d2 : FVec Ideal S2x4096x4096 .f32) bitsLt_bf16_f32
def AV (p : TP) : FVec Ideal S1920x8192 .bf16 :=
  truncf .bf16 (shapeCast S1920x8192 (concatenate S24x80x8192 1
    [⟨S24x64x8192, shapeCast S24x64x8192 (transpose S1536x8192 [1, 0] (shapeCast S8192x1536 (extractStridedSlice S2x4096x1536 ![0, 0, 9472] p slices_S2x4096x14616_S2x4096x1536_0_0_9472) shapeCasts_S2x4096x1536_S8192x1536) transposes_S8192x1536_S1536x8192_1_0) shapeCasts_S1536x8192_S24x64x8192⟩,
     ⟨S24x16x8192, broadcastInDim S24x16x8192 ![] bcast_S_S24x16x8192 (constant S_ .f32 0x3F800000#32 : FVec Ideal S_ .f32)⟩]
    concatenates_S24x64x8192_S24x16x8192_S24x80x8192_d1 : FVec Ideal S24x80x8192 .f32) shapeCasts_S24x80x8192_S1920x8192 : FVec Ideal S1920x8192 .f32) bitsLt_bf16_f32
def AG (p : TP) : FVec Ideal S2x4096x9216 .f32 :=
  concatenate S2x4096x9216 2
    [⟨S2x4096x1536, extractStridedSlice S2x4096x1536 ![0, 0, 4864] p slices_S2x4096x14616_S2x4096x1536_0_0_4864⟩,
     ⟨S2x4096x4608, extractStridedSlice S2x4096x4608 ![0, 0, 0] p slices_S2x4096x14616_S2x4096x4608_0_0_0⟩,
     ⟨S2x4096x1024, extractStridedSlice S2x4096x1024 ![0, 0, 13592] p slices_S2x4096x14616_S2x4096x1024_0_0_13592⟩,
     ⟨S2x4096x1536, extractStridedSlice S2x4096x1536 ![0, 0, 11032] p slices_S2x4096x14616_S2x4096x1536_0_0_11032⟩,
     ⟨S2x4096x256, extractStridedSlice S2x4096x256 ![0, 0, 4608] p slices_S2x4096x14616_S2x4096x256_0_0_4608⟩,
     ⟨S2x4096x256, extractStridedSlice S2x4096x256 ![0, 0, 11008] p slices_S2x4096x14616_S2x4096x256_0_0_11008⟩]
    concatenates_S2x4096x1536_S2x4096x4608_S2x4096x1024_S2x4096x1536_S2x4096x256_S2x4096x256_S2x4096x9216_d2

end Cert.KernelIdeal.Fox
-- ==== Proof.FoxEnt.lean ====
/- Entries of the arrays the region finds. -/
module

public import proofs.«01_k».proof.Proof.FoxArr
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

theorem AQ_apply (p : TP) (b : Fin 2) (t : Fin 4096) (j : Fin 1536) :
    AQ p (ix3 b t (⟨j.val, by omega⟩ : Fin 4096)) = p (ix3 b t (⟨6400 + j.val, by omega⟩ : Fin 14616)) := by
  have h : j.val < 3072 := by omega
  pointwise [AQ]
  simp only [h, ↓reduceDIte]

/-- Equal columns of the projection. -/
theorem at_col (p : TP) (b : Fin 2) (t : Fin 4096) (x y : ℕ) (hx : x < 14616) (hy : y < 14616) (h : x = y) :
    p (ix3 b t (⟨x, hx⟩ : Fin 14616)) = p (ix3 b t (⟨y, hy⟩ : Fin 14616)) := by
  subst h; rfl

theorem AG_apply (p : TP) (b : Fin 2) (t : Fin 4096) (j : Fin 1536) :
    AG p (ix3 b t (⟨7168 + j.val, by omega⟩ : Fin 9216)) = p (ix3 b t (⟨11032 + j.val, by omega⟩ : Fin 14616)) := by
  pointwise [AG]
  rw [dif_neg (by omega), dif_neg (by omega), dif_neg (by omega), dif_pos (by omega)]
  exact at_col p b t _ _ _ _ (by omega)

theorem AV_apply (p : TP) (h : Fin 24) (d : Fin 64) (b : Fin 2) (s : Fin 4096) :
    AV p (ix2 (⟨80 * h.val + d.val, by omega⟩ : Fin 1920) (⟨4096 * b.val + s.val, by omega⟩ : Fin 8192)) = p (ix3 b s (⟨9472 + 64 * h.val + d.val, by omega⟩ : Fin 14616)) := by
  pointwise [AV]
  rw [dif_pos (by omega)]
  exact at_col p b s _ _ _ _ (by omega)

theorem AV_one (p : TP) (h : Fin 24) (j : Fin 8192) :
    AV p (ix2 (⟨80 * h.val + 64, by omega⟩ : Fin 1920) j) = 1 := by
  pointwise [AV]
  rw [dif_neg (by omega)]

theorem KK_apply (p : TP) (b : Fin 2) (s : Fin 4096) (q : Fin 12) (h : Fin 2) (d : Fin 64) :
    KK p (ix5 b s q h d) = p (ix3 b s (⟨7936 + 128 * q.val + 64 * h.val + d.val, by omega⟩ : Fin 14616)) := by
  pointwise [KK]
  exact at_col p b s _ _ _ _ (by omega)

/-- The parts of a real running sum: itself, then nothing. -/
theorem BIAS_apply (x : FVec Ideal S2x4096x24 .f32) (b : Fin 2) (s : Fin 4096) (q : Fin 12) (h : Fin 2) (d : Fin 64)
    (r : ℝ) (hr : x (ix3 b s (⟨2 * q.val + h.val, by omega⟩ : Fin 24)) = (r : EReal)) :
    BIAS x (ix5 b s q h d) = if d.val = 0 then (r : EReal) else 0 := by
  have z : (r : EReal) - (r : EReal) = 0 := by rw [← EReal.coe_sub, sub_self]; rfl
  have hr' : x (ix3 b s (⟨q.val * 2 + h.val, by omega⟩ : Fin 24)) = (r : EReal) := by
    rw [← hr]; exact congrArg (fun e => x (ix3 b s e)) (Fin.ext (by simp only []; omega))
  pointwise [BIAS]
  simp only [hr', z, sub_zero]
  by_cases h0 : d.val = 0
  · rw [dif_pos (by omega), dif_pos (by omega), if_pos h0]
  · rw [if_neg h0]
    split
    · rw [dif_neg (by omega)]
      split <;> rfl
    · rfl

theorem EV_apply (x : FVec Ideal S2x4096x12x2x64 .f32) (b : Fin 2) (s : Fin 4096) (q : Fin 12) (d : Fin 64) :
    EV x (ix4 b s q d) = x (ix5 b s q (0 : Fin 2) d) := by
  pointwise [EV]

theorem OD_apply (x : FVec Ideal S2x4096x12x2x64 .f32) (b : Fin 2) (s : Fin 4096) (q : Fin 12) (d : Fin 64) :
    OD x (ix4 b s q d) = x (ix5 b s q (1 : Fin 2) d) := by
  pointwise [OD]

/-- Two arrays beside each other in each pair of heads, before the heads are put in one axis. -/
def PC (x y : FVec Ideal S2x4096x12x64 .f32) : FVec Ideal S2x4096x12x128 .f32 :=
  concatenate S2x4096x12x128 3 [⟨S2x4096x12x64, x⟩, ⟨S2x4096x12x64, y⟩] concatenates_S2x4096x12x64_S2x4096x12x64_S2x4096x12x128_d3

theorem PC_apply (x y : FVec Ideal S2x4096x12x64 .f32) (b : Fin 2) (s : Fin 4096) (q : Fin 12) (l : Fin 128) :
    PC x y (ix4 b s q l) = if h : l.val < 64 then x (ix4 b s q (⟨l.val, h⟩ : Fin 64)) else y (ix4 b s q (⟨l.val - 64, by omega⟩ : Fin 64)) := by
  pointwise [PC]

theorem PR_eq (x y : FVec Ideal S2x4096x12x64 .f32) :
    PR x y = truncf .bf16 (shapeCast S2x4096x1536 (PC x y) shapeCasts_S2x4096x12x128_S2x4096x1536 : FVec Ideal S2x4096x1536 .f32) bitsLt_bf16_f32 := rfl

theorem tr_at (z : FVec Ideal S2x4096x1536 .f32) (i : S2x4096x1536.Idx) : (truncf .bf16 z bitsLt_bf16_f32 : FVec Ideal S2x4096x1536 .bf16) i = z i := rfl

theorem PR_at (x y : FVec Ideal S2x4096x12x64 .f32) (b : Fin 2) (s : Fin 4096) (q : Fin 12) (l : Fin 128) (j : Fin 1536) (hj : j.val = 128 * q.val + l.val) :
    PR x y (ix3 b s j) = PC x y (ix4 b s q l) := by
  rw [PR_eq, tr_at]
  refine shapeCast_apply _ _ _ _ ?_
  rw [Shape.rowMajor_val_four, Shape.rowMajor_val_three]
  show ((b.val * 4096 + s.val) * 12 + q.val) * 128 + l.val = (b.val * 4096 + s.val) * 1536 + j.val
  omega

theorem PR_left (x y : FVec Ideal S2x4096x12x64 .f32) (b : Fin 2) (s : Fin 4096) (q : Fin 12) (d : Fin 64) (j : Fin 1536) (hj : j.val = 128 * q.val + d.val) :
    PR x y (ix3 b s j) = x (ix4 b s q d) := by
  rw [PR_at x y b s q ⟨d.val, by omega⟩ j hj, PC_apply, dif_pos d.isLt]

theorem PR_right (x y : FVec Ideal S2x4096x12x64 .f32) (b : Fin 2) (s : Fin 4096) (q : Fin 12) (d : Fin 64) (j : Fin 1536) (hj : j.val = 128 * q.val + 64 + d.val) :
    PR x y (ix3 b s j) = y (ix4 b s q d) := by
  rw [PR_at x y b s q ⟨64 + d.val, by omega⟩ j (by simp only []; omega), PC_apply, dif_neg (by simp only []; omega)]
  exact congrArg (fun e => y (ix4 b s q e)) (Fin.ext (by simp only []; omega))

end Cert.KernelIdeal.Fox
-- ==== Proof.FoxV.lean ====
/- What the region finds in each input array. -/
module

public import proofs.«01_k».proof.Proof.FoxArr
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

theorem U43 (M : Valuation τ sig (Elt Ideal)) : (StableHlo.after hostOps0_2 M (Proc.tc.devRef main_v43) : FVec Ideal S2x4096x1536 .bf16) = PR (EV (KK (M (Proc.tc.devRef main_arg0)))) (EV (BIAS (CC (M (Proc.tc.devRef main_v15))))) := by
  simp only [hostOps0_2]
  after_results
  rfl

theorem U50 (M : Valuation τ sig (Elt Ideal)) : (StableHlo.after hostOps0_2 M (Proc.tc.devRef main_v50) : FVec Ideal S2x4096x1536 .bf16) = PR (OD (BIAS (CC (M (Proc.tc.devRef main_v15))))) (OD (KK (M (Proc.tc.devRef main_arg0)))) := by
  simp only [hostOps0_2]
  after_results
  rfl

variable (m : (ℓ : Loc nD τ sig) → Buf (Elt Ideal) ℓ)

/-- The arguments. -/
abbrev aP (c : Dev nD) : TP := m ((c : Thread nD τ).loc main_arg0)
abbrev aB (c : Dev nD) : TB := m ((c : Thread nD τ).loc main_arg1)

theorem Vq (c : Dev nD) : (V m c main_v54 : FVec Ideal S2x4096x4096 .bf16) = AQ (aP m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- What the launch leaves before the last stretch of host operations: the running sums. -/
abbrev M0 (c : Dev nD) : Valuation τ sig (Elt Ideal) := StableHlo.after hostOps0_1 (StableHlo.after hostOps0 (fun b => m (c, b)))

theorem M0_arg0 (c : Dev nD) : (M0 m c (Proc.tc.devRef main_arg0) : TP) = aP m c := by
  simp only [M0, hostOps0, hostOps0_1,
    StableHlo.TRef.binary, StableHlo.TRef.nullary, StableHlo.TRef.ternary, StableHlo.TRef.unary, StableHlo.TRef.toBuf, StableHlo.TRef.ofBuf, cast_eq]
  after_results_simp <;> rfl

theorem M0_v15 (c : Dev nD) : (M0 m c (Proc.tc.devRef main_v15) : FVec Ideal S2x4096x24 .f32) = CUM (LF (NF (aP m c) (aB m c))) := by
  unfold CUM LF NF
  simp only [M0, hostOps0, hostOps0_1,
    StableHlo.TRef.binary, StableHlo.TRef.nullary, StableHlo.TRef.ternary, StableHlo.TRef.unary, StableHlo.TRef.toBuf, StableHlo.TRef.ofBuf, cast_eq]
  after_results_simp <;> rfl

theorem V_M0 (c : Dev nD) (r : Ref sig .tc) : V m c r = StableHlo.after hostOps0_2 (M0 m c) (Proc.tc.devRef r) := by
  simp only [V, List.flatten_cons, List.flatten_nil, List.append_nil, StableHlo.after_append]

theorem Vk0 (c : Dev nD) : (V m c main_v43 : FVec Ideal S2x4096x1536 .bf16) = PR (EV (KK (aP m c))) (EV (BIAS (CC (CUM (LF (NF (aP m c) (aB m c))))))) := by
  have e := U43 (M0 m c)
  rw [M0_arg0, M0_v15] at e
  exact (V_M0 m c main_v43).trans e

theorem Vk1 (c : Dev nD) : (V m c main_v50 : FVec Ideal S2x4096x1536 .bf16) = PR (OD (BIAS (CC (CUM (LF (NF (aP m c) (aB m c))))))) (OD (KK (aP m c))) := by
  have e := U50 (M0 m c)
  rw [M0_arg0, M0_v15] at e
  exact (V_M0 m c main_v50).trans e

theorem Vv (c : Dev nD) : (V m c main_v62 : FVec Ideal S1920x8192 .bf16) = AV (aP m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem Vg (c : Dev nD) : (V m c main_v69 : FVec Ideal S2x4096x9216 .f32) = AG (aP m c) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.KernelIdeal.Fox
-- ==== Proof.FoxMath.lean ====
/- The mathematics of an attention row computed tile by tile: a running maximum and a running weighted sum over the keys
   seen so far, and what one more tile does to them. -/
module

public import Idealize.ShloMosaic.Lib.Pointwise

@[expose] public section

noncomputable section

open Idealize.ShloMosaic

namespace Cert.Fox

/-- The two raised to a difference, of reals. -/
theorem exp2_sub (a b : ℝ) : Ideal.exp2 ((a : EReal) - (b : EReal)) = (((2 : ℝ) ^ (a - b) : ℝ) : EReal) := by
  rw [← EReal.coe_sub]; rfl

/-- A nonnegative real goes through a sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The greatest score of the first `n` keys is a real once there is one. -/
theorem sup_real (S : ℕ → EReal) (hS : ∀ s, ∃ r : ℝ, S s = r) (n : ℕ) (hn : 0 < n) :
    ∃ r : ℝ, (Finset.range n).sup S = r := by
  obtain ⟨s, _, hs⟩ := Finset.exists_mem_eq_sup (Finset.range n) (Finset.nonempty_range_iff.mpr hn.ne') S
  obtain ⟨r, hr⟩ := hS s
  exact ⟨r, hs.trans hr⟩

/-- The state of a row over the first `n` keys: the greatest score, and per value row the sum of the values at the
    weights relative to it. -/
def Good (S : ℕ → EReal) (V : Fin 80 → ℕ → EReal) (n : ℕ) (m : EReal) (acc : Fin 80 → EReal) : Prop :=
  m = (Finset.range n).sup S ∧ ∀ d, acc d = ∑ s ∈ Finset.range n, V d s * Ideal.exp2 (S s - m)

theorem good_zero (S : ℕ → EReal) (V : Fin 80 → ℕ → EReal) : Good S V 0 ⊥ (fun _ => 0) := by
  refine ⟨by simp, fun d => by simp⟩

/-- One more tile of 256 keys, of which those before `n'` are seen. -/
theorem good_step (S : ℕ → EReal) (V : Fin 80 → ℕ → EReal) (hS : ∀ s, ∃ r : ℝ, S s = r) (n n' : ℕ) (h1 : n < n') (h2 : n' ≤ n + 256)
    (m m' : EReal) (acc acc' : Fin 80 → EReal) (h : Good S V n m acc)
    (sc : Fin 256 → EReal) (hsc : ∀ k : Fin 256, sc k = if n + (k : ℕ) < n' then S (n + k) else ⊥)
    (v : Fin 80 → Fin 256 → EReal) (hv : ∀ d k, v d k = V d (n + (k : ℕ)))
    (hm : m' = max m (Finset.fold max ⊥ sc Finset.univ))
    (ha : ∀ d, acc' d = Ideal.exp2 (m - m') * acc d + ∑ k, v d k * Ideal.exp2 (sc k - m')) :
    Good S V n' m' acc' := by
  obtain ⟨hm0, ha0⟩ := h
  have hsup : m' = (Finset.range n').sup S := by
    rw [hm, hm0]
    apply le_antisymm
    · refine max_le (Finset.sup_mono (Finset.range_mono h1.le)) ?_
      rw [Finset.fold_max_le]
      refine ⟨bot_le, fun k _ => ?_⟩
      rw [hsc]
      split
      · next hk => exact Finset.le_sup (f := S) (Finset.mem_range.mpr hk)
      · exact bot_le
    · refine Finset.sup_le fun s hs => ?_
      rw [Finset.mem_range] at hs
      by_cases hsn : s < n
      · exact le_max_of_le_left (Finset.le_sup (f := S) (Finset.mem_range.mpr hsn))
      · refine le_max_of_le_right ?_
        rw [Finset.le_fold_max]
        refine Or.inr ⟨⟨s - n, by omega⟩, Finset.mem_univ _, ?_⟩
        rw [hsc]
        have e : n + (s - n) = s := by omega
        simp only [e, hs, if_true, le_refl]
  refine ⟨hsup, fun d => ?_⟩
  obtain ⟨μ', hμ'⟩ := sup_real S hS n' (by omega)
  rw [ha d]
  rw [hμ'] at hsup
  -- the tile's part
  have htile : ∑ k : Fin 256, v d k * Ideal.exp2 (sc k - m') = ∑ k ∈ Finset.range (n' - n), V d (n + k) * Ideal.exp2 (S (n + k) - m') := by
    have e1 : ∀ k : Fin 256, v d k * Ideal.exp2 (sc k - m')
        = (fun k : ℕ => if n + k < n' then V d (n + k) * Ideal.exp2 (S (n + k) - m') else 0) k := by
      intro k
      simp only []
      rw [hsc, hv d k]
      split
      · rfl
      · rw [hsup, EReal.bot_sub, Ideal.exp2_bot, mul_zero]
    rw [Finset.sum_congr rfl fun k _ => e1 k, Fin.sum_univ_eq_sum_range (fun k : ℕ => if n + k < n' then V d (n + k) * Ideal.exp2 (S (n + k) - m') else 0) 256]
    symm
    rw [← Finset.sum_subset (s₁ := Finset.range (n' - n)) (s₂ := Finset.range 256)]
    · refine Finset.sum_congr rfl fun k hk => ?_
      rw [Finset.mem_range] at hk
      rw [if_pos (by omega)]
    · exact Finset.range_mono (by omega)
    · intro k _ hk
      rw [Finset.mem_range] at hk
      rw [if_neg (by omega)]
  rw [htile]
  have hsplit : ∑ s ∈ Finset.range n', V d s * Ideal.exp2 (S s - m')
      = ∑ s ∈ Finset.range n, V d s * Ideal.exp2 (S s - m') + ∑ k ∈ Finset.range (n' - n), V d (n + k) * Ideal.exp2 (S (n + k) - m') := by
    have e : n' = n + (n' - n) := by omega
    conv_lhs => rw [e]
    rw [Finset.sum_range_add]
  rw [hsplit]
  congr 1
  rw [ha0 d]
  rcases Nat.eq_zero_or_pos n with h0 | h0
  · subst h0; simp
  · obtain ⟨μ, hμ⟩ := sup_real S hS n h0
    rw [hm0, hμ, hsup, exp2_sub, coe_mul_sum _ (Real.rpow_nonneg (by norm_num) _)]
    refine Finset.sum_congr rfl fun s _ => ?_
    obtain ⟨r, hr⟩ := hS s
    rw [hr, exp2_sub, exp2_sub, mul_left_comm, ← EReal.coe_mul]
    congr 2
    rw [← Real.rpow_add (by norm_num)]
    congr 1
    ring

end Cert.Fox

end
-- ==== Proof.FoxRow.lean ====
/- The mathematics of a row of the forgetting attention: the scores off the padded keys and queries, and the weighted mean of
   the values, whichever exponential and whichever greatest score it is taken with. -/
module

public import proofs.«01_k».proof.Proof.FoxMath

@[expose] public section

noncomputable section

open Idealize.ShloMosaic

namespace Cert.Fox

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A score of a head of even number: the product of the keys and the scaled queries, less the running sum beside the key. -/
theorem score_even (x q : Fin 64 → ℝ) (c κ : ℝ) (K Q : Fin 128 → EReal)
    (hK1 : ∀ d : Fin 64, K ⟨d.val, by omega⟩ = (x d : EReal)) (hK2 : ∀ d : Fin 64, K ⟨64 + d.val, by omega⟩ = if d.val = 0 then (c : EReal) else 0)
    (hQ1 : ∀ d : Fin 64, Q ⟨d.val, by omega⟩ = (q d : EReal) * (κ : EReal)) (hQ2 : ∀ d : Fin 64, Q ⟨64 + d.val, by omega⟩ = if d.val < 3 then -1 else 0) :
    ∑ l, K l * Q l = ((κ * ∑ d, x d * q d - c : ℝ) : EReal) := by
  have e : ∑ l, K l * Q l = ∑ d : Fin 64, K ⟨d.val, by omega⟩ * Q ⟨d.val, by omega⟩ + ∑ d : Fin 64, K ⟨64 + d.val, by omega⟩ * Q ⟨64 + d.val, by omega⟩ :=
    Fin.sum_univ_add (a := 64) (b := 64) fun l : Fin (64 + 64) => K l * Q l
  have e1 : ∑ d : Fin 64, K ⟨d.val, by omega⟩ * Q ⟨d.val, by omega⟩ = ((κ * ∑ d, x d * q d : ℝ) : EReal) := by
    rw [Finset.mul_sum, ← coe_sum]
    refine Finset.sum_congr rfl fun d _ => ?_
    rw [hK1, hQ1, ← EReal.coe_mul, ← EReal.coe_mul]
    congr 1; ring
  have e2 : ∑ d : Fin 64, K ⟨64 + d.val, by omega⟩ * Q ⟨64 + d.val, by omega⟩ = ((-c : ℝ) : EReal) := by
    rw [Finset.sum_eq_single (0 : Fin 64)]
    · rw [hK2, hQ2]
      simp
    · intro d _ hd
      have h : d.val ≠ 0 := fun h => hd (Fin.ext h)
      rw [hK2, if_neg h, zero_mul]
    · simp
  rw [e, e1, e2, ← EReal.coe_add, sub_eq_add_neg]

/-- A score of a head of odd number. -/
theorem score_odd (x q : Fin 64 → ℝ) (c κ : ℝ) (K Q : Fin 128 → EReal)
    (hK1 : ∀ d : Fin 64, K ⟨64 + d.val, by omega⟩ = (x d : EReal)) (hK2 : ∀ d : Fin 64, K ⟨d.val, by omega⟩ = if d.val = 0 then (c : EReal) else 0)
    (hQ1 : ∀ d : Fin 64, Q ⟨64 + d.val, by omega⟩ = (q d : EReal) * (κ : EReal)) (hQ2 : ∀ d : Fin 64, Q ⟨d.val, by omega⟩ = if d.val < 3 then -1 else 0) :
    ∑ l, K l * Q l = ((κ * ∑ d, x d * q d - c : ℝ) : EReal) := by
  have e : ∑ l, K l * Q l = ∑ d : Fin 64, K ⟨d.val, by omega⟩ * Q ⟨d.val, by omega⟩ + ∑ d : Fin 64, K ⟨64 + d.val, by omega⟩ * Q ⟨64 + d.val, by omega⟩ :=
    Fin.sum_univ_add (a := 64) (b := 64) fun l : Fin (64 + 64) => K l * Q l
  have e1 : ∑ d : Fin 64, K ⟨64 + d.val, by omega⟩ * Q ⟨64 + d.val, by omega⟩ = ((κ * ∑ d, x d * q d : ℝ) : EReal) := by
    rw [Finset.mul_sum, ← coe_sum]
    refine Finset.sum_congr rfl fun d _ => ?_
    rw [hK1, hQ1, ← EReal.coe_mul, ← EReal.coe_mul]
    congr 1; ring
  have e2 : ∑ d : Fin 64, K ⟨d.val, by omega⟩ * Q ⟨d.val, by omega⟩ = ((-c : ℝ) : EReal) := by
    rw [Finset.sum_eq_single (0 : Fin 64)]
    · rw [hK2, hQ2]
      simp
    · intro d _ hd
      have h : d.val ≠ 0 := fun h => hd (Fin.ext h)
      rw [hK2, if_neg h, zero_mul]
    · simp
  rw [e, e1, e2, ← EReal.coe_add, sub_eq_add_neg, add_comm]

theorem exp_sub (a b : ℝ) : Ideal.exp ((a : EReal) - (b : EReal)) = ((Real.exp (a - b) : ℝ) : EReal) := by
  rw [← EReal.coe_sub]; rfl

/-- The row of the attention: the mean of the values under the exponentials of the masked scores is the sum of the values over
    the seen keys under powers of two, divided by those powers' own sum. -/
theorem row (n : ℕ) (hn : 0 < n) (hn' : n ≤ 4096) (S : ℕ → ℝ) (τ : ℝ) (r : Fin 4096 → EReal)
    (hr : ∀ s, r s = if s.val < n then ((Real.log 2 * S s.val + τ : ℝ) : EReal) else ⊥)
    (v : Fin 4096 → EReal) (V : ℕ → EReal) (hV : ∀ s : Fin 4096, V s.val = v s) (m M : EReal)
    (hm : m = (Finset.range n).sup fun s => (S s : EReal)) (hM : M = Finset.fold max ⊥ r Finset.univ) :
    ∑ s, Ideal.div (Ideal.exp (r s - M)) (∑ s', Ideal.exp (r s' - M)) * v s
      = (∑ s ∈ Finset.range n, V s * Ideal.exp2 ((S s : EReal) - m)) * Ideal.div 1 (∑ s ∈ Finset.range n, 1 * Ideal.exp2 ((S s : EReal) - m)) := by
  obtain ⟨ν, hν⟩ := sup_real (fun s => (S s : EReal)) (fun s => ⟨S s, rfl⟩) n hn
  rw [hν] at hm
  have hμ : ∃ μ : ℝ, M = μ := by
    have hM' : M = Finset.univ.sup r := hM
    obtain ⟨s, _, hs⟩ := Finset.exists_mem_eq_sup (Finset.univ : Finset (Fin 4096)) ⟨⟨0, by omega⟩, Finset.mem_univ _⟩ r
    have h0 : r ⟨0, by omega⟩ ≤ M := hM' ▸ Finset.le_sup (f := r) (Finset.mem_univ _)
    rw [hr, if_pos hn] at h0
    rw [hM', hs, hr]
    split
    · exact ⟨_, rfl⟩
    · next h =>
      rw [hM', hs, hr, if_neg h] at h0
      exact absurd (le_bot_iff.mp h0) (EReal.coe_ne_bot _)
  obtain ⟨μ, hμ⟩ := hμ
  set e : ℕ → ℝ := fun s => (2 : ℝ) ^ (S s - ν) with he
  have hepos : ∀ s, 0 < e s := fun s => Real.rpow_pos_of_pos (by norm_num) _
  set k : ℝ := Real.exp (τ - μ + Real.log 2 * ν) with hk
  have hkpos : 0 < k := Real.exp_pos _
  have hw : ∀ s : Fin 4096, Ideal.exp (r s - M) = if s.val < n then ((k * e s.val : ℝ) : EReal) else 0 := by
    intro s
    rw [hr, hμ]
    split
    · rw [exp_sub]
      congr 1
      rw [hk, he]
      simp only []
      rw [Real.rpow_def_of_pos (by norm_num), ← Real.exp_add]
      congr 1; ring
    · rw [EReal.bot_sub]; rfl
  have h2 : ∀ s, Ideal.exp2 ((S s : EReal) - m) = ((e s : ℝ) : EReal) := fun s => by rw [hm, exp2_sub]
  have tosum : ∀ f : ℕ → EReal, ∑ s : Fin 4096, (if s.val < n then f s.val else 0) = ∑ s ∈ Finset.range n, f s := by
    intro f
    rw [Fin.sum_univ_eq_sum_range (fun s => if s < n then f s else 0) 4096, ← Finset.sum_filter]
    congr 1
    ext s; simp only [Finset.mem_filter, Finset.mem_range]; omega
  set E : ℝ := ∑ s ∈ Finset.range n, e s with hE
  have hEpos : 0 < E := Finset.sum_pos (fun s _ => hepos s) (Finset.nonempty_range_iff.mpr hn.ne')
  have hW : ∑ s', Ideal.exp (r s' - M) = ((k * E : ℝ) : EReal) := by
    simp only [hw]
    rw [tosum fun s => ((k * e s : ℝ) : EReal), coe_sum, hE, Finset.mul_sum]
  have hD : ∑ s ∈ Finset.range n, 1 * Ideal.exp2 ((S s : EReal) - m) = ((E : ℝ) : EReal) := by
    simp only [h2, one_mul]
    rw [coe_sum]
  rw [hW, hD]
  have hd1 : Ideal.div 1 ((E : ℝ) : EReal) = ((E⁻¹ : ℝ) : EReal) := by
    rw [Ideal.div_coe hEpos.ne', one_mul, one_div]
  rw [hd1, mul_comm (∑ s ∈ Finset.range n, V s * Ideal.exp2 ((S s : EReal) - m)), coe_mul_sum _ (inv_nonneg.mpr hEpos.le), ← tosum]
  refine Finset.sum_congr rfl fun s _ => ?_
  rw [hw, Ideal.div_coe (mul_pos hkpos hEpos).ne']
  split
  · rw [h2, hV, mul_comm (v s), ← mul_assoc, ← EReal.coe_mul, ← EReal.coe_mul]
    congr 2
    field_simp
  · rw [zero_mul, zero_mul]

end Cert.Fox
-- ==== Proof.FoxPre.lean ====
/- The precondition, and the running sums it makes real. -/
module

public import proofs.«01_k».proof.Defs
public import proofs.«01_k».proof.Proof.FoxArr
public import proofs.«01_k».proof.Proof.FoxRow
public import proofs.«01_k».proof.Proof.Gen.Pre_fox_finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.KernelIdeal.Fox

open Cert.KernelIdeal Cert.KernelIdeal.Gen

theorem top_bits : Ideal.ofBits FTy.f32 0x7F800000#32 = ⊤ := by
  simp [Ideal.ofBits, Ideal.ieee]

/-- What lies below infinity in size is real. -/
theorem real_of (x : EReal) (h : FloatOps.cmpf (F := Ideal) (φ := .f32) .olt (FloatOps.absf (F := Ideal) (φ := .f32) x) (Ideal.ofBits .f32 0x7F800000#32) = 1#1) : ∃ r : ℝ, x = r := by
  have h' : max x (-x) < ⊤ := by
    rw [top_bits] at h
    by_contra hn
    have : FloatOps.cmpf (F := Ideal) (φ := .f32) .olt (FloatOps.absf (F := Ideal) (φ := .f32) x) ⊤ = BitVec.ofBool (decide (max x (-x) < ⊤)) := rfl
    rw [this, decide_eq_false hn] at h
    exact absurd h (by decide)
  induction x with
  | bot => simp at h'
  | top => simp at h'
  | coe r => exact ⟨r, rfl⟩

/-- The precondition's three parts. -/
theorem pre_parts (p : TP) (b : TB) (h : Cert.Pre_fox_finite.fn (F := Ideal) p b = (fun _ => 1#1)) :
    (∀ (n : Fin 2) (t : Fin 4096) (j : Fin 3072), ∃ r : ℝ, p (ix3 n t (⟨6400 + j.val, by omega⟩ : Fin 14616)) = r)
    ∧ (∀ (n : Fin 2) (t : Fin 4096) (j : Fin 24), ∃ r : ℝ, p (ix3 n t (⟨11008 + j.val, by omega⟩ : Fin 14616)) = r)
    ∧ ∀ j : Fin 24, ∃ r : ℝ, b (ix1 j) = r := by
  unfold Cert.Pre_fox_finite.fn at h
  have h0 := congrFun h ix0
  obtain ⟨h12, h3⟩ := IntOp.andi_eq_one.1 h0
  obtain ⟨h1, h2⟩ := IntOp.andi_eq_one.1 h12
  haveI : Subsingleton Cert.Pre_fox_finite.S_.Idx := ⟨fun a b => funext fun i => i.elim0⟩
  refine ⟨fun n t j => ?_, fun n t j => ?_, fun j => ?_⟩
  · have := Host.reduce_andi_all _ _ _ _ _ h1 (ix3 n t j)
    refine real_of _ ((?_ : _ = _).trans this)
    pointwise []
  · have := Host.reduce_andi_all _ _ _ _ _ h2 (ix3 n t j)
    refine real_of _ ((?_ : _ = _).trans this)
    pointwise []
  · have := Host.reduce_andi_all _ _ _ _ _ h3 (ix1 j)
    refine real_of _ ((?_ : _ = _).trans this)
    pointwise []

theorem foldl_real {ι : Type} (f : EReal → ι → EReal) (hf : ∀ (r : ℝ) n, ∃ r' : ℝ, f r n = r') (l : List ι) (v : EReal) (hv : ∃ r : ℝ, v = r) :
    ∃ r : ℝ, l.foldl f v = r := by
  induction l generalizing v with
  | nil => exact hv
  | cons a l ih =>
    obtain ⟨r, rfl⟩ := hv
    exact ih _ (hf r a)

theorem zero_bits : Ideal.ofBits FTy.f32 0#32 = 0 := by
  simp [Ideal.ofBits, Ideal.ieee]

/-- A running sum of reals is real. -/
theorem CUM_real (x : FVec Ideal S2x4096x24 .f32) (hx : ∀ i, ∃ r : ℝ, x i = r) (i : S2x4096x24.Idx) : ∃ r : ℝ, CUM x i = r := by
  have hz : (broadcastInDim S_ ![] bcast_S_S_ (constant S_ .f32 0x00000000#32 : FVec Ideal S_ .f32) : FVec Ideal S_ .f32) (Shape.Idx.first h_S_) = ((0 : ℝ) : EReal) := by
    rw [EReal.coe_zero]; exact zero_bits
  unfold CUM Host.reduceWindowAdd
  rw [Ideal.hostReduceWindowAdd_def]
  unfold Ideal.hostReduceWindowAdd
  refine foldl_real _ (fun r n => ?_) _ _ ⟨_, hz⟩
  simp only []
  split
  · obtain ⟨r', hr'⟩ := hx _
    exact ⟨r + r', by rw [hr', EReal.coe_add]⟩
  · exact ⟨r + 0, by rw [hz, EReal.coe_add]⟩

theorem NF_apply (p : TP) (b : TB) (n : Fin 2) (t : Fin 4096) (h : Fin 24) :
    NF p b (ix3 n t h) = -(p (ix3 n t (⟨11008 + h.val, by omega⟩ : Fin 14616)) + b (ix1 h)) := by
  pointwise [NF]

theorem LF_apply (z : FVec Ideal S2x4096x24 .f32) (b : Fin 2) (t : Fin 4096) (h : Fin 24) :
    LF z (ix3 b t h) = -(max (z (ix3 b t h)) 0 + Ideal.log (1 + Ideal.exp (-(max (z (ix3 b t h)) (-(z (ix3 b t h))))))) := by
  pointwise [LF]
  rfl

theorem two_bits : Ideal.ofBits FTy.f32 0x40000000#32 = ((2 : ℝ) : EReal) := by
  have h : ((8388608 : ℝ) : EReal) * (((2 ^ 22 : ℝ)⁻¹ : ℝ) : EReal) = ((2 : ℝ) : EReal) := by
    rw [← EReal.coe_mul]; congr 1; norm_num
  simpa [Ideal.ofBits, Ideal.ieee] using h

theorem CC_apply (x : FVec Ideal S2x4096x24 .f32) (b : Fin 2) (t : Fin 4096) (h : Fin 24) (r : ℝ) (hr : x (ix3 b t h) = r) :
    CC x (ix3 b t h) = ((r / Real.log 2 : ℝ) : EReal) := by
  have e : CC x (ix3 b t h) = Ideal.div (x (ix3 b t h)) (Ideal.log (Ideal.ofBits .f32 0x40000000#32)) := by
    pointwise [CC]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h2 : Real.log 2 ≠ 0 := (Real.log_pos (by norm_num)).ne'
  rw [e, two_bits, hl, Ideal.div_coe h2, hr, ← EReal.coe_mul]
  congr 1; ring

/-- The log forget gate of a real logit is real. -/
theorem LF_real (z : FVec Ideal S2x4096x24 .f32) (hz : ∀ b t h, ∃ r : ℝ, z (ix3 b t h) = r) (i : S2x4096x24.Idx) : ∃ r : ℝ, LF z i = r := by
  idx_vars i
  obtain ⟨r, hr⟩ := hz i0 i1 i2
  rw [LF_apply, hr]
  have e1 : max (r : EReal) 0 = ((max r 0 : ℝ) : EReal) := by
    rw [← EReal.coe_zero]; exact (EReal.coe_strictMono.monotone.map_max).symm
  have e2 : max (r : EReal) (-(r : EReal)) = ((max r (-r) : ℝ) : EReal) := by
    rw [← EReal.coe_neg]; exact (EReal.coe_strictMono.monotone.map_max).symm
  have e3 : Ideal.exp ((-(max r (-r)) : ℝ) : EReal) = ((Real.exp (-(max r (-r))) : ℝ) : EReal) := rfl
  have h4 : ¬ (1 + Real.exp (-(max r (-r))) ≤ 0) := not_le.mpr (by positivity)
  have e4 : Ideal.log ((1 + Real.exp (-(max r (-r))) : ℝ) : EReal) = ((Real.log (1 + Real.exp (-(max r (-r)))) : ℝ) : EReal) := by
    show (if (1 + Real.exp (-(max r (-r)))) ≤ 0 then (⊥ : EReal) else _) = _
    rw [if_neg h4]
  rw [e1, e2, ← EReal.coe_neg, e3, ← EReal.coe_one, ← EReal.coe_add, e4, ← EReal.coe_add, ← EReal.coe_neg]
  exact ⟨_, rfl⟩

end Cert.KernelIdeal.Fox
-- ==== Proof.FoxTrip.lean ====
/- One tile of the forgetting attention's loop over the keys: what a trip leaves in the two scratch arrays, chain by chain. -/
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

variable {F : FTy → Type} [FloatOps F] [Named F]

/-- The scores of a tile: a tile of keys against the queries. -/
def score (k : Vec F S1x256x128 .bf16) (q : FVec F S512x128 .bf16) : FVec F S256x512 .f32 :=
  matmul dot_S256x128_S512x128_S256x512_1_1_0_0_n_n none (shapeCast S256x128 k shapeCasts_S1x256x128_S256x128) q (constant S256x512 .f32 0#32)

theorem trip_m (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole) (arg2 : BitVec 32) (v2 : IVec S512x128 1) (v10 : FVec F S512x128 .f32) (v15 : FVec F S512x128 .f32) (v22 : FVec F S512x128 .bf16) (v24 : FVec F S512x128 .bf16) (v31 : FVec F S512x128 .bf16) (v33 : FVec F S512x128 .bf16) (v36 : FVec F S512x128 .f32) (cst_12 : F .f32) (v43 : Vec F S1x512x128 .bf16) (X_arg4 : BufTy.Contents (Elt F) arg4.view.ty) (X_arg5 : BufTy.Contents (Elt F) arg5.view.ty) (X_arg6 : BufTy.Contents (Elt F) arg6.view.ty) (k : Fin (k0_t1_loop i).trips) (f_arg9 : BufTy.Contents (Elt F) arg9.view.ty) (f_arg10 : BufTy.Contents (Elt F) arg10.view.ty) :
    (trip_k0_t1 (F := F) Variants.none c none i arg3 harg3 arg4 harg4 arg5 harg5 arg6 harg6 arg7 harg7 arg8 harg8 arg9 harg9 arg10 harg10 arg2 v2 v10 v15 v22 v24 v31 v33 v36 cst_12 v43 X_arg4 X_arg5 X_arg6 k).1 f_arg9 f_arg10 =
    [⟨Rect.unit (s := S8x1x512) ![7, 0, 0] S1x1x512.size inb_S8x1x512_S1x1x512_7_0_0, k0_pay108 (score (View.readAt (Elt F) arg5.view (Rect.unit (s := S1x4096x512) (k0_off4 i k) S1x256x128.size (k0_off4_inb i k)).toLoadRect X_arg5) (k0_pay103 v2 v15 v43)) (View.readAt (Elt F) arg9.view (Rect.unit (s := S8x1x512) ![7, 0, 0] S1x1x512.size inb_S8x1x512_S1x1x512_7_0_0).toLoadRect f_arg9)⟩,
     ⟨Rect.unit (s := S8x1x512) ![6, 0, 0] S1x1x512.size inb_S8x1x512_S1x1x512_6_0_0, k0_pay108 (score (View.readAt (Elt F) arg4.view (Rect.unit (s := S1x4096x512) (k0_off4 i k) S1x256x128.size (k0_off4_inb i k)).toLoadRect X_arg4) (k0_pay102 v2 v10 v43)) (View.readAt (Elt F) arg9.view (Rect.unit (s := S8x1x512) ![6, 0, 0] S1x1x512.size inb_S8x1x512_S1x1x512_6_0_0).toLoadRect f_arg9)⟩,
     ⟨Rect.unit (s := S8x1x512) ![5, 0, 0] S1x1x512.size inb_S8x1x512_S1x1x512_5_0_0, k0_pay108 (score (View.readAt (Elt F) arg5.view (Rect.unit (s := S1x4096x512) (k0_off3 i k) S1x256x128.size (k0_off3_inb i k)).toLoadRect X_arg5) (k0_pay100 v2 v15 v36 cst_12)) (View.readAt (Elt F) arg9.view (Rect.unit (s := S8x1x512) ![5, 0, 0] S1x1x512.size inb_S8x1x512_S1x1x512_5_0_0).toLoadRect f_arg9)⟩,
     ⟨Rect.unit (s := S8x1x512) ![4, 0, 0] S1x1x512.size inb_S8x1x512_S1x1x512_4_0_0, k0_pay108 (score (View.readAt (Elt F) arg4.view (Rect.unit (s := S1x4096x512) (k0_off3 i k) S1x256x128.size (k0_off3_inb i k)).toLoadRect X_arg4) (k0_pay99 v2 v10 v36 cst_12)) (View.readAt (Elt F) arg9.view (Rect.unit (s := S8x1x512) ![4, 0, 0] S1x1x512.size inb_S8x1x512_S1x1x512_4_0_0).toLoadRect f_arg9)⟩,
     ⟨Rect.unit (s := S8x1x512) ![3, 0, 0] S1x1x512.size inb_S8x1x512_S1x1x512_3_0_0, k0_pay108 (score (View.readAt (Elt F) arg5.view (Rect.unit (s := S1x4096x512) (k0_off2 i k) S1x256x128.size (k0_off2_inb i k)).toLoadRect X_arg5) v33) (View.readAt (Elt F) arg9.view (Rect.unit (s := S8x1x512) ![3, 0, 0] S1x1x512.size inb_S8x1x512_S1x1x512_3_0_0).toLoadRect f_arg9)⟩,
     ⟨Rect.unit (s := S8x1x512) ![2, 0, 0] S1x1x512.size inb_S8x1x512_S1x1x512_2_0_0, k0_pay108 (score (View.readAt (Elt F) arg4.view (Rect.unit (s := S1x4096x512) (k0_off2 i k) S1x256x128.size (k0_off2_inb i k)).toLoadRect X_arg4) v31) (View.readAt (Elt F) arg9.view (Rect.unit (s := S8x1x512) ![2, 0, 0] S1x1x512.size inb_S8x1x512_S1x1x512_2_0_0).toLoadRect f_arg9)⟩,
     ⟨Rect.unit (s := S8x1x512) ![1, 0, 0] S1x1x512.size inb_S8x1x512_S1x1x512_1_0_0, k0_pay108 (score (View.readAt (Elt F) arg5.view (Rect.unit (s := S1x4096x512) (k0_off1 i k) S1x256x128.size (k0_off1_inb i k)).toLoadRect X_arg5) v24) (View.readAt (Elt F) arg9.view (Rect.unit (s := S8x1x512) ![1, 0, 0] S1x1x512.size inb_S8x1x512_S1x1x512_1_0_0).toLoadRect f_arg9)⟩,
     ⟨Rect.unit (s := S8x1x512) ![0, 0, 0] S1x1x512.size inb_S8x1x512_S1x1x512_0_0_0, k0_pay108 (score (View.readAt (Elt F) arg4.view (Rect.unit (s := S1x4096x512) (k0_off1 i k) S1x256x128.size (k0_off1_inb i k)).toLoadRect X_arg4) v22) (View.readAt (Elt F) arg9.view (Rect.unit (s := S8x1x512) ![0, 0, 0] S1x1x512.size inb_S8x1x512_S1x1x512_0_0_0).toLoadRect f_arg9)⟩] := by
  unfold trip_k0_t1
  rfl

theorem trip_acc (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole) (arg2 : BitVec 32) (v2 : IVec S512x128 1) (v10 : FVec F S512x128 .f32) (v15 : FVec F S512x128 .f32) (v22 : FVec F S512x128 .bf16) (v24 : FVec F S512x128 .bf16) (v31 : FVec F S512x128 .bf16) (v33 : FVec F S512x128 .bf16) (v36 : FVec F S512x128 .f32) (cst_12 : F .f32) (v43 : Vec F S1x512x128 .bf16) (X_arg4 : BufTy.Contents (Elt F) arg4.view.ty) (X_arg5 : BufTy.Contents (Elt F) arg5.view.ty) (X_arg6 : BufTy.Contents (Elt F) arg6.view.ty) (k : Fin (k0_t1_loop i).trips) (f_arg9 : BufTy.Contents (Elt F) arg9.view.ty) (f_arg10 : BufTy.Contents (Elt F) arg10.view.ty) :
    (trip_k0_t1 (F := F) Variants.none c none i arg3 harg3 arg4 harg4 arg5 harg5 arg6 harg6 arg7 harg7 arg8 harg8 arg9 harg9 arg10 harg10 arg2 v2 v10 v15 v22 v24 v31 v33 v36 cst_12 v43 X_arg4 X_arg5 X_arg6 k).2.1 f_arg9 f_arg10 =
    [⟨Rect.unit (s := S8x80x512) ![7, 0, 0] S1x80x512.size inb_S8x80x512_S1x80x512_7_0_0, k0_pay109 (score (View.readAt (Elt F) arg5.view (Rect.unit (s := S1x4096x512) (k0_off4 i k) S1x256x128.size (k0_off4_inb i k)).toLoadRect X_arg5) (k0_pay103 v2 v15 v43)) (View.readAt (Elt F) arg9.view (Rect.unit (s := S8x1x512) ![7, 0, 0] S1x1x512.size inb_S8x1x512_S1x1x512_7_0_0).toLoadRect f_arg9) (View.readAt (Elt F) arg6.view (Rect.unit (s := S640x4096) (k0_off12 i k) S80x256.size (k0_off12_inb i k)).toLoadRect X_arg6) (View.readAt (Elt F) arg10.view (Rect.unit (s := S8x80x512) ![7, 0, 0] S1x80x512.size inb_S8x80x512_S1x80x512_7_0_0).toLoadRect f_arg10)⟩,
     ⟨Rect.unit (s := S8x80x512) ![6, 0, 0] S1x80x512.size inb_S8x80x512_S1x80x512_6_0_0, k0_pay109 (score (View.readAt (Elt F) arg4.view (Rect.unit (s := S1x4096x512) (k0_off4 i k) S1x256x128.size (k0_off4_inb i k)).toLoadRect X_arg4) (k0_pay102 v2 v10 v43)) (View.readAt (Elt F) arg9.view (Rect.unit (s := S8x1x512) ![6, 0, 0] S1x1x512.size inb_S8x1x512_S1x1x512_6_0_0).toLoadRect f_arg9) (View.readAt (Elt F) arg6.view (Rect.unit (s := S640x4096) (k0_off11 i k) S80x256.size (k0_off11_inb i k)).toLoadRect X_arg6) (View.readAt (Elt F) arg10.view (Rect.unit (s := S8x80x512) ![6, 0, 0] S1x80x512.size inb_S8x80x512_S1x80x512_6_0_0).toLoadRect f_arg10)⟩,
     ⟨Rect.unit (s := S8x80x512) ![5, 0, 0] S1x80x512.size inb_S8x80x512_S1x80x512_5_0_0, k0_pay109 (score (View.readAt (Elt F) arg5.view (Rect.unit (s := S1x4096x512) (k0_off3 i k) S1x256x128.size (k0_off3_inb i k)).toLoadRect X_arg5) (k0_pay100 v2 v15 v36 cst_12)) (View.readAt (Elt F) arg9.view (Rect.unit (s := S8x1x512) ![5, 0, 0] S1x1x512.size inb_S8x1x512_S1x1x512_5_0_0).toLoadRect f_arg9) (View.readAt (Elt F) arg6.view (Rect.unit (s := S640x4096) (k0_off10 i k) S80x256.size (k0_off10_inb i k)).toLoadRect X_arg6) (View.readAt (Elt F) arg10.view (Rect.unit (s := S8x80x512) ![5, 0, 0] S1x80x512.size inb_S8x80x512_S1x80x512_5_0_0).toLoadRect f_arg10)⟩,
     ⟨Rect.unit (s := S8x80x512) ![4, 0, 0] S1x80x512.size inb_S8x80x512_S1x80x512_4_0_0, k0_pay109 (score (View.readAt (Elt F) arg4.view (Rect.unit (s := S1x4096x512) (k0_off3 i k) S1x256x128.size (k0_off3_inb i k)).toLoadRect X_arg4) (k0_pay99 v2 v10 v36 cst_12)) (View.readAt (Elt F) arg9.view (Rect.unit (s := S8x1x512) ![4, 0, 0] S1x1x512.size inb_S8x1x512_S1x1x512_4_0_0).toLoadRect f_arg9) (View.readAt (Elt F) arg6.view (Rect.unit (s := S640x4096) (k0_off9 i k) S80x256.size (k0_off9_inb i k)).toLoadRect X_arg6) (View.readAt (Elt F) arg10.view (Rect.unit (s := S8x80x512) ![4, 0, 0] S1x80x512.size inb_S8x80x512_S1x80x512_4_0_0).toLoadRect f_arg10)⟩,
     ⟨Rect.unit (s := S8x80x512) ![3, 0, 0] S1x80x512.size inb_S8x80x512_S1x80x512_3_0_0, k0_pay109 (score (View.readAt (Elt F) arg5.view (Rect.unit (s := S1x4096x512) (k0_off2 i k) S1x256x128.size (k0_off2_inb i k)).toLoadRect X_arg5) v33) (View.readAt (Elt F) arg9.view (Rect.unit (s := S8x1x512) ![3, 0, 0] S1x1x512.size inb_S8x1x512_S1x1x512_3_0_0).toLoadRect f_arg9) (View.readAt (Elt F) arg6.view (Rect.unit (s := S640x4096) (k0_off8 i k) S80x256.size (k0_off8_inb i k)).toLoadRect X_arg6) (View.readAt (Elt F) arg10.view (Rect.unit (s := S8x80x512) ![3, 0, 0] S1x80x512.size inb_S8x80x512_S1x80x512_3_0_0).toLoadRect f_arg10)⟩,
     ⟨Rect.unit (s := S8x80x512) ![2, 0, 0] S1x80x512.size inb_S8x80x512_S1x80x512_2_0_0, k0_pay109 (score (View.readAt (Elt F) arg4.view (Rect.unit (s := S1x4096x512) (k0_off2 i k) S1x256x128.size (k0_off2_inb i k)).toLoadRect X_arg4) v31) (View.readAt (Elt F) arg9.view (Rect.unit (s := S8x1x512) ![2, 0, 0] S1x1x512.size inb_S8x1x512_S1x1x512_2_0_0).toLoadRect f_arg9) (View.readAt (Elt F) arg6.view (Rect.unit (s := S640x4096) (k0_off7 i k) S80x256.size (k0_off7_inb i k)).toLoadRect X_arg6) (View.readAt (Elt F) arg10.view (Rect.unit (s := S8x80x512) ![2, 0, 0] S1x80x512.size inb_S8x80x512_S1x80x512_2_0_0).toLoadRect f_arg10)⟩,
     ⟨Rect.unit (s := S8x80x512) ![1, 0, 0] S1x80x512.size inb_S8x80x512_S1x80x512_1_0_0, k0_pay109 (score (View.readAt (Elt F) arg5.view (Rect.unit (s := S1x4096x512) (k0_off1 i k) S1x256x128.size (k0_off1_inb i k)).toLoadRect X_arg5) v24) (View.readAt (Elt F) arg9.view (Rect.unit (s := S8x1x512) ![1, 0, 0] S1x1x512.size inb_S8x1x512_S1x1x512_1_0_0).toLoadRect f_arg9) (View.readAt (Elt F) arg6.view (Rect.unit (s := S640x4096) (k0_off6 i k) S80x256.size (k0_off6_inb i k)).toLoadRect X_arg6) (View.readAt (Elt F) arg10.view (Rect.unit (s := S8x80x512) ![1, 0, 0] S1x80x512.size inb_S8x80x512_S1x80x512_1_0_0).toLoadRect f_arg10)⟩,
     ⟨Rect.unit (s := S8x80x512) ![0, 0, 0] S1x80x512.size inb_S8x80x512_S1x80x512_0_0_0, k0_pay109 (score (View.readAt (Elt F) arg4.view (Rect.unit (s := S1x4096x512) (k0_off1 i k) S1x256x128.size (k0_off1_inb i k)).toLoadRect X_arg4) v22) (View.readAt (Elt F) arg9.view (Rect.unit (s := S8x1x512) ![0, 0, 0] S1x1x512.size inb_S8x1x512_S1x1x512_0_0_0).toLoadRect f_arg9) (View.readAt (Elt F) arg6.view (Rect.unit (s := S640x4096) (k0_off5 i k) S80x256.size (k0_off5_inb i k)).toLoadRect X_arg6) (View.readAt (Elt F) arg10.view (Rect.unit (s := S8x80x512) ![0, 0, 0] S1x80x512.size inb_S8x80x512_S1x80x512_0_0_0).toLoadRect f_arg10)⟩] := by
  unfold trip_k0_t1
  rfl

end Cert.KernelIdeal.Fox

end
-- ==== Proof.FoxBody.lean ====
/- The body of the forgetting attention: what each chain of the two diagonal tiles, and the last step, leave, one store at a time. -/
module

public import proofs.«01_k».proof.Proof.FoxTrip

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen

variable {F : FTy → Type} [FloatOps F] [Named F]

/-- The scores of a diagonal tile the whole query block sees, the keys after the query masked. -/
def score0 (k : Vec F S1x256x128 .bf16) (q : FVec F S512x128 .bf16) : FVec F S256x512 .f32 :=
  k0_pay115 q kernelRun0_A.sl.v70 kernelRun0_A.sl.v71 k

/-- The scores of the second diagonal tile, which the second half of the query block sees. -/
def score1 (k : Vec F S1x256x128 .bf16) (q : FVec F S512x128 .bf16) : FVec F S256x256 .f32 :=
  k0_pay163 q k

/-- The block the last step writes of a pair of chains. -/
def fin (a0 a1 : Vec F S1x80x512 .f32) (g : Vec F S1x512x128 .f32) : FVec F S1x512x128 .bf16 :=
  k0_pay213 (k0_pay210 a0 a0) (k0_pay211 a1) (k0_pay212 a1) g

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole)
  (x0 : Vec F S1x512x512 .bf16) (x1 : Vec F S1x4096x512 .bf16) (x2 : Vec F S1x4096x512 .bf16) (x3 : Vec F S640x4096 .bf16)
theorem hm_1 : (kernelRun0_A.sl.HS0_1_1 c i arg3 harg3 arg4 harg4 arg5 harg5 arg6 harg6 arg7 harg7 arg8 harg8 arg9 harg9 arg10 harg10 x0 x1 x2 x3) =
    ⟨Rect.unit (s := S8x1x512) ![0, 0, 0] S1x1x512.size inb_S8x1x512_S1x1x512_0_0_0,
      k0_pay108 (score0 (View.readAt (Elt F) arg4.view (Rect.unit (s := S1x4096x512) (k0_off25 i 0#32) S1x256x128.size (k0_off25_inb i 0)).toLoadRect (harg4.unread x1)) (k0_pay92 (View.readAt (Elt F) arg3.view (Rect.unit (s := S1x512x512) ![0, 0, 0] S1x512x128.size inb_S1x512x512_S1x512x128_0_0_0).toLoadRect (harg3.unread x0))))
        (arg9.view.readCov (kernelRun0_A.sl.HS0_1_1 c i arg3 harg3 arg4 harg4 arg5 harg5 arg6 harg6 arg7 harg7 arg8 harg8 arg9 harg9 arg10 harg10 x0 x1 x2 x3).tail (Rect.unit (s := S8x1x512) ![0, 0, 0] S1x1x512.size inb_S8x1x512_S1x1x512_0_0_0).toLoadRect)⟩ :: (kernelRun0_A.sl.HS0_1_1 c i arg3 harg3 arg4 harg4 arg5 harg5 arg6 harg6 arg7 harg7 arg8 harg8 arg9 harg9 arg10 harg10 x0 x1 x2 x3).tail := rfl

theorem ha_1 : (kernelRun0_A.sl.HS1_1_1 c i arg3 harg3 arg4 harg4 arg5 harg5 arg6 harg6 arg7 harg7 arg8 harg8 arg9 harg9 arg10 harg10 x0 x1 x2 x3) =
    ⟨Rect.unit (s := S8x80x512) ![0, 0, 0] S1x80x512.size inb_S8x80x512_S1x80x512_0_0_0,
      k0_pay109 (score0 (View.readAt (Elt F) arg4.view (Rect.unit (s := S1x4096x512) (k0_off25 i 0#32) S1x256x128.size (k0_off25_inb i 0)).toLoadRect (harg4.unread x1)) (k0_pay92 (View.readAt (Elt F) arg3.view (Rect.unit (s := S1x512x512) ![0, 0, 0] S1x512x128.size inb_S1x512x512_S1x512x128_0_0_0).toLoadRect (harg3.unread x0))))
        (arg9.view.readCov (kernelRun0_A.sl.HS0_1_1 c i arg3 harg3 arg4 harg4 arg5 harg5 arg6 harg6 arg7 harg7 arg8 harg8 arg9 harg9 arg10 harg10 x0 x1 x2 x3).tail (Rect.unit (s := S8x1x512) ![0, 0, 0] S1x1x512.size inb_S8x1x512_S1x1x512_0_0_0).toLoadRect)
        (View.readAt (Elt F) arg6.view (Rect.unit (s := S640x4096) (k0_off29 i 0#32) S80x256.size (k0_off29_inb i 0)).toLoadRect (harg6.unread x3))
        (arg10.view.readCov (kernelRun0_A.sl.HS1_1_1 c i arg3 harg3 arg4 harg4 arg5 harg5 arg6 harg6 arg7 harg7 arg8 harg8 arg9 harg9 arg10 harg10 x0 x1 x2 x3).tail (Rect.unit (s := S8x80x512) ![0, 0, 0] S1x80x512.size inb_S8x80x512_S1x80x512_0_0_0).toLoadRect)⟩ :: (kernelRun0_A.sl.HS1_1_1 c i arg3 harg3 arg4 harg4 arg5 harg5 arg6 harg6 arg7 harg7 arg8 harg8 arg9 harg9 arg10 harg10 x0 x1 x2 x3).tail := rfl

theorem hm_2 : (kernelRun0_A.sl.HS0_2 c i arg3 harg3 arg4 harg4 arg5 harg5 arg6 harg6 arg7 harg7 arg8 harg8 arg9 harg9 arg10 harg10 x0 x1 x2 x3) =
    ⟨Rect.unit (s := S8x1x512) ![1, 0, 0] S1x1x512.size inb_S8x1x512_S1x1x512_1_0_0,
      k0_pay108 (score0 (View.readAt (Elt F) arg5.view (Rect.unit (s := S1x4096x512) (k0_off25 i 0#32) S1x256x128.size (k0_off25_inb i 0)).toLoadRect (harg5.unread x2)) (k0_pay93 (View.readAt (Elt F) arg3.view (Rect.unit (s := S1x512x512) ![0, 0, 0] S1x512x128.size inb_S1x512x512_S1x512x128_0_0_0).toLoadRect (harg3.unread x0))))
        (arg9.view.readCov (kernelRun0_A.sl.HS0_1_1 c i arg3 harg3 arg4 harg4 arg5 harg5 arg6 harg6 arg7 harg7 arg8 harg8 arg9 harg9 arg10 harg10 x0 x1 x2 x3) (Rect.unit (s := S8x1x512) ![1, 0, 0] S1x1x512.size inb_S8x1x512_S1x1x512_1_0_0).toLoadRect)⟩ :: (kernelRun0_A.sl.HS0_1_1 c i arg3 harg3 arg4 harg4 arg5 harg5 arg6 harg6 arg7 harg7 arg8 harg8 arg9 harg9 arg10 harg10 x0 x1 x2 x3) := rfl

theorem ha_2 : (kernelRun0_A.sl.HS1_2 c i arg3 harg3 arg4 harg4 arg5 harg5 arg6 harg6 arg7 harg7 arg8 harg8 arg9 harg9 arg10 harg10 x0 x1 x2 x3) =
    ⟨Rect.unit (s := S8x80x512) ![1, 0, 0] S1x80x512.size inb_S8x80x512_S1x80x512_1_0_0,
      k0_pay109 (score0 (View.readAt (Elt F) arg5.view (Rect.unit (s := S1x4096x512) (k0_off25 i 0#32) S1x256x128.size (k0_off25_inb i 0)).toLoadRect (harg5.unread x2)) (k0_pay93 (View.readAt (Elt F) arg3.view (Rect.unit (s := S1x512x512) ![0, 0, 0] S1x512x128.size inb_S1x512x512_S1x512x128_0_0_0).toLoadRect (harg3.unread x0))))
        (arg9.view.readCov (kernelRun0_A.sl.HS0_1_1 c i arg3 harg3 arg4 harg4 arg5 harg5 arg6 harg6 arg7 harg7 arg8 harg8 arg9 harg9 arg10 harg10 x0 x1 x2 x3) (Rect.unit (s := S8x1x512) ![1, 0, 0] S1x1x512.size inb_S8x1x512_S1x1x512_1_0_0).toLoadRect)
        (View.readAt (Elt F) arg6.view (Rect.unit (s := S640x4096) (k0_off30 i 0#32) S80x256.size (k0_off30_inb i 0)).toLoadRect (harg6.unread x3))
        (arg10.view.readCov (kernelRun0_A.sl.HS1_1_1 c i arg3 harg3 arg4 harg4 arg5 harg5 arg6 harg6 arg7 harg7 arg8 harg8 arg9 harg9 arg10 harg10 x0 x1 x2 x3) (Rect.unit (s := S8x80x512) ![1, 0, 0] S1x80x512.size inb_S8x80x512_S1x80x512_1_0_0).toLoadRect)⟩ :: (kernelRun0_A.sl.HS1_1_1 c i arg3 harg3 arg4 harg4 arg5 harg5 arg6 harg6 arg7 harg7 arg8 harg8 arg9 harg9 arg10 harg10 x0 x1 x2 x3) := rfl

theorem hm_3 : (kernelRun0_A.sl.HS0_3 c i arg3 harg3 arg4 harg4 arg5 harg5 arg6 harg6 arg7 harg7 arg8 harg8 arg9 harg9 arg10 harg10 x0 x1 x2 x3) =
    ⟨Rect.unit (s := S8x1x512) ![2, 0, 0] S1x1x512.size inb_S8x1x512_S1x1x512_2_0_0,
      k0_pay108 (score0 (View.readAt (Elt F) arg4.view (Rect.unit (s := S1x4096x512) (k0_off26 i 0#32) S1x256x128.size (k0_off26_inb i 0)).toLoadRect (harg4.unread x1)) (k0_pay92 (View.readAt (Elt F) arg3.view (Rect.unit (s := S1x512x512) ![0, 0, 128] S1x512x128.size inb_S1x512x512_S1x512x128_0_0_128).toLoadRect (harg3.unread x0))))
        (arg9.view.readCov (kernelRun0_A.sl.HS0_2 c i arg3 harg3 arg4 harg4 arg5 harg5 arg6 harg6 arg7 harg7 arg8 harg8 arg9 harg9 arg10 harg10 x0 x1 x2 x3) (Rect.unit (s := S8x1x512) ![2, 0, 0] S1x1x512.size inb_S8x1x512_S1x1x512_2_0_0).toLoadRect)⟩ :: (kernelRun0_A.sl.HS0_2 c i arg3 harg3 arg4 harg4 arg5 harg5 arg6 harg6 arg7 harg7 arg8 harg8 arg9 harg9 arg10 harg10 x0 x1 x2 x3) := rfl

theorem ha_3 : (kernelRun0_A.sl.HS1_3 c i arg3 harg3 arg4 harg4 arg5 harg5 arg6 harg6 arg7 harg7 arg8 harg8 arg9 harg9 arg10 harg10 x0 x1 x2 x3) =
    ⟨Rect.unit (s := S8x80x512) ![2, 0, 0] S1x80x512.size inb_S8x80x512_S1x80x512_2_0_0,
      k0_pay109 (score0 (View.readAt (Elt F) arg4.view (Rect.unit (s := S1x4096x512) (k0_off26 i 0#32) S1x256x128.size (k0_off26_inb i 0)).toLoadRect (harg4.unread x1)) (k0_pay92 (View.readAt (Elt F) arg3.view (Rect.unit (s := S1x512x512) ![0, 0, 128] S1x512x128.size inb_S1x512x512_S1x512x128_0_0_128).toLoadRect (harg3.unread x0))))
        (arg9.view.readCov (kernelRun0_A.sl.HS0_2 c i arg3 harg3 arg4 harg4 arg5 harg5 arg6 harg6 arg7 harg7 arg8 harg8 arg9 harg9 arg10 harg10 x0 x1 x2 x3) (Rect.unit (s := S8x1x512) ![2, 0, 0] S1x1x512.size inb_S8x1x512_S1x1x512_2_0_0).toLoadRect)
        (View.readAt (Elt F) arg6.view (Rect.unit (s := S640x4096) (k0_off31 i 0#32) S80x256.size (k0_off31_inb i 0)).toLoadRect (harg6.unread x3))
        (arg10.view.readCov (kernelRun0_A.sl.HS1_2 c i arg3 harg3 arg4 harg4 arg5 harg5 arg6 harg6 arg7 harg7 arg8 harg8 arg9 harg9 arg10 harg10 x0 x1 x2 x3) (Rect.unit (s := S8x80x512) ![2, 0, 0] S1x80x512.size inb_S8x80x512_S1x80x512_2_0_0).toLoadRect)⟩ :: (kernelRun0_A.sl.HS1_2 c i arg3 harg3 arg4 harg4 arg5 harg5 arg6 harg6 arg7 harg7 arg8 harg8 arg9 harg9 arg10 harg10 x0 x1 x2 x3) := rfl

theorem hm_4 : (kernelRun0_A.sl.HS0_4 c i arg3 harg3 arg4 harg4 arg5 harg5 arg6 harg6 arg7 harg7 arg8 harg8 arg9 harg9 arg10 harg10 x0 x1 x2 x3) =
    ⟨Rect.unit (s := S8x1x512) ![3, 0, 0] S1x1x512.size inb_S8x1x512_S1x1x512_3_0_0,
      k0_pay108 (score0 (View.readAt (Elt F) arg5.view (Rect.unit (s := S1x4096x512) (k0_off26 i 0#32) S1x256x128.size (k0_off26_inb i 0)).toLoadRect (harg5.unread x2)) (k0_pay93 (View.readAt (Elt F) arg3.view (Rect.unit (s := S1x512x512) ![0, 0, 128] S1x512x128.size inb_S1x512x512_S1x512x128_0_0_128).toLoadRect (harg3.unread x0))))
        (arg9.view.readCov (kernelRun0_A.sl.HS0_3 c i arg3 harg3 arg4 harg4 arg5 harg5 arg6 harg6 arg7 harg7 arg8 harg8 arg9 harg9 arg10 harg10 x0 x1 x2 x3) (Rect.unit (s := S8x1x512) ![3, 0, 0] S1x1x512.size inb_S8x1x512_S1x1x512_3_0_0).toLoadRect)⟩ :: (kernelRun0_A.sl.HS0_3 c i arg3 harg3 arg4 harg4 arg5 harg5 arg6 harg6 arg7 harg7 arg8 harg8 arg9 harg9 arg10 harg10 x0 x1 x2 x3) := rfl

theorem ha_4 : (kernelRun0_A.sl.HS1_4 c i arg3 harg3 arg4 harg4 arg5 harg5 arg6 harg6 arg7 harg7 arg8 harg8 arg9 harg9 arg10 harg10 x0 x1 x2 x3) =
    ⟨Rect.unit (s := S8x80x512) ![3, 0, 0] S1x80x512.size inb_S8x80x512_S1x80x512_3_0_0,
      k0_pay109 (score0 (View.readAt (Elt F) arg5.view (Rect.unit (s := S1x4096x512) (k0_off26 i 0#32) S1x256x128.size (k0_off26_inb i 0)).toLoadRect (harg5.unread x2)) (k0_pay93 (View.readAt (Elt F) arg3.view (Rect.unit (s := S1x512x512) ![0, 0, 128] S1x512x128.size inb_S1x512x512_S1x512x128_0_0_128).toLoadRect (harg3.unread x0))))
        (arg9.view.readCov (kernelRun0_A.sl.HS0_3 c i arg3 harg3 arg4 harg4 arg5 harg5 arg6 harg6 arg7 harg7 arg8 harg8 arg9 harg9 arg10 harg10 x0 x1 x2 x3) (Rect.unit (s := S8x1x512) ![3, 0, 0] S1x1x512.size inb_S8x1x512_S1x1x512_3_0_0).toLoadRect)
        (View.readAt (Elt F) arg6.view (Rect.unit (s := S640x4096) (k0_off32 i 0#32) S80x256.size (k0_off32_inb i 0)).toLoadRect (harg6.unread x3))
        (arg10.view.readCov (kernelRun0_A.sl.HS1_3 c i arg3 harg3 arg4 harg4 arg5 harg5 arg6 harg6 arg7 harg7 arg8 harg8 arg9 harg9 arg10 harg10 x0 x1 x2 x3) (Rect.unit (s := S8x80x512) ![3, 0, 0] S1x80x512.size inb_S8x80x512_S1x80x512_3_0_0).toLoadRect)⟩ :: (kernelRun0_A.sl.HS1_3 c i arg3 harg3 arg4 harg4 arg5 harg5 arg6 harg6 arg7 harg7 arg8 harg8 arg9 harg9 arg10 harg10 x0 x1 x2 x3) := rfl

theorem hm_5 : (kernelRun0_A.sl.HS0_5 c i arg3 harg3 arg4 harg4 arg5 harg5 arg6 harg6 arg7 harg7 arg8 harg8 arg9 harg9 arg10 harg10 x0 x1 x2 x3) =
    ⟨Rect.unit (s := S8x1x512) ![4, 0, 0] S1x1x512.size inb_S8x1x512_S1x1x512_4_0_0,
      k0_pay108 (score0 (View.readAt (Elt F) arg4.view (Rect.unit (s := S1x4096x512) (k0_off27 i 0#32) S1x256x128.size (k0_off27_inb i 0)).toLoadRect (harg4.unread x1)) (k0_pay92 (View.readAt (Elt F) arg3.view (Rect.unit (s := S1x512x512) ![0, 0, 256] S1x512x128.size inb_S1x512x512_S1x512x128_0_0_256).toLoadRect (harg3.unread x0))))
        (arg9.view.readCov (kernelRun0_A.sl.HS0_4 c i arg3 harg3 arg4 harg4 arg5 harg5 arg6 harg6 arg7 harg7 arg8 harg8 arg9 harg9 arg10 harg10 x0 x1 x2 x3) (Rect.unit (s := S8x1x512) ![4, 0, 0] S1x1x512.size inb_S8x1x512_S1x1x512_4_0_0).toLoadRect)⟩ :: (kernelRun0_A.sl.HS0_4 c i arg3 harg3 arg4 harg4 arg5 harg5 arg6 harg6 arg7 harg7 arg8 harg8 arg9 harg9 arg10 harg10 x0 x1 x2 x3) := rfl

theorem ha_5 : (kernelRun0_A.sl.HS1_5 c i arg3 harg3 arg4 harg4 arg5 harg5 arg6 harg6 arg7 harg7 arg8 harg8 arg9 harg9 arg10 harg10 x0 x1 x2 x3) =
    ⟨Rect.unit (s := S8x80x512) ![4, 0, 0] S1x80x512.size inb_S8x80x512_S1x80x512_4_0_0,
      k0_pay109 (score0 (View.readAt (Elt F) arg4.view (Rect.unit (s := S1x4096x512) (k0_off27 i 0#32) S1x256x128.size (k0_off27_inb i 0)).toLoadRect (harg4.unread x1)) (k0_pay92 (View.readAt (Elt F) arg3.view (Rect.unit (s := S1x512x512) ![0, 0, 256] S1x512x128.size inb_S1x512x512_S1x512x128_0_0_256).toLoadRect (harg3.unread x0))))
        (arg9.view.readCov (kernelRun0_A.sl.HS0_4 c i arg3 harg3 arg4 harg4 arg5 harg5 arg6 harg6 arg7 harg7 arg8 harg8 arg9 harg9 arg10 harg10 x0 x1 x2 x3) (Rect.unit (s := S8x1x512) ![4, 0, 0] S1x1x512.size inb_S8x1x512_S1x1x512_4_0_0).toLoadRect)
        (View.readAt (Elt F) arg6.view (Rect.unit (s := S640x4096) (k0_off33 i 0#32) S80x256.size (k0_off33_inb i 0)).toLoadRect (harg6.unread x3))
        (arg10.view.readCov (kernelRun0_A.sl.HS1_4 c i arg3 harg3 arg4 harg4 arg5 harg5 arg6 harg6 arg7 harg7 arg8 harg8 arg9 harg9 arg10 harg10 x0 x1 x2 x3) (Rect.unit (s := S8x80x512) ![4, 0, 0] S1x80x512.size inb_S8x80x512_S1x80x512_4_0_0).toLoadRect)⟩ :: (kernelRun0_A.sl.HS1_4 c i arg3 harg3 arg4 harg4 arg5 harg5 arg6 harg6 arg7 harg7 arg8 harg8 arg9 harg9 arg10 harg10 x0 x1 x2 x3) := rfl

theorem hm_6 : (kernelRun0_A.sl.HS0_6 c i arg3 harg3 arg4 harg4 arg5 harg5 arg6 harg6 arg7 harg7 arg8 harg8 arg9 harg9 arg10 harg10 x0 x1 x2 x3) =
    ⟨Rect.unit (s := S8x1x512) ![5, 0, 0] S1x1x512.size inb_S8x1x512_S1x1x512_5_0_0,
      k0_pay108 (score0 (View.readAt (Elt F) arg5.view (Rect.unit (s := S1x4096x512) (k0_off27 i 0#32) S1x256x128.size (k0_off27_inb i 0)).toLoadRect (harg5.unread x2)) (k0_pay93 (View.readAt (Elt F) arg3.view (Rect.unit (s := S1x512x512) ![0, 0, 256] S1x512x128.size inb_S1x512x512_S1x512x128_0_0_256).toLoadRect (harg3.unread x0))))
        (arg9.view.readCov (kernelRun0_A.sl.HS0_5 c i arg3 harg3 arg4 harg4 arg5 harg5 arg6 harg6 arg7 harg7 arg8 harg8 arg9 harg9 arg10 harg10 x0 x1 x2 x3) (Rect.unit (s := S8x1x512) ![5, 0, 0] S1x1x512.size inb_S8x1x512_S1x1x512_5_0_0).toLoadRect)⟩ :: (kernelRun0_A.sl.HS0_5 c i arg3 harg3 arg4 harg4 arg5 harg5 arg6 harg6 arg7 harg7 arg8 harg8 arg9 harg9 arg10 harg10 x0 x1 x2 x3) := rfl

theorem ha_6 : (kernelRun0_A.sl.HS1_6 c i arg3 harg3 arg4 harg4 arg5 harg5 arg6 harg6 arg7 harg7 arg8 harg8 arg9 harg9 arg10 harg10 x0 x1 x2 x3) =
    ⟨Rect.unit (s := S8x80x512) ![5, 0, 0] S1x80x512.size inb_S8x80x512_S1x80x512_5_0_0,
      k0_pay109 (score0 (View.readAt (Elt F) arg5.view (Rect.unit (s := S1x4096x512) (k0_off27 i 0#32) S1x256x128.size (k0_off27_inb i 0)).toLoadRect (harg5.unread x2)) (k0_pay93 (View.readAt (Elt F) arg3.view (Rect.unit (s := S1x512x512) ![0, 0, 256] S1x512x128.size inb_S1x512x512_S1x512x128_0_0_256).toLoadRect (harg3.unread x0))))
        (arg9.view.readCov (kernelRun0_A.sl.HS0_5 c i arg3 harg3 arg4 harg4 arg5 harg5 arg6 harg6 arg7 harg7 arg8 harg8 arg9 harg9 arg10 harg10 x0 x1 x2 x3) (Rect.unit (s := S8x1x512) ![5, 0, 0] S1x1x512.size inb_S8x1x512_S1x1x512_5_0_0).toLoadRect)
        (View.readAt (Elt F) arg6.view (Rect.unit (s := S640x4096) (k0_off34 i 0#32) S80x256.size (k0_off34_inb i 0)).toLoadRect (harg6.unread x3))
        (arg10.view.readCov (kernelRun0_A.sl.HS1_5 c i arg3 harg3 arg4 harg4 arg5 harg5 arg6 harg6 arg7 harg7 arg8 harg8 arg9 harg9 arg10 harg10 x0 x1 x2 x3) (Rect.unit (s := S8x80x512) ![5, 0, 0] S1x80x512.size inb_S8x80x512_S1x80x512_5_0_0).toLoadRect)⟩ :: (kernelRun0_A.sl.HS1_5 c i arg3 harg3 arg4 harg4 arg5 harg5 arg6 harg6 arg7 harg7 arg8 harg8 arg9 harg9 arg10 harg10 x0 x1 x2 x3) := rfl

theorem hm_7 : (kernelRun0_A.sl.HS0_7 c i arg3 harg3 arg4 harg4 arg5 harg5 arg6 harg6 arg7 harg7 arg8 harg8 arg9 harg9 arg10 harg10 x0 x1 x2 x3) =
    ⟨Rect.unit (s := S8x1x512) ![6, 0, 0] S1x1x512.size inb_S8x1x512_S1x1x512_6_0_0,
      k0_pay108 (score0 (View.readAt (Elt F) arg4.view (Rect.unit (s := S1x4096x512) (k0_off28 i 0#32) S1x256x128.size (k0_off28_inb i 0)).toLoadRect (harg4.unread x1)) (k0_pay92 (View.readAt (Elt F) arg3.view (Rect.unit (s := S1x512x512) ![0, 0, 384] S1x512x128.size inb_S1x512x512_S1x512x128_0_0_384).toLoadRect (harg3.unread x0))))
        (arg9.view.readCov (kernelRun0_A.sl.HS0_6 c i arg3 harg3 arg4 harg4 arg5 harg5 arg6 harg6 arg7 harg7 arg8 harg8 arg9 harg9 arg10 harg10 x0 x1 x2 x3) (Rect.unit (s := S8x1x512) ![6, 0, 0] S1x1x512.size inb_S8x1x512_S1x1x512_6_0_0).toLoadRect)⟩ :: (kernelRun0_A.sl.HS0_6 c i arg3 harg3 arg4 harg4 arg5 harg5 arg6 harg6 arg7 harg7 arg8 harg8 arg9 harg9 arg10 harg10 x0 x1 x2 x3) := rfl

theorem ha_7 : (kernelRun0_A.sl.HS1_7 c i arg3 harg3 arg4 harg4 arg5 harg5 arg6 harg6 arg7 harg7 arg8 harg8 arg9 harg9 arg10 harg10 x0 x1 x2 x3) =
    ⟨Rect.unit (s := S8x80x512) ![6, 0, 0] S1x80x512.size inb_S8x80x512_S1x80x512_6_0_0,
      k0_pay109 (score0 (View.readAt (Elt F) arg4.view (Rect.unit (s := S1x4096x512) (k0_off28 i 0#32) S1x256x128.size (k0_off28_inb i 0)).toLoadRect (harg4.unread x1)) (k0_pay92 (View.readAt (Elt F) arg3.view (Rect.unit (s := S1x512x512) ![0, 0, 384] S1x512x128.size inb_S1x512x512_S1x512x128_0_0_384).toLoadRect (harg3.unread x0))))
        (arg9.view.readCov (kernelRun0_A.sl.HS0_6 c i arg3 harg3 arg4 harg4 arg5 harg5 arg6 harg6 arg7 harg7 arg8 harg8 arg9 harg9 arg10 harg10 x0 x1 x2 x3) (Rect.unit (s := S8x1x512) ![6, 0, 0] S1x1x512.size inb_S8x1x512_S1x1x512_6_0_0).toLoadRect)
        (View.readAt (Elt F) arg6.view (Rect.unit (s := S640x4096) (k0_off35 i 0#32) S80x256.size (k0_off35_inb i 0)).toLoadRect (harg6.unread x3))
        (arg10.view.readCov (kernelRun0_A.sl.HS1_6 c i arg3 harg3 arg4 harg4 arg5 harg5 arg6 harg6 arg7 harg7 arg8 harg8 arg9 harg9 arg10 harg10 x0 x1 x2 x3) (Rect.unit (s := S8x80x512) ![6, 0, 0] S1x80x512.size inb_S8x80x512_S1x80x512_6_0_0).toLoadRect)⟩ :: (kernelRun0_A.sl.HS1_6 c i arg3 harg3 arg4 harg4 arg5 harg5 arg6 harg6 arg7 harg7 arg8 harg8 arg9 harg9 arg10 harg10 x0 x1 x2 x3) := rfl

theorem hm_8 : (kernelRun0_A.sl.HS0_8 c i arg3 harg3 arg4 harg4 arg5 harg5 arg6 harg6 arg7 harg7 arg8 harg8 arg9 harg9 arg10 harg10 x0 x1 x2 x3) =
    ⟨Rect.unit (s := S8x1x512) ![7, 0, 0] S1x1x512.size inb_S8x1x512_S1x1x512_7_0_0,
      k0_pay108 (score0 (View.readAt (Elt F) arg5.view (Rect.unit (s := S1x4096x512) (k0_off28 i 0#32) S1x256x128.size (k0_off28_inb i 0)).toLoadRect (harg5.unread x2)) (k0_pay93 (View.readAt (Elt F) arg3.view (Rect.unit (s := S1x512x512) ![0, 0, 384] S1x512x128.size inb_S1x512x512_S1x512x128_0_0_384).toLoadRect (harg3.unread x0))))
        (arg9.view.readCov (kernelRun0_A.sl.HS0_7 c i arg3 harg3 arg4 harg4 arg5 harg5 arg6 harg6 arg7 harg7 arg8 harg8 arg9 harg9 arg10 harg10 x0 x1 x2 x3) (Rect.unit (s := S8x1x512) ![7, 0, 0] S1x1x512.size inb_S8x1x512_S1x1x512_7_0_0).toLoadRect)⟩ :: (kernelRun0_A.sl.HS0_7 c i arg3 harg3 arg4 harg4 arg5 harg5 arg6 harg6 arg7 harg7 arg8 harg8 arg9 harg9 arg10 harg10 x0 x1 x2 x3) := rfl

theorem ha_8 : (kernelRun0_A.sl.HS1_8 c i arg3 harg3 arg4 harg4 arg5 harg5 arg6 harg6 arg7 harg7 arg8 harg8 arg9 harg9 arg10 harg10 x0 x1 x2 x3) =
    ⟨Rect.unit (s := S8x80x512) ![7, 0, 0] S1x80x512.size inb_S8x80x512_S1x80x512_7_0_0,
      k0_pay109 (score0 (View.readAt (Elt F) arg5.view (Rect.unit (s := S1x4096x512) (k0_off28 i 0#32) S1x256x128.size (k0_off28_inb i 0)).toLoadRect (harg5.unread x2)) (k0_pay93 (View.readAt (Elt F) arg3.view (Rect.unit (s := S1x512x512) ![0, 0, 384] S1x512x128.size inb_S1x512x512_S1x512x128_0_0_384).toLoadRect (harg3.unread x0))))
        (arg9.view.readCov (kernelRun0_A.sl.HS0_7 c i arg3 harg3 arg4 harg4 arg5 harg5 arg6 harg6 arg7 harg7 arg8 harg8 arg9 harg9 arg10 harg10 x0 x1 x2 x3) (Rect.unit (s := S8x1x512) ![7, 0, 0] S1x1x512.size inb_S8x1x512_S1x1x512_7_0_0).toLoadRect)
        (View.readAt (Elt F) arg6.view (Rect.unit (s := S640x4096) (k0_off36 i 0#32) S80x256.size (k0_off36_inb i 0)).toLoadRect (harg6.unread x3))
        (arg10.view.readCov (kernelRun0_A.sl.HS1_7 c i arg3 harg3 arg4 harg4 arg5 harg5 arg6 harg6 arg7 harg7 arg8 harg8 arg9 harg9 arg10 harg10 x0 x1 x2 x3) (Rect.unit (s := S8x80x512) ![7, 0, 0] S1x80x512.size inb_S8x80x512_S1x80x512_7_0_0).toLoadRect)⟩ :: (kernelRun0_A.sl.HS1_7 c i arg3 harg3 arg4 harg4 arg5 harg5 arg6 harg6 arg7 harg7 arg8 harg8 arg9 harg9 arg10 harg10 x0 x1 x2 x3) := rfl

theorem hm_9 : (kernelRun0_A.sl.HS0_9 c i arg3 harg3 arg4 harg4 arg5 harg5 arg6 harg6 arg7 harg7 arg8 harg8 arg9 harg9 arg10 harg10 x0 x1 x2 x3) =
    ⟨Rect.unit (s := S8x1x512) ![0, 0, 256] S1x1x256.size inb_S8x1x512_S1x1x256_0_0_256,
      k0_pay173 (score1 (View.readAt (Elt F) arg4.view (Rect.unit (s := S1x4096x512) (k0_off25 i 1#32) S1x256x128.size (k0_off25_inb i 1)).toLoadRect (harg4.unread x1)) (k0_pay92 (View.readAt (Elt F) arg3.view (Rect.unit (s := S1x512x512) ![0, 0, 0] S1x512x128.size inb_S1x512x512_S1x512x128_0_0_0).toLoadRect (harg3.unread x0))))
        (arg9.view.readCov (kernelRun0_A.sl.HS0_8 c i arg3 harg3 arg4 harg4 arg5 harg5 arg6 harg6 arg7 harg7 arg8 harg8 arg9 harg9 arg10 harg10 x0 x1 x2 x3) (Rect.unit (s := S8x1x512) ![0, 0, 256] S1x1x256.size inb_S8x1x512_S1x1x256_0_0_256).toLoadRect)⟩ :: (kernelRun0_A.sl.HS0_8 c i arg3 harg3 arg4 harg4 arg5 harg5 arg6 harg6 arg7 harg7 arg8 harg8 arg9 harg9 arg10 harg10 x0 x1 x2 x3) := rfl

theorem ha_9 : (kernelRun0_A.sl.HS1_9 c i arg3 harg3 arg4 harg4 arg5 harg5 arg6 harg6 arg7 harg7 arg8 harg8 arg9 harg9 arg10 harg10 x0 x1 x2 x3) =
    ⟨Rect.unit (s := S8x80x512) ![0, 0, 256] S1x80x256.size inb_S8x80x512_S1x80x256_0_0_256,
      k0_pay186 (score1 (View.readAt (Elt F) arg4.view (Rect.unit (s := S1x4096x512) (k0_off25 i 1#32) S1x256x128.size (k0_off25_inb i 1)).toLoadRect (harg4.unread x1)) (k0_pay92 (View.readAt (Elt F) arg3.view (Rect.unit (s := S1x512x512) ![0, 0, 0] S1x512x128.size inb_S1x512x512_S1x512x128_0_0_0).toLoadRect (harg3.unread x0))))
        (arg9.view.readCov (kernelRun0_A.sl.HS0_8 c i arg3 harg3 arg4 harg4 arg5 harg5 arg6 harg6 arg7 harg7 arg8 harg8 arg9 harg9 arg10 harg10 x0 x1 x2 x3) (Rect.unit (s := S8x1x512) ![0, 0, 256] S1x1x256.size inb_S8x1x512_S1x1x256_0_0_256).toLoadRect)
        (View.readAt (Elt F) arg6.view (Rect.unit (s := S640x4096) (k0_off29 i 1#32) S80x256.size (k0_off29_inb i 1)).toLoadRect (harg6.unread x3))
        (arg10.view.readCov (kernelRun0_A.sl.HS1_8 c i arg3 harg3 arg4 harg4 arg5 harg5 arg6 harg6 arg7 harg7 arg8 harg8 arg9 harg9 arg10 harg10 x0 x1 x2 x3) (Rect.unit (s := S8x80x512) ![0, 0, 256] S1x80x256.size inb_S8x80x512_S1x80x256_0_0_256).toLoadRect)⟩ :: (kernelRun0_A.sl.HS1_8 c i arg3 harg3 arg4 harg4 arg5 harg5 arg6 harg6 arg7 harg7 arg8 harg8 arg9 harg9 arg10 harg10 x0 x1 x2 x3) := rfl

theorem hm_10 : (kernelRun0_A.sl.HS0_10 c i arg3 harg3 arg4 harg4 arg5 harg5 arg6 harg6 arg7 harg7 arg8 harg8 arg9 harg9 arg10 harg10 x0 x1 x2 x3) =
    ⟨Rect.unit (s := S8x1x512) ![1, 0, 256] S1x1x256.size inb_S8x1x512_S1x1x256_1_0_256,
      k0_pay173 (score1 (View.readAt (Elt F) arg5.view (Rect.unit (s := S1x4096x512) (k0_off25 i 1#32) S1x256x128.size (k0_off25_inb i 1)).toLoadRect (harg5.unread x2)) (k0_pay93 (View.readAt (Elt F) arg3.view (Rect.unit (s := S1x512x512) ![0, 0, 0] S1x512x128.size inb_S1x512x512_S1x512x128_0_0_0).toLoadRect (harg3.unread x0))))
        (arg9.view.readCov (kernelRun0_A.sl.HS0_9 c i arg3 harg3 arg4 harg4 arg5 harg5 arg6 harg6 arg7 harg7 arg8 harg8 arg9 harg9 arg10 harg10 x0 x1 x2 x3) (Rect.unit (s := S8x1x512) ![1, 0, 256] S1x1x256.size inb_S8x1x512_S1x1x256_1_0_256).toLoadRect)⟩ :: (kernelRun0_A.sl.HS0_9 c i arg3 harg3 arg4 harg4 arg5 harg5 arg6 harg6 arg7 harg7 arg8 harg8 arg9 harg9 arg10 harg10 x0 x1 x2 x3) := rfl

theorem ha_10 : (kernelRun0_A.sl.HS1_10 c i arg3 harg3 arg4 harg4 arg5 harg5 arg6 harg6 arg7 harg7 arg8 harg8 arg9 harg9 arg10 harg10 x0 x1 x2 x3) =
    ⟨Rect.unit (s := S8x80x512) ![1, 0, 256] S1x80x256.size inb_S8x80x512_S1x80x256_1_0_256,
      k0_pay186 (score1 (View.readAt (Elt F) arg5.view (Rect.unit (s := S1x4096x512) (k0_off25 i 1#32) S1x256x128.size (k0_off25_inb i 1)).toLoadRect (harg5.unread x2)) (k0_pay93 (View.readAt (Elt F) arg3.view (Rect.unit (s := S1x512x512) ![0, 0, 0] S1x512x128.size inb_S1x512x512_S1x512x128_0_0_0).toLoadRect (harg3.unread x0))))
        (arg9.view.readCov (kernelRun0_A.sl.HS0_9 c i arg3 harg3 arg4 harg4 arg5 harg5 arg6 harg6 arg7 harg7 arg8 harg8 arg9 harg9 arg10 harg10 x0 x1 x2 x3) (Rect.unit (s := S8x1x512) ![1, 0, 256] S1x1x256.size inb_S8x1x512_S1x1x256_1_0_256).toLoadRect)
        (View.readAt (Elt F) arg6.view (Rect.unit (s := S640x4096) (k0_off30 i 1#32) S80x256.size (k0_off30_inb i 1)).toLoadRect (harg6.unread x3))
        (arg10.view.readCov (kernelRun0_A.sl.HS1_9 c i arg3 harg3 arg4 harg4 arg5 harg5 arg6 harg6 arg7 harg7 arg8 harg8 arg9 harg9 arg10 harg10 x0 x1 x2 x3) (Rect.unit (s := S8x80x512) ![1, 0, 256] S1x80x256.size inb_S8x80x512_S1x80x256_1_0_256).toLoadRect)⟩ :: (kernelRun0_A.sl.HS1_9 c i arg3 harg3 arg4 harg4 arg5 harg5 arg6 harg6 arg7 harg7 arg8 harg8 arg9 harg9 arg10 harg10 x0 x1 x2 x3) := rfl

theorem hm_11 : (kernelRun0_A.sl.HS0_11 c i arg3 harg3 arg4 harg4 arg5 harg5 arg6 harg6 arg7 harg7 arg8 harg8 arg9 harg9 arg10 harg10 x0 x1 x2 x3) =
    ⟨Rect.unit (s := S8x1x512) ![2, 0, 256] S1x1x256.size inb_S8x1x512_S1x1x256_2_0_256,
      k0_pay173 (score1 (View.readAt (Elt F) arg4.view (Rect.unit (s := S1x4096x512) (k0_off26 i 1#32) S1x256x128.size (k0_off26_inb i 1)).toLoadRect (harg4.unread x1)) (k0_pay92 (View.readAt (Elt F) arg3.view (Rect.unit (s := S1x512x512) ![0, 0, 128] S1x512x128.size inb_S1x512x512_S1x512x128_0_0_128).toLoadRect (harg3.unread x0))))
        (arg9.view.readCov (kernelRun0_A.sl.HS0_10 c i arg3 harg3 arg4 harg4 arg5 harg5 arg6 harg6 arg7 harg7 arg8 harg8 arg9 harg9 arg10 harg10 x0 x1 x2 x3) (Rect.unit (s := S8x1x512) ![2, 0, 256] S1x1x256.size inb_S8x1x512_S1x1x256_2_0_256).toLoadRect)⟩ :: (kernelRun0_A.sl.HS0_10 c i arg3 harg3 arg4 harg4 arg5 harg5 arg6 harg6 arg7 harg7 arg8 harg8 arg9 harg9 arg10 harg10 x0 x1 x2 x3) := rfl

theorem ha_11 : (kernelRun0_A.sl.HS1_11 c i arg3 harg3 arg4 harg4 arg5 harg5 arg6 harg6 arg7 harg7 arg8 harg8 arg9 harg9 arg10 harg10 x0 x1 x2 x3) =
    ⟨Rect.unit (s := S8x80x512) ![2, 0, 256] S1x80x256.size inb_S8x80x512_S1x80x256_2_0_256,
      k0_pay186 (score1 (View.readAt (Elt F) arg4.view (Rect.unit (s := S1x4096x512) (k0_off26 i 1#32) S1x256x128.size (k0_off26_inb i 1)).toLoadRect (harg4.unread x1)) (k0_pay92 (View.readAt (Elt F) arg3.view (Rect.unit (s := S1x512x512) ![0, 0, 128] S1x512x128.size inb_S1x512x512_S1x512x128_0_0_128).toLoadRect (harg3.unread x0))))
        (arg9.view.readCov (kernelRun0_A.sl.HS0_10 c i arg3 harg3 arg4 harg4 arg5 harg5 arg6 harg6 arg7 harg7 arg8 harg8 arg9 harg9 arg10 harg10 x0 x1 x2 x3) (Rect.unit (s := S8x1x512) ![2, 0, 256] S1x1x256.size inb_S8x1x512_S1x1x256_2_0_256).toLoadRect)
        (View.readAt (Elt F) arg6.view (Rect.unit (s := S640x4096) (k0_off31 i 1#32) S80x256.size (k0_off31_inb i 1)).toLoadRect (harg6.unread x3))
        (arg10.view.readCov (kernelRun0_A.sl.HS1_10 c i arg3 harg3 arg4 harg4 arg5 harg5 arg6 harg6 arg7 harg7 arg8 harg8 arg9 harg9 arg10 harg10 x0 x1 x2 x3) (Rect.unit (s := S8x80x512) ![2, 0, 256] S1x80x256.size inb_S8x80x512_S1x80x256_2_0_256).toLoadRect)⟩ :: (kernelRun0_A.sl.HS1_10 c i arg3 harg3 arg4 harg4 arg5 harg5 arg6 harg6 arg7 harg7 arg8 harg8 arg9 harg9 arg10 harg10 x0 x1 x2 x3) := rfl

theorem hm_12 : (kernelRun0_A.sl.HS0_12 c i arg3 harg3 arg4 harg4 arg5 harg5 arg6 harg6 arg7 harg7 arg8 harg8 arg9 harg9 arg10 harg10 x0 x1 x2 x3) =
    ⟨Rect.unit (s := S8x1x512) ![3, 0, 256] S1x1x256.size inb_S8x1x512_S1x1x256_3_0_256,
      k0_pay173 (score1 (View.readAt (Elt F) arg5.view (Rect.unit (s := S1x4096x512) (k0_off26 i 1#32) S1x256x128.size (k0_off26_inb i 1)).toLoadRect (harg5.unread x2)) (k0_pay93 (View.readAt (Elt F) arg3.view (Rect.unit (s := S1x512x512) ![0, 0, 128] S1x512x128.size inb_S1x512x512_S1x512x128_0_0_128).toLoadRect (harg3.unread x0))))
        (arg9.view.readCov (kernelRun0_A.sl.HS0_11 c i arg3 harg3 arg4 harg4 arg5 harg5 arg6 harg6 arg7 harg7 arg8 harg8 arg9 harg9 arg10 harg10 x0 x1 x2 x3) (Rect.unit (s := S8x1x512) ![3, 0, 256] S1x1x256.size inb_S8x1x512_S1x1x256_3_0_256).toLoadRect)⟩ :: (kernelRun0_A.sl.HS0_11 c i arg3 harg3 arg4 harg4 arg5 harg5 arg6 harg6 arg7 harg7 arg8 harg8 arg9 harg9 arg10 harg10 x0 x1 x2 x3) := rfl

theorem ha_12 : (kernelRun0_A.sl.HS1_12 c i arg3 harg3 arg4 harg4 arg5 harg5 arg6 harg6 arg7 harg7 arg8 harg8 arg9 harg9 arg10 harg10 x0 x1 x2 x3) =
    ⟨Rect.unit (s := S8x80x512) ![3, 0, 256] S1x80x256.size inb_S8x80x512_S1x80x256_3_0_256,
      k0_pay186 (score1 (View.readAt (Elt F) arg5.view (Rect.unit (s := S1x4096x512) (k0_off26 i 1#32) S1x256x128.size (k0_off26_inb i 1)).toLoadRect (harg5.unread x2)) (k0_pay93 (View.readAt (Elt F) arg3.view (Rect.unit (s := S1x512x512) ![0, 0, 128] S1x512x128.size inb_S1x512x512_S1x512x128_0_0_128).toLoadRect (harg3.unread x0))))
        (arg9.view.readCov (kernelRun0_A.sl.HS0_11 c i arg3 harg3 arg4 harg4 arg5 harg5 arg6 harg6 arg7 harg7 arg8 harg8 arg9 harg9 arg10 harg10 x0 x1 x2 x3) (Rect.unit (s := S8x1x512) ![3, 0, 256] S1x1x256.size inb_S8x1x512_S1x1x256_3_0_256).toLoadRect)
        (View.readAt (Elt F) arg6.view (Rect.unit (s := S640x4096) (k0_off32 i 1#32) S80x256.size (k0_off32_inb i 1)).toLoadRect (harg6.unread x3))
        (arg10.view.readCov (kernelRun0_A.sl.HS1_11 c i arg3 harg3 arg4 harg4 arg5 harg5 arg6 harg6 arg7 harg7 arg8 harg8 arg9 harg9 arg10 harg10 x0 x1 x2 x3) (Rect.unit (s := S8x80x512) ![3, 0, 256] S1x80x256.size inb_S8x80x512_S1x80x256_3_0_256).toLoadRect)⟩ :: (kernelRun0_A.sl.HS1_11 c i arg3 harg3 arg4 harg4 arg5 harg5 arg6 harg6 arg7 harg7 arg8 harg8 arg9 harg9 arg10 harg10 x0 x1 x2 x3) := rfl

theorem hm_13 : (kernelRun0_A.sl.HS0_13 c i arg3 harg3 arg4 harg4 arg5 harg5 arg6 harg6 arg7 harg7 arg8 harg8 arg9 harg9 arg10 harg10 x0 x1 x2 x3) =
    ⟨Rect.unit (s := S8x1x512) ![4, 0, 256] S1x1x256.size inb_S8x1x512_S1x1x256_4_0_256,
      k0_pay173 (score1 (View.readAt (Elt F) arg4.view (Rect.unit (s := S1x4096x512) (k0_off27 i 1#32) S1x256x128.size (k0_off27_inb i 1)).toLoadRect (harg4.unread x1)) (k0_pay92 (View.readAt (Elt F) arg3.view (Rect.unit (s := S1x512x512) ![0, 0, 256] S1x512x128.size inb_S1x512x512_S1x512x128_0_0_256).toLoadRect (harg3.unread x0))))
        (arg9.view.readCov (kernelRun0_A.sl.HS0_12 c i arg3 harg3 arg4 harg4 arg5 harg5 arg6 harg6 arg7 harg7 arg8 harg8 arg9 harg9 arg10 harg10 x0 x1 x2 x3) (Rect.unit (s := S8x1x512) ![4, 0, 256] S1x1x256.size inb_S8x1x512_S1x1x256_4_0_256).toLoadRect)⟩ :: (kernelRun0_A.sl.HS0_12 c i arg3 harg3 arg4 harg4 arg5 harg5 arg6 harg6 arg7 harg7 arg8 harg8 arg9 harg9 arg10 harg10 x0 x1 x2 x3) := rfl

theorem ha_13 : (kernelRun0_A.sl.HS1_13 c i arg3 harg3 arg4 harg4 arg5 harg5 arg6 harg6 arg7 harg7 arg8 harg8 arg9 harg9 arg10 harg10 x0 x1 x2 x3) =
    ⟨Rect.unit (s := S8x80x512) ![4, 0, 256] S1x80x256.size inb_S8x80x512_S1x80x256_4_0_256,
      k0_pay186 (score1 (View.readAt (Elt F) arg4.view (Rect.unit (s := S1x4096x512) (k0_off27 i 1#32) S1x256x128.size (k0_off27_inb i 1)).toLoadRect (harg4.unread x1)) (k0_pay92 (View.readAt (Elt F) arg3.view (Rect.unit (s := S1x512x512) ![0, 0, 256] S1x512x128.size inb_S1x512x512_S1x512x128_0_0_256).toLoadRect (harg3.unread x0))))
        (arg9.view.readCov (kernelRun0_A.sl.HS0_12 c i arg3 harg3 arg4 harg4 arg5 harg5 arg6 harg6 arg7 harg7 arg8 harg8 arg9 harg9 arg10 harg10 x0 x1 x2 x3) (Rect.unit (s := S8x1x512) ![4, 0, 256] S1x1x256.size inb_S8x1x512_S1x1x256_4_0_256).toLoadRect)
        (View.readAt (Elt F) arg6.view (Rect.unit (s := S640x4096) (k0_off33 i 1#32) S80x256.size (k0_off33_inb i 1)).toLoadRect (harg6.unread x3))
        (arg10.view.readCov (kernelRun0_A.sl.HS1_12 c i arg3 harg3 arg4 harg4 arg5 harg5 arg6 harg6 arg7 harg7 arg8 harg8 arg9 harg9 arg10 harg10 x0 x1 x2 x3) (Rect.unit (s := S8x80x512) ![4, 0, 256] S1x80x256.size inb_S8x80x512_S1x80x256_4_0_256).toLoadRect)⟩ :: (kernelRun0_A.sl.HS1_12 c i arg3 harg3 arg4 harg4 arg5 harg5 arg6 harg6 arg7 harg7 arg8 harg8 arg9 harg9 arg10 harg10 x0 x1 x2 x3) := rfl

theorem hm_14 : (kernelRun0_A.sl.HS0_14 c i arg3 harg3 arg4 harg4 arg5 harg5 arg6 harg6 arg7 harg7 arg8 harg8 arg9 harg9 arg10 harg10 x0 x1 x2 x3) =
    ⟨Rect.unit (s := S8x1x512) ![5, 0, 256] S1x1x256.size inb_S8x1x512_S1x1x256_5_0_256,
      k0_pay173 (score1 (View.readAt (Elt F) arg5.view (Rect.unit (s := S1x4096x512) (k0_off27 i 1#32) S1x256x128.size (k0_off27_inb i 1)).toLoadRect (harg5.unread x2)) (k0_pay93 (View.readAt (Elt F) arg3.view (Rect.unit (s := S1x512x512) ![0, 0, 256] S1x512x128.size inb_S1x512x512_S1x512x128_0_0_256).toLoadRect (harg3.unread x0))))
        (arg9.view.readCov (kernelRun0_A.sl.HS0_13 c i arg3 harg3 arg4 harg4 arg5 harg5 arg6 harg6 arg7 harg7 arg8 harg8 arg9 harg9 arg10 harg10 x0 x1 x2 x3) (Rect.unit (s := S8x1x512) ![5, 0, 256] S1x1x256.size inb_S8x1x512_S1x1x256_5_0_256).toLoadRect)⟩ :: (kernelRun0_A.sl.HS0_13 c i arg3 harg3 arg4 harg4 arg5 harg5 arg6 harg6 arg7 harg7 arg8 harg8 arg9 harg9 arg10 harg10 x0 x1 x2 x3) := rfl

theorem ha_14 : (kernelRun0_A.sl.HS1_14 c i arg3 harg3 arg4 harg4 arg5 harg5 arg6 harg6 arg7 harg7 arg8 harg8 arg9 harg9 arg10 harg10 x0 x1 x2 x3) =
    ⟨Rect.unit (s := S8x80x512) ![5, 0, 256] S1x80x256.size inb_S8x80x512_S1x80x256_5_0_256,
      k0_pay186 (score1 (View.readAt (Elt F) arg5.view (Rect.unit (s := S1x4096x512) (k0_off27 i 1#32) S1x256x128.size (k0_off27_inb i 1)).toLoadRect (harg5.unread x2)) (k0_pay93 (View.readAt (Elt F) arg3.view (Rect.unit (s := S1x512x512) ![0, 0, 256] S1x512x128.size inb_S1x512x512_S1x512x128_0_0_256).toLoadRect (harg3.unread x0))))
        (arg9.view.readCov (kernelRun0_A.sl.HS0_13 c i arg3 harg3 arg4 harg4 arg5 harg5 arg6 harg6 arg7 harg7 arg8 harg8 arg9 harg9 arg10 harg10 x0 x1 x2 x3) (Rect.unit (s := S8x1x512) ![5, 0, 256] S1x1x256.size inb_S8x1x512_S1x1x256_5_0_256).toLoadRect)
        (View.readAt (Elt F) arg6.view (Rect.unit (s := S640x4096) (k0_off34 i 1#32) S80x256.size (k0_off34_inb i 1)).toLoadRect (harg6.unread x3))
        (arg10.view.readCov (kernelRun0_A.sl.HS1_13 c i arg3 harg3 arg4 harg4 arg5 harg5 arg6 harg6 arg7 harg7 arg8 harg8 arg9 harg9 arg10 harg10 x0 x1 x2 x3) (Rect.unit (s := S8x80x512) ![5, 0, 256] S1x80x256.size inb_S8x80x512_S1x80x256_5_0_256).toLoadRect)⟩ :: (kernelRun0_A.sl.HS1_13 c i arg3 harg3 arg4 harg4 arg5 harg5 arg6 harg6 arg7 harg7 arg8 harg8 arg9 harg9 arg10 harg10 x0 x1 x2 x3) := rfl

theorem hm_15 : (kernelRun0_A.sl.HS0_15 c i arg3 harg3 arg4 harg4 arg5 harg5 arg6 harg6 arg7 harg7 arg8 harg8 arg9 harg9 arg10 harg10 x0 x1 x2 x3) =
    ⟨Rect.unit (s := S8x1x512) ![6, 0, 256] S1x1x256.size inb_S8x1x512_S1x1x256_6_0_256,
      k0_pay173 (score1 (View.readAt (Elt F) arg4.view (Rect.unit (s := S1x4096x512) (k0_off28 i 1#32) S1x256x128.size (k0_off28_inb i 1)).toLoadRect (harg4.unread x1)) (k0_pay92 (View.readAt (Elt F) arg3.view (Rect.unit (s := S1x512x512) ![0, 0, 384] S1x512x128.size inb_S1x512x512_S1x512x128_0_0_384).toLoadRect (harg3.unread x0))))
        (arg9.view.readCov (kernelRun0_A.sl.HS0_14 c i arg3 harg3 arg4 harg4 arg5 harg5 arg6 harg6 arg7 harg7 arg8 harg8 arg9 harg9 arg10 harg10 x0 x1 x2 x3) (Rect.unit (s := S8x1x512) ![6, 0, 256] S1x1x256.size inb_S8x1x512_S1x1x256_6_0_256).toLoadRect)⟩ :: (kernelRun0_A.sl.HS0_14 c i arg3 harg3 arg4 harg4 arg5 harg5 arg6 harg6 arg7 harg7 arg8 harg8 arg9 harg9 arg10 harg10 x0 x1 x2 x3) := rfl

theorem ha_15 : (kernelRun0_A.sl.HS1_15 c i arg3 harg3 arg4 harg4 arg5 harg5 arg6 harg6 arg7 harg7 arg8 harg8 arg9 harg9 arg10 harg10 x0 x1 x2 x3) =
    ⟨Rect.unit (s := S8x80x512) ![6, 0, 256] S1x80x256.size inb_S8x80x512_S1x80x256_6_0_256,
      k0_pay186 (score1 (View.readAt (Elt F) arg4.view (Rect.unit (s := S1x4096x512) (k0_off28 i 1#32) S1x256x128.size (k0_off28_inb i 1)).toLoadRect (harg4.unread x1)) (k0_pay92 (View.readAt (Elt F) arg3.view (Rect.unit (s := S1x512x512) ![0, 0, 384] S1x512x128.size inb_S1x512x512_S1x512x128_0_0_384).toLoadRect (harg3.unread x0))))
        (arg9.view.readCov (kernelRun0_A.sl.HS0_14 c i arg3 harg3 arg4 harg4 arg5 harg5 arg6 harg6 arg7 harg7 arg8 harg8 arg9 harg9 arg10 harg10 x0 x1 x2 x3) (Rect.unit (s := S8x1x512) ![6, 0, 256] S1x1x256.size inb_S8x1x512_S1x1x256_6_0_256).toLoadRect)
        (View.readAt (Elt F) arg6.view (Rect.unit (s := S640x4096) (k0_off35 i 1#32) S80x256.size (k0_off35_inb i 1)).toLoadRect (harg6.unread x3))
        (arg10.view.readCov (kernelRun0_A.sl.HS1_14 c i arg3 harg3 arg4 harg4 arg5 harg5 arg6 harg6 arg7 harg7 arg8 harg8 arg9 harg9 arg10 harg10 x0 x1 x2 x3) (Rect.unit (s := S8x80x512) ![6, 0, 256] S1x80x256.size inb_S8x80x512_S1x80x256_6_0_256).toLoadRect)⟩ :: (kernelRun0_A.sl.HS1_14 c i arg3 harg3 arg4 harg4 arg5 harg5 arg6 harg6 arg7 harg7 arg8 harg8 arg9 harg9 arg10 harg10 x0 x1 x2 x3) := rfl

theorem ha_16 : (kernelRun0_A.sl.HS1_16 c i arg3 harg3 arg4 harg4 arg5 harg5 arg6 harg6 arg7 harg7 arg8 harg8 arg9 harg9 arg10 harg10 x0 x1 x2 x3) =
    ⟨Rect.unit (s := S8x80x512) ![7, 0, 256] S1x80x256.size inb_S8x80x512_S1x80x256_7_0_256,
      k0_pay186 (score1 (View.readAt (Elt F) arg5.view (Rect.unit (s := S1x4096x512) (k0_off28 i 1#32) S1x256x128.size (k0_off28_inb i 1)).toLoadRect (harg5.unread x2)) (k0_pay93 (View.readAt (Elt F) arg3.view (Rect.unit (s := S1x512x512) ![0, 0, 384] S1x512x128.size inb_S1x512x512_S1x512x128_0_0_384).toLoadRect (harg3.unread x0))))
        (arg9.view.readCov (kernelRun0_A.sl.HS0_15 c i arg3 harg3 arg4 harg4 arg5 harg5 arg6 harg6 arg7 harg7 arg8 harg8 arg9 harg9 arg10 harg10 x0 x1 x2 x3) (Rect.unit (s := S8x1x512) ![7, 0, 256] S1x1x256.size inb_S8x1x512_S1x1x256_7_0_256).toLoadRect)
        (View.readAt (Elt F) arg6.view (Rect.unit (s := S640x4096) (k0_off36 i 1#32) S80x256.size (k0_off36_inb i 1)).toLoadRect (harg6.unread x3))
        (arg10.view.readCov (kernelRun0_A.sl.HS1_15 c i arg3 harg3 arg4 harg4 arg5 harg5 arg6 harg6 arg7 harg7 arg8 harg8 arg9 harg9 arg10 harg10 x0 x1 x2 x3) (Rect.unit (s := S8x80x512) ![7, 0, 256] S1x80x256.size inb_S8x80x512_S1x80x256_7_0_256).toLoadRect)⟩ :: (kernelRun0_A.sl.HS1_15 c i arg3 harg3 arg4 harg4 arg5 harg5 arg6 harg6 arg7 harg7 arg8 harg8 arg9 harg9 arg10 harg10 x0 x1 x2 x3) := rfl

theorem out_pieces (x4 : Vec F S1x512x512 .f32) : (kernelRun0_A c i arg3 harg3 arg4 harg4 arg5 harg5 arg6 harg6 arg7 harg7 arg8 harg8 arg9 harg9 arg10 harg10 x0 x1 x2 x3 x4).1 =
    [⟨Rect.unit (s := S1x512x512) ![0, 0, 384] S1x512x128.size inb_S1x512x512_S1x512x128_0_0_384, fin (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![6, 0, 0] S1x80x512.size inb_S8x80x512_S1x80x512_6_0_0).toLoadRect) (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![7, 0, 0] S1x80x512.size inb_S8x80x512_S1x80x512_7_0_0).toLoadRect) (View.readAt (Elt F) arg7.view (Rect.unit (s := S1x512x512) ![0, 0, 384] S1x512x128.size inb_S1x512x512_S1x512x128_0_0_384).toLoadRect (harg7.unread x4))⟩,
     ⟨Rect.unit (s := S1x512x512) ![0, 0, 256] S1x512x128.size inb_S1x512x512_S1x512x128_0_0_256, fin (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![4, 0, 0] S1x80x512.size inb_S8x80x512_S1x80x512_4_0_0).toLoadRect) (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![5, 0, 0] S1x80x512.size inb_S8x80x512_S1x80x512_5_0_0).toLoadRect) (View.readAt (Elt F) arg7.view (Rect.unit (s := S1x512x512) ![0, 0, 256] S1x512x128.size inb_S1x512x512_S1x512x128_0_0_256).toLoadRect (harg7.unread x4))⟩,
     ⟨Rect.unit (s := S1x512x512) ![0, 0, 128] S1x512x128.size inb_S1x512x512_S1x512x128_0_0_128, fin (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![2, 0, 0] S1x80x512.size inb_S8x80x512_S1x80x512_2_0_0).toLoadRect) (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![3, 0, 0] S1x80x512.size inb_S8x80x512_S1x80x512_3_0_0).toLoadRect) (View.readAt (Elt F) arg7.view (Rect.unit (s := S1x512x512) ![0, 0, 128] S1x512x128.size inb_S1x512x512_S1x512x128_0_0_128).toLoadRect (harg7.unread x4))⟩,
     ⟨Rect.unit (s := S1x512x512) ![0, 0, 0] S1x512x128.size inb_S1x512x512_S1x512x128_0_0_0, fin (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![0, 0, 0] S1x80x512.size inb_S8x80x512_S1x80x512_0_0_0).toLoadRect) (arg10.view.readCov (kernelRun0_A.sl.HS1_16 c i arg3 harg3 arg4 harg4 arg5 harg5 arg6 harg6 arg7 harg7 arg8 harg8 arg9 harg9 arg10 harg10 x0 x1 x2 x3) (Rect.unit (s := S8x80x512) ![1, 0, 0] S1x80x512.size inb_S8x80x512_S1x80x512_1_0_0).toLoadRect) (View.readAt (Elt F) arg7.view (Rect.unit (s := S1x512x512) ![0, 0, 0] S1x512x128.size inb_S1x512x512_S1x512x128_0_0_0).toLoadRect (harg7.unread x4))⟩] := rfl

/-- What the loop leaves in the two scratch arrays after `n` trips, over what the fill left. -/
def loopM (n : ℕ) : List (View.Piece (Elt F) S8x1x512 .f32) :=
  (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) n).1 ++ kernelRun0_A.sl.HS0_1

def loopA (n : ℕ) : List (View.Piece (Elt F) S8x80x512 .f32) :=
  (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) n).2 ++ kernelRun0_A.sl.HS1_1

theorem baseM (h2 : Scf.trips (k0_t2_loop i).lb (k0_t2_loop i).ub (k0_t2_loop i).st = 0) : (kernelRun0_A.sl.HS0_1_1 c i arg3 harg3 arg4 harg4 arg5 harg5 arg6 harg6 arg7 harg7 arg8 harg8 arg9 harg9 arg10 harg10 x0 x1 x2 x3).tail = loopM c i arg3 harg3 arg4 harg4 arg5 harg5 arg6 harg6 arg7 harg7 arg8 harg8 arg9 harg9 arg10 harg10 x0 x1 x2 x3 (Scf.trips (k0_t1_loop i).lb (k0_t1_loop i).ub (k0_t1_loop i).st) := by
  have e : (kernelRun0_A.sl.HS0_1_1 c i arg3 harg3 arg4 harg4 arg5 harg5 arg6 harg6 arg7 harg7 arg8 harg8 arg9 harg9 arg10 harg10 x0 x1 x2 x3).tail = (pb_k0_t2 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (kernelRun0_A.sl.v65 i) (harg4.unread x1) (harg5.unread x2) (harg6.unread x3) (arg9.view.writes (Elt F) arg9.view.junk (loopM c i arg3 harg3 arg4 harg4 arg5 harg5 arg6 harg6 arg7 harg7 arg8 harg8 arg9 harg9 arg10 harg10 x0 x1 x2 x3 (Scf.trips (k0_t1_loop i).lb (k0_t1_loop i).ub (k0_t1_loop i).st))) (arg10.view.writes (Elt F) arg10.view.junk (loopA c i arg3 harg3 arg4 harg4 arg5 harg5 arg6 harg6 arg7 harg7 arg8 harg8 arg9 harg9 arg10 harg10 x0 x1 x2 x3 (Scf.trips (k0_t1_loop i).lb (k0_t1_loop i).ub (k0_t1_loop i).st))) (Scf.trips (k0_t2_loop i).lb (k0_t2_loop i).ub (k0_t2_loop i).st)).1 ++ loopM c i arg3 harg3 arg4 harg4 arg5 harg5 arg6 harg6 arg7 harg7 arg8 harg8 arg9 harg9 arg10 harg10 x0 x1 x2 x3 (Scf.trips (k0_t1_loop i).lb (k0_t1_loop i).ub (k0_t1_loop i).st) := rfl
  rw [e, h2]
  rfl

theorem baseA (h2 : Scf.trips (k0_t2_loop i).lb (k0_t2_loop i).ub (k0_t2_loop i).st = 0) : (kernelRun0_A.sl.HS1_1_1 c i arg3 harg3 arg4 harg4 arg5 harg5 arg6 harg6 arg7 harg7 arg8 harg8 arg9 harg9 arg10 harg10 x0 x1 x2 x3).tail = loopA c i arg3 harg3 arg4 harg4 arg5 harg5 arg6 harg6 arg7 harg7 arg8 harg8 arg9 harg9 arg10 harg10 x0 x1 x2 x3 (Scf.trips (k0_t1_loop i).lb (k0_t1_loop i).ub (k0_t1_loop i).st) := by
  have e : (kernelRun0_A.sl.HS1_1_1 c i arg3 harg3 arg4 harg4 arg5 harg5 arg6 harg6 arg7 harg7 arg8 harg8 arg9 harg9 arg10 harg10 x0 x1 x2 x3).tail = (pb_k0_t2 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (kernelRun0_A.sl.v65 i) (harg4.unread x1) (harg5.unread x2) (harg6.unread x3) (arg9.view.writes (Elt F) arg9.view.junk (loopM c i arg3 harg3 arg4 harg4 arg5 harg5 arg6 harg6 arg7 harg7 arg8 harg8 arg9 harg9 arg10 harg10 x0 x1 x2 x3 (Scf.trips (k0_t1_loop i).lb (k0_t1_loop i).ub (k0_t1_loop i).st))) (arg10.view.writes (Elt F) arg10.view.junk (loopA c i arg3 harg3 arg4 harg4 arg5 harg5 arg6 harg6 arg7 harg7 arg8 harg8 arg9 harg9 arg10 harg10 x0 x1 x2 x3 (Scf.trips (k0_t1_loop i).lb (k0_t1_loop i).ub (k0_t1_loop i).st))) (Scf.trips (k0_t2_loop i).lb (k0_t2_loop i).ub (k0_t2_loop i).st)).2 ++ loopA c i arg3 harg3 arg4 harg4 arg5 harg5 arg6 harg6 arg7 harg7 arg8 harg8 arg9 harg9 arg10 harg10 x0 x1 x2 x3 (Scf.trips (k0_t1_loop i).lb (k0_t1_loop i).ub (k0_t1_loop i).st) := rfl
  rw [e, h2]
  rfl

theorem loopM_succ (k : Fin (k0_t1_loop i).trips) : loopM c i arg3 harg3 arg4 harg4 arg5 harg5 arg6 harg6 arg7 harg7 arg8 harg8 arg9 harg9 arg10 harg10 x0 x1 x2 x3 (k.val + 1) =
      ⟨Rect.unit (s := S8x1x512) ![7, 0, 0] S1x1x512.size inb_S8x1x512_S1x1x512_7_0_0, k0_pay108 (score (View.readAt (Elt F) arg5.view (Rect.unit (s := S1x4096x512) (k0_off4 i k) S1x256x128.size (k0_off4_inb i k)).toLoadRect (harg5.unread x2)) (k0_pay93 (View.readAt (Elt F) arg3.view (Rect.unit (s := S1x512x512) ![0, 0, 384] S1x512x128.size inb_S1x512x512_S1x512x128_0_0_384).toLoadRect (harg3.unread x0)))) (View.readAt (Elt F) arg9.view (Rect.unit (s := S8x1x512) ![7, 0, 0] S1x1x512.size inb_S8x1x512_S1x1x512_7_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![6, 0, 0] S1x1x512.size inb_S8x1x512_S1x1x512_6_0_0, k0_pay108 (score (View.readAt (Elt F) arg4.view (Rect.unit (s := S1x4096x512) (k0_off4 i k) S1x256x128.size (k0_off4_inb i k)).toLoadRect (harg4.unread x1)) (k0_pay92 (View.readAt (Elt F) arg3.view (Rect.unit (s := S1x512x512) ![0, 0, 384] S1x512x128.size inb_S1x512x512_S1x512x128_0_0_384).toLoadRect (harg3.unread x0)))) (View.readAt (Elt F) arg9.view (Rect.unit (s := S8x1x512) ![6, 0, 0] S1x1x512.size inb_S8x1x512_S1x1x512_6_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![5, 0, 0] S1x1x512.size inb_S8x1x512_S1x1x512_5_0_0, k0_pay108 (score (View.readAt (Elt F) arg5.view (Rect.unit (s := S1x4096x512) (k0_off3 i k) S1x256x128.size (k0_off3_inb i k)).toLoadRect (harg5.unread x2)) (k0_pay93 (View.readAt (Elt F) arg3.view (Rect.unit (s := S1x512x512) ![0, 0, 256] S1x512x128.size inb_S1x512x512_S1x512x128_0_0_256).toLoadRect (harg3.unread x0)))) (View.readAt (Elt F) arg9.view (Rect.unit (s := S8x1x512) ![5, 0, 0] S1x1x512.size inb_S8x1x512_S1x1x512_5_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![4, 0, 0] S1x1x512.size inb_S8x1x512_S1x1x512_4_0_0, k0_pay108 (score (View.readAt (Elt F) arg4.view (Rect.unit (s := S1x4096x512) (k0_off3 i k) S1x256x128.size (k0_off3_inb i k)).toLoadRect (harg4.unread x1)) (k0_pay92 (View.readAt (Elt F) arg3.view (Rect.unit (s := S1x512x512) ![0, 0, 256] S1x512x128.size inb_S1x512x512_S1x512x128_0_0_256).toLoadRect (harg3.unread x0)))) (View.readAt (Elt F) arg9.view (Rect.unit (s := S8x1x512) ![4, 0, 0] S1x1x512.size inb_S8x1x512_S1x1x512_4_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![3, 0, 0] S1x1x512.size inb_S8x1x512_S1x1x512_3_0_0, k0_pay108 (score (View.readAt (Elt F) arg5.view (Rect.unit (s := S1x4096x512) (k0_off2 i k) S1x256x128.size (k0_off2_inb i k)).toLoadRect (harg5.unread x2)) (k0_pay93 (View.readAt (Elt F) arg3.view (Rect.unit (s := S1x512x512) ![0, 0, 128] S1x512x128.size inb_S1x512x512_S1x512x128_0_0_128).toLoadRect (harg3.unread x0)))) (View.readAt (Elt F) arg9.view (Rect.unit (s := S8x1x512) ![3, 0, 0] S1x1x512.size inb_S8x1x512_S1x1x512_3_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![2, 0, 0] S1x1x512.size inb_S8x1x512_S1x1x512_2_0_0, k0_pay108 (score (View.readAt (Elt F) arg4.view (Rect.unit (s := S1x4096x512) (k0_off2 i k) S1x256x128.size (k0_off2_inb i k)).toLoadRect (harg4.unread x1)) (k0_pay92 (View.readAt (Elt F) arg3.view (Rect.unit (s := S1x512x512) ![0, 0, 128] S1x512x128.size inb_S1x512x512_S1x512x128_0_0_128).toLoadRect (harg3.unread x0)))) (View.readAt (Elt F) arg9.view (Rect.unit (s := S8x1x512) ![2, 0, 0] S1x1x512.size inb_S8x1x512_S1x1x512_2_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![1, 0, 0] S1x1x512.size inb_S8x1x512_S1x1x512_1_0_0, k0_pay108 (score (View.readAt (Elt F) arg5.view (Rect.unit (s := S1x4096x512) (k0_off1 i k) S1x256x128.size (k0_off1_inb i k)).toLoadRect (harg5.unread x2)) (k0_pay93 (View.readAt (Elt F) arg3.view (Rect.unit (s := S1x512x512) ![0, 0, 0] S1x512x128.size inb_S1x512x512_S1x512x128_0_0_0).toLoadRect (harg3.unread x0)))) (View.readAt (Elt F) arg9.view (Rect.unit (s := S8x1x512) ![1, 0, 0] S1x1x512.size inb_S8x1x512_S1x1x512_1_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      ⟨Rect.unit (s := S8x1x512) ![0, 0, 0] S1x1x512.size inb_S8x1x512_S1x1x512_0_0_0, k0_pay108 (score (View.readAt (Elt F) arg4.view (Rect.unit (s := S1x4096x512) (k0_off1 i k) S1x256x128.size (k0_off1_inb i k)).toLoadRect (harg4.unread x1)) (k0_pay92 (View.readAt (Elt F) arg3.view (Rect.unit (s := S1x512x512) ![0, 0, 0] S1x512x128.size inb_S1x512x512_S1x512x128_0_0_0).toLoadRect (harg3.unread x0)))) (View.readAt (Elt F) arg9.view (Rect.unit (s := S8x1x512) ![0, 0, 0] S1x1x512.size inb_S8x1x512_S1x1x512_0_0_0).toLoadRect (arg9.view.writes (Elt F) arg9.view.junk (loopM c i arg3 harg3 arg4 harg4 arg5 harg5 arg6 harg6 arg7 harg7 arg8 harg8 arg9 harg9 arg10 harg10 x0 x1 x2 x3 k.val)))⟩ ::
      loopM c i arg3 harg3 arg4 harg4 arg5 harg5 arg6 harg6 arg7 harg7 arg8 harg8 arg9 harg9 arg10 harg10 x0 x1 x2 x3 k.val := by
  have e : loopM c i arg3 harg3 arg4 harg4 arg5 harg5 arg6 harg6 arg7 harg7 arg8 harg8 arg9 harg9 arg10 harg10 x0 x1 x2 x3 (k.val + 1) =
      (trip_k0_t1 (F := F) Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) k).1
        (arg9.view.writes (Elt F) (arg9.view.writes (Elt F) arg9.view.junk kernelRun0_A.sl.HS0_1) (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) k.val).1)
        (arg10.view.writes (Elt F) (arg10.view.writes (Elt F) arg10.view.junk kernelRun0_A.sl.HS1_1) (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) k.val).2) ++ loopM c i arg3 harg3 arg4 harg4 arg5 harg5 arg6 harg6 arg7 harg7 arg8 harg8 arg9 harg9 arg10 harg10 x0 x1 x2 x3 k.val := by
    unfold loopM
    rw [pb_k0_t1_succ]
    exact List.append_assoc _ _ _
  rw [e, ← View.writes_append, ← View.writes_append, trip_m]
  rfl

theorem loopA_succ (k : Fin (k0_t1_loop i).trips) : loopA c i arg3 harg3 arg4 harg4 arg5 harg5 arg6 harg6 arg7 harg7 arg8 harg8 arg9 harg9 arg10 harg10 x0 x1 x2 x3 (k.val + 1) =
      ⟨Rect.unit (s := S8x80x512) ![7, 0, 0] S1x80x512.size inb_S8x80x512_S1x80x512_7_0_0, k0_pay109 (score (View.readAt (Elt F) arg5.view (Rect.unit (s := S1x4096x512) (k0_off4 i k) S1x256x128.size (k0_off4_inb i k)).toLoadRect (harg5.unread x2)) (k0_pay93 (View.readAt (Elt F) arg3.view (Rect.unit (s := S1x512x512) ![0, 0, 384] S1x512x128.size inb_S1x512x512_S1x512x128_0_0_384).toLoadRect (harg3.unread x0)))) (View.readAt (Elt F) arg9.view (Rect.unit (s := S8x1x512) ![7, 0, 0] S1x1x512.size inb_S8x1x512_S1x1x512_7_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off12 i k) S80x256.size (k0_off12_inb i k)).toLoadRect (harg6.unread x3)) (View.readAt (Elt F) arg10.view (Rect.unit (s := S8x80x512) ![7, 0, 0] S1x80x512.size inb_S8x80x512_S1x80x512_7_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![6, 0, 0] S1x80x512.size inb_S8x80x512_S1x80x512_6_0_0, k0_pay109 (score (View.readAt (Elt F) arg4.view (Rect.unit (s := S1x4096x512) (k0_off4 i k) S1x256x128.size (k0_off4_inb i k)).toLoadRect (harg4.unread x1)) (k0_pay92 (View.readAt (Elt F) arg3.view (Rect.unit (s := S1x512x512) ![0, 0, 384] S1x512x128.size inb_S1x512x512_S1x512x128_0_0_384).toLoadRect (harg3.unread x0)))) (View.readAt (Elt F) arg9.view (Rect.unit (s := S8x1x512) ![6, 0, 0] S1x1x512.size inb_S8x1x512_S1x1x512_6_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off11 i k) S80x256.size (k0_off11_inb i k)).toLoadRect (harg6.unread x3)) (View.readAt (Elt F) arg10.view (Rect.unit (s := S8x80x512) ![6, 0, 0] S1x80x512.size inb_S8x80x512_S1x80x512_6_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![5, 0, 0] S1x80x512.size inb_S8x80x512_S1x80x512_5_0_0, k0_pay109 (score (View.readAt (Elt F) arg5.view (Rect.unit (s := S1x4096x512) (k0_off3 i k) S1x256x128.size (k0_off3_inb i k)).toLoadRect (harg5.unread x2)) (k0_pay93 (View.readAt (Elt F) arg3.view (Rect.unit (s := S1x512x512) ![0, 0, 256] S1x512x128.size inb_S1x512x512_S1x512x128_0_0_256).toLoadRect (harg3.unread x0)))) (View.readAt (Elt F) arg9.view (Rect.unit (s := S8x1x512) ![5, 0, 0] S1x1x512.size inb_S8x1x512_S1x1x512_5_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off10 i k) S80x256.size (k0_off10_inb i k)).toLoadRect (harg6.unread x3)) (View.readAt (Elt F) arg10.view (Rect.unit (s := S8x80x512) ![5, 0, 0] S1x80x512.size inb_S8x80x512_S1x80x512_5_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![4, 0, 0] S1x80x512.size inb_S8x80x512_S1x80x512_4_0_0, k0_pay109 (score (View.readAt (Elt F) arg4.view (Rect.unit (s := S1x4096x512) (k0_off3 i k) S1x256x128.size (k0_off3_inb i k)).toLoadRect (harg4.unread x1)) (k0_pay92 (View.readAt (Elt F) arg3.view (Rect.unit (s := S1x512x512) ![0, 0, 256] S1x512x128.size inb_S1x512x512_S1x512x128_0_0_256).toLoadRect (harg3.unread x0)))) (View.readAt (Elt F) arg9.view (Rect.unit (s := S8x1x512) ![4, 0, 0] S1x1x512.size inb_S8x1x512_S1x1x512_4_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off9 i k) S80x256.size (k0_off9_inb i k)).toLoadRect (harg6.unread x3)) (View.readAt (Elt F) arg10.view (Rect.unit (s := S8x80x512) ![4, 0, 0] S1x80x512.size inb_S8x80x512_S1x80x512_4_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![3, 0, 0] S1x80x512.size inb_S8x80x512_S1x80x512_3_0_0, k0_pay109 (score (View.readAt (Elt F) arg5.view (Rect.unit (s := S1x4096x512) (k0_off2 i k) S1x256x128.size (k0_off2_inb i k)).toLoadRect (harg5.unread x2)) (k0_pay93 (View.readAt (Elt F) arg3.view (Rect.unit (s := S1x512x512) ![0, 0, 128] S1x512x128.size inb_S1x512x512_S1x512x128_0_0_128).toLoadRect (harg3.unread x0)))) (View.readAt (Elt F) arg9.view (Rect.unit (s := S8x1x512) ![3, 0, 0] S1x1x512.size inb_S8x1x512_S1x1x512_3_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off8 i k) S80x256.size (k0_off8_inb i k)).toLoadRect (harg6.unread x3)) (View.readAt (Elt F) arg10.view (Rect.unit (s := S8x80x512) ![3, 0, 0] S1x80x512.size inb_S8x80x512_S1x80x512_3_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![2, 0, 0] S1x80x512.size inb_S8x80x512_S1x80x512_2_0_0, k0_pay109 (score (View.readAt (Elt F) arg4.view (Rect.unit (s := S1x4096x512) (k0_off2 i k) S1x256x128.size (k0_off2_inb i k)).toLoadRect (harg4.unread x1)) (k0_pay92 (View.readAt (Elt F) arg3.view (Rect.unit (s := S1x512x512) ![0, 0, 128] S1x512x128.size inb_S1x512x512_S1x512x128_0_0_128).toLoadRect (harg3.unread x0)))) (View.readAt (Elt F) arg9.view (Rect.unit (s := S8x1x512) ![2, 0, 0] S1x1x512.size inb_S8x1x512_S1x1x512_2_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off7 i k) S80x256.size (k0_off7_inb i k)).toLoadRect (harg6.unread x3)) (View.readAt (Elt F) arg10.view (Rect.unit (s := S8x80x512) ![2, 0, 0] S1x80x512.size inb_S8x80x512_S1x80x512_2_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![1, 0, 0] S1x80x512.size inb_S8x80x512_S1x80x512_1_0_0, k0_pay109 (score (View.readAt (Elt F) arg5.view (Rect.unit (s := S1x4096x512) (k0_off1 i k) S1x256x128.size (k0_off1_inb i k)).toLoadRect (harg5.unread x2)) (k0_pay93 (View.readAt (Elt F) arg3.view (Rect.unit (s := S1x512x512) ![0, 0, 0] S1x512x128.size inb_S1x512x512_S1x512x128_0_0_0).toLoadRect (harg3.unread x0)))) (View.readAt (Elt F) arg9.view (Rect.unit (s := S8x1x512) ![1, 0, 0] S1x1x512.size inb_S8x1x512_S1x1x512_1_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off6 i k) S80x256.size (k0_off6_inb i k)).toLoadRect (harg6.unread x3)) (View.readAt (Elt F) arg10.view (Rect.unit (s := S8x80x512) ![1, 0, 0] S1x80x512.size inb_S8x80x512_S1x80x512_1_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      ⟨Rect.unit (s := S8x80x512) ![0, 0, 0] S1x80x512.size inb_S8x80x512_S1x80x512_0_0_0, k0_pay109 (score (View.readAt (Elt F) arg4.view (Rect.unit (s := S1x4096x512) (k0_off1 i k) S1x256x128.size (k0_off1_inb i k)).toLoadRect (harg4.unread x1)) (k0_pay92 (View.readAt (Elt F) arg3.view (Rect.unit (s := S1x512x512) ![0, 0, 0] S1x512x128.size inb_S1x512x512_S1x512x128_0_0_0).toLoadRect (harg3.unread x0)))) (View.readAt (Elt F) arg9.view (Rect.unit (s := S8x1x512) ![0, 0, 0] S1x1x512.size inb_S8x1x512_S1x1x512_0_0_0).toLoadRect (arg9.view.writes (Elt F) arg9.view.junk (loopM c i arg3 harg3 arg4 harg4 arg5 harg5 arg6 harg6 arg7 harg7 arg8 harg8 arg9 harg9 arg10 harg10 x0 x1 x2 x3 k.val))) (View.readAt (Elt F) arg6.view (Rect.unit (s := S640x4096) (k0_off5 i k) S80x256.size (k0_off5_inb i k)).toLoadRect (harg6.unread x3)) (View.readAt (Elt F) arg10.view (Rect.unit (s := S8x80x512) ![0, 0, 0] S1x80x512.size inb_S8x80x512_S1x80x512_0_0_0).toLoadRect (arg10.view.writes (Elt F) arg10.view.junk (loopA c i arg3 harg3 arg4 harg4 arg5 harg5 arg6 harg6 arg7 harg7 arg8 harg8 arg9 harg9 arg10 harg10 x0 x1 x2 x3 k.val)))⟩ ::
      loopA c i arg3 harg3 arg4 harg4 arg5 harg5 arg6 harg6 arg7 harg7 arg8 harg8 arg9 harg9 arg10 harg10 x0 x1 x2 x3 k.val := by
  have e : loopA c i arg3 harg3 arg4 harg4 arg5 harg5 arg6 harg6 arg7 harg7 arg8 harg8 arg9 harg9 arg10 harg10 x0 x1 x2 x3 (k.val + 1) =
      (trip_k0_t1 (F := F) Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) k).2.1
        (arg9.view.writes (Elt F) (arg9.view.writes (Elt F) arg9.view.junk kernelRun0_A.sl.HS0_1) (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) k.val).1)
        (arg10.view.writes (Elt F) (arg10.view.writes (Elt F) arg10.view.junk kernelRun0_A.sl.HS1_1) (pb_k0_t1 Variants.none c none i arg3 harg3 arg4 harg4 arg5 harg5 arg6 harg6 arg7 harg7 arg8 harg8 arg9 harg9 arg10 harg10 (BitVec.ofNat 32 ↑(i 2)) k0_pay88 k0_pay89 k0_pay90 (k0_pay92 (View.readAt (Elt F) arg3.view (Rect.unit (s := S1x512x512) ![0, 0, 0] S1x512x128.size inb_S1x512x512_S1x512x128_0_0_0).toLoadRect (harg3.unread x0))) (k0_pay93 (View.readAt (Elt F) arg3.view (Rect.unit (s := S1x512x512) ![0, 0, 0] S1x512x128.size inb_S1x512x512_S1x512x128_0_0_0).toLoadRect (harg3.unread x0))) (k0_pay92 (View.readAt (Elt F) arg3.view (Rect.unit (s := S1x512x512) ![0, 0, 128] S1x512x128.size inb_S1x512x512_S1x512x128_0_0_128).toLoadRect (harg3.unread x0))) (k0_pay93 (View.readAt (Elt F) arg3.view (Rect.unit (s := S1x512x512) ![0, 0, 128] S1x512x128.size inb_S1x512x512_S1x512x128_0_0_128).toLoadRect (harg3.unread x0))) (kernelRun0_A.sl.r_4 c arg3 harg3 x0) kernelRun0_A.sl.cst_12 (View.readAt (Elt F) arg3.view (Rect.unit (s := S1x512x512) ![0, 0, 384] S1x512x128.size inb_S1x512x512_S1x512x128_0_0_384).toLoadRect (harg3.unread x0)) (harg4.unread x1) (harg5.unread x2) (harg6.unread x3) (arg9.view.writes (Elt F) arg9.view.junk kernelRun0_A.sl.HS0_1) (arg10.view.writes (Elt F) arg10.view.junk kernelRun0_A.sl.HS1_1) k.val).2) ++ loopA c i arg3 harg3 arg4 harg4 arg5 harg5 arg6 harg6 arg7 harg7 arg8 harg8 arg9 harg9 arg10 harg10 x0 x1 x2 x3 k.val := by
    unfold loopA
    rw [pb_k0_t1_succ]
    exact List.append_assoc _ _ _
  rw [e, ← View.writes_append, ← View.writes_append, trip_acc]
  rfl

end

end Cert.KernelIdeal.Fox
-- ==== Proof.FoxKit.lean ====
/- The rows of the scratch arrays of the forgetting attention, read and stored, and the step of a chain on them. -/
module

public import proofs.«01_k».proof.Proof.FoxTrip
public import proofs.«01_k».proof.Proof.FoxBody
public import proofs.«01_k».proof.Proof.FoxMath

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen Cert.Fox

/-- The stores into the array of greatest scores, and into the array of sums. -/
abbrev LM := List (View.Piece (Elt Ideal) S8x1x512 .f32)
abbrev LA := List (View.Piece (Elt Ideal) S8x80x512 .f32)

/-- Chain `ci` at query `t` holds its state over the first `n` keys. -/
def At (S : ℕ → EReal) (V : Fin 80 → ℕ → EReal) (n : ℕ) (Lm : LM) (La : LA) (ci : Fin 8) (t : Fin 512) : Prop :=
  Good S V n (View.canon Lm (ix3 ci (0 : Fin 1) t)) (fun d => View.canon La (ix3 ci d t))

/-! ## Rows stored -/

theorem m_hit (o w : ℕ) (a : ℕ) (ci : Fin 8) (h : a = ci.val) (t : Fin 512) (x : Fin w) (hx : o + x.val = t.val)
    (inb : ∀ a', (![a, 0, o] : Fin 3 → ℕ) a' + (⟨3, ![1, 1, w]⟩ : Shape).size a' ≤ S8x1x512.size a')
    (W : Vec Ideal (⟨3, ![1, 1, w]⟩ : Shape) .f32) (L : LM) :
    View.canon (⟨Rect.unit (s := S8x1x512) ![a, 0, o] (⟨3, ![1, 1, w]⟩ : Shape).size inb, W⟩ :: L) (ix3 ci (0 : Fin 1) t)
      = W (ix3 (0 : Fin 1) (0 : Fin 1) x) := by
  have he : (Rect.unit (s := S8x1x512) ![a, 0, o] (⟨3, ![1, 1, w]⟩ : Shape).size inb).emb (ix3 (0 : Fin 1) (0 : Fin 1) x)
      = ix3 ci (0 : Fin 1) t := by
    funext y; apply Fin.ext
    fin_cases y
    · show a + 1 * 0 = ci.val; omega
    · rfl
    · show o + 1 * x.val = t.val; omega
  rw [← he]
  exact View.canon_cons_emb (Rect.unit ![a, 0, o] _ inb) W L _

theorem a_hit (o w : ℕ) (a : ℕ) (ci : Fin 8) (h : a = ci.val) (d : Fin 80) (t : Fin 512) (x : Fin w) (hx : o + x.val = t.val)
    (inb : ∀ a', (![a, 0, o] : Fin 3 → ℕ) a' + (⟨3, ![1, 80, w]⟩ : Shape).size a' ≤ S8x80x512.size a')
    (W : Vec Ideal (⟨3, ![1, 80, w]⟩ : Shape) .f32) (L : LA) :
    View.canon (⟨Rect.unit (s := S8x80x512) ![a, 0, o] (⟨3, ![1, 80, w]⟩ : Shape).size inb, W⟩ :: L) (ix3 ci d t)
      = W (ix3 (0 : Fin 1) d x) := by
  have he : (Rect.unit (s := S8x80x512) ![a, 0, o] (⟨3, ![1, 80, w]⟩ : Shape).size inb).emb (ix3 (0 : Fin 1) d x)
      = ix3 ci d t := by
    funext y; apply Fin.ext
    fin_cases y
    · show a + 1 * 0 = ci.val; omega
    · show 0 + 1 * d.val = d.val; omega
    · show o + 1 * x.val = t.val; omega
  rw [← he]
  exact View.canon_cons_emb (Rect.unit ![a, 0, o] _ inb) W L _

theorem m_miss (o w : ℕ) (a : ℕ) (ci : Fin 8) (t : Fin 512) (h : a ≠ ci.val ∨ t.val < o)
    (inb : ∀ a', (![a, 0, o] : Fin 3 → ℕ) a' + (⟨3, ![1, 1, w]⟩ : Shape).size a' ≤ S8x1x512.size a')
    (W : Vec Ideal (⟨3, ![1, 1, w]⟩ : Shape) .f32) (L : LM) :
    View.canon (⟨Rect.unit (s := S8x1x512) ![a, 0, o] (⟨3, ![1, 1, w]⟩ : Shape).size inb, W⟩ :: L) (ix3 ci (0 : Fin 1) t)
      = View.canon L (ix3 ci (0 : Fin 1) t) := by
  refine View.canon_cons_of_not_mem _ L ?_
  intro hm
  obtain ⟨i, hi, he⟩ := (LoadRect.mem_set _).mp hm (0 : Fin 3)
  obtain ⟨j, hj, he2⟩ := (LoadRect.mem_set _).mp hm (2 : Fin 3)
  have hi1 : i < 1 := hi
  have he' : ci.val = a + 1 * i := he
  have he3 : t.val = o + 1 * j := he2
  omega

theorem a_miss (o w : ℕ) (a : ℕ) (ci : Fin 8) (d : Fin 80) (t : Fin 512) (h : a ≠ ci.val ∨ t.val < o)
    (inb : ∀ a', (![a, 0, o] : Fin 3 → ℕ) a' + (⟨3, ![1, 80, w]⟩ : Shape).size a' ≤ S8x80x512.size a')
    (W : Vec Ideal (⟨3, ![1, 80, w]⟩ : Shape) .f32) (L : LA) :
    View.canon (⟨Rect.unit (s := S8x80x512) ![a, 0, o] (⟨3, ![1, 80, w]⟩ : Shape).size inb, W⟩ :: L) (ix3 ci d t)
      = View.canon L (ix3 ci d t) := by
  refine View.canon_cons_of_not_mem _ L ?_
  intro hm
  obtain ⟨i, hi, he⟩ := (LoadRect.mem_set _).mp hm (0 : Fin 3)
  obtain ⟨j, hj, he2⟩ := (LoadRect.mem_set _).mp hm (2 : Fin 3)
  have hi1 : i < 1 := hi
  have he' : ci.val = a + 1 * i := he
  have he3 : t.val = o + 1 * j := he2
  omega

/-- A store of another chain, or of later queries, leaves a chain's state as it was. -/
theorem miss (o w : ℕ) (a : ℕ) (ci : Fin 8) (t : Fin 512) (h : a ≠ ci.val ∨ t.val < o) {S V n}
    (inb : ∀ a', (![a, 0, o] : Fin 3 → ℕ) a' + (⟨3, ![1, 1, w]⟩ : Shape).size a' ≤ S8x1x512.size a')
    (W : Vec Ideal (⟨3, ![1, 1, w]⟩ : Shape) .f32)
    (inb' : ∀ a', (![a, 0, o] : Fin 3 → ℕ) a' + (⟨3, ![1, 80, w]⟩ : Shape).size a' ≤ S8x80x512.size a')
    (W' : Vec Ideal (⟨3, ![1, 80, w]⟩ : Shape) .f32) (Lm : LM) (La : LA) (hA : At S V n Lm La ci t) :
    At S V n (⟨Rect.unit (s := S8x1x512) ![a, 0, o] (⟨3, ![1, 1, w]⟩ : Shape).size inb, W⟩ :: Lm)
      (⟨Rect.unit (s := S8x80x512) ![a, 0, o] (⟨3, ![1, 80, w]⟩ : Shape).size inb', W'⟩ :: La) ci t := by
  unfold At
  rw [m_miss o w a ci t h]
  simp only [a_miss o w a ci _ t h]
  exact hA

/-! ## Rows read back -/

theorem m_rd (o w : ℕ) (a : ℕ) (ci : Fin 8) (h : a = ci.val) (t : Fin 512) (x : Fin w) (hx : o + x.val = t.val)
    (inb : ∀ a', (![a, 0, o] : Fin 3 → ℕ) a' + (⟨3, ![1, 1, w]⟩ : Shape).size a' ≤ S8x1x512.size a') :
    (Rect.unit (s := S8x1x512) ![a, 0, o] (⟨3, ![1, 1, w]⟩ : Shape).size inb).toLoadRect.idx (ix3 (0 : Fin 1) (0 : Fin 1) x)
      = ix3 ci (0 : Fin 1) t := by
  funext y; apply Fin.ext
  fin_cases y
  · show a + 1 * 0 = ci.val; omega
  · rfl
  · show o + 1 * x.val = t.val; omega

theorem a_rd (o w : ℕ) (a : ℕ) (ci : Fin 8) (h : a = ci.val) (d : Fin 80) (t : Fin 512) (x : Fin w) (hx : o + x.val = t.val)
    (inb : ∀ a', (![a, 0, o] : Fin 3 → ℕ) a' + (⟨3, ![1, 80, w]⟩ : Shape).size a' ≤ S8x80x512.size a') :
    (Rect.unit (s := S8x80x512) ![a, 0, o] (⟨3, ![1, 80, w]⟩ : Shape).size inb).toLoadRect.idx (ix3 (0 : Fin 1) d x)
      = ix3 ci d t := by
  funext y; apply Fin.ext
  fin_cases y
  · show a + 1 * 0 = ci.val; omega
  · show 0 + 1 * d.val = d.val; omega
  · show o + 1 * x.val = t.val; omega

/-! ## The step of a chain -/

theorem pay108 (s : FVec Ideal S256x512 .f32) (m : Vec Ideal S1x1x512 .f32) (t : Fin 512) :
    k0_pay108 s m (ix3 (0 : Fin 1) (0 : Fin 1) t)
      = max (m (ix3 (0 : Fin 1) (0 : Fin 1) t)) (Finset.fold max (Ideal.ofBits FTy.f32 4286578688#32) (fun x : Fin 256 => s (ix2 x t)) Finset.univ) := by
  pointwise [k0_pay108, k0_pay107, k0_pay106]

theorem pay109 (s : FVec Ideal S256x512 .f32) (m : Vec Ideal S1x1x512 .f32) (v : Vec Ideal S80x256 .bf16) (a : Vec Ideal S1x80x512 .f32)
    (d : Fin 80) (t : Fin 512) :
    k0_pay109 s m v a (ix3 (0 : Fin 1) d t)
      = Ideal.exp2 (m (ix3 (0 : Fin 1) (0 : Fin 1) t) - k0_pay108 s m (ix3 (0 : Fin 1) (0 : Fin 1) t)) * a (ix3 (0 : Fin 1) d t)
        + ∑ x : Fin 256, v (ix2 d x) * Ideal.exp2 (s (ix2 x t) - k0_pay108 s m (ix3 (0 : Fin 1) (0 : Fin 1) t)) := by
  rw [pay108]
  pointwise [k0_pay109, k0_pay107, k0_pay106]
  rfl

theorem pay173 (s : FVec Ideal S256x256 .f32) (m : Vec Ideal S1x1x256 .f32) (t : Fin 256) :
    k0_pay173 s m (ix3 (0 : Fin 1) (0 : Fin 1) t)
      = max (m (ix3 (0 : Fin 1) (0 : Fin 1) t)) (Finset.fold max (Ideal.ofBits FTy.f32 4286578688#32) (fun x : Fin 256 => s (ix2 x t)) Finset.univ) := by
  pointwise [k0_pay173, k0_pay172, k0_pay171]

theorem pay186 (s : FVec Ideal S256x256 .f32) (m : Vec Ideal S1x1x256 .f32) (v : Vec Ideal S80x256 .bf16) (a : Vec Ideal S1x80x256 .f32)
    (d : Fin 80) (t : Fin 256) :
    k0_pay186 s m v a (ix3 (0 : Fin 1) d t)
      = Ideal.exp2 (m (ix3 (0 : Fin 1) (0 : Fin 1) t) - k0_pay173 s m (ix3 (0 : Fin 1) (0 : Fin 1) t)) * a (ix3 (0 : Fin 1) d t)
        + ∑ x : Fin 256, v (ix2 d x) * Ideal.exp2 (s (ix2 x t) - k0_pay173 s m (ix3 (0 : Fin 1) (0 : Fin 1) t)) := by
  rw [pay173]
  pointwise [k0_pay186, k0_pay184, k0_pay183]
  rfl

theorem neg_inf : Ideal.ofBits FTy.f32 4286578688#32 = ⊥ := by
  simp [Ideal.ofBits, Ideal.ieee]

/-- A store of this chain's own step, over the whole query block. -/
theorem hit0 (a : ℕ) (ci : Fin 8) (h : a = ci.val) (t : Fin 512) {S : ℕ → EReal} {V : Fin 80 → ℕ → EReal} (hS : ∀ s, ∃ r : ℝ, S s = r) (n n' : ℕ) (h1 : n < n') (h2 : n' ≤ n + 256)
    (inb inb') (s : FVec Ideal S256x512 .f32) (m : Vec Ideal S1x1x512 .f32) (v : Vec Ideal S80x256 .bf16) (acc : Vec Ideal S1x80x512 .f32)
    (Rm Lm : LM) (Ra La : LA) (hA : At S V n Rm Ra ci t)
    (hm : m (ix3 (0 : Fin 1) (0 : Fin 1) t) = View.canon Rm (ix3 ci (0 : Fin 1) t))
    (ha : ∀ d, acc (ix3 (0 : Fin 1) d t) = View.canon Ra (ix3 ci d t))
    (hs : ∀ k : Fin 256, s (ix2 k t) = if n + (k : ℕ) < n' then S (n + k) else ⊥)
    (hv : ∀ d (k : Fin 256), v (ix2 d k) = V d (n + k)) :
    At S V n' (⟨Rect.unit (s := S8x1x512) ![a, 0, 0] S1x1x512.size inb, k0_pay108 s m⟩ :: Lm)
      (⟨Rect.unit (s := S8x80x512) ![a, 0, 0] S1x80x512.size inb', k0_pay109 s m v acc⟩ :: La) ci t := by
  unfold At at hA ⊢
  rw [m_hit 0 512 a ci h t t (by omega)]
  simp only [a_hit 0 512 a ci h _ t t (Nat.zero_add _)]
  refine good_step S V hS n n' h1 h2 _ _ _ _ hA (fun k => s (ix2 k t)) hs (fun d k => v (ix2 d k)) hv ?_ ?_
  · rw [pay108, hm, neg_inf]
  · intro d
    rw [pay109, hm, ha]

/-- The same over the second half of the query block. -/
theorem hit1 (a : ℕ) (ci : Fin 8) (h : a = ci.val) (t : Fin 512) (x : Fin 256) (hx : 256 + x.val = t.val)
    {S : ℕ → EReal} {V : Fin 80 → ℕ → EReal} (hS : ∀ s, ∃ r : ℝ, S s = r) (n n' : ℕ) (h1 : n < n') (h2 : n' ≤ n + 256)
    (inb inb') (s : FVec Ideal S256x256 .f32) (m : Vec Ideal S1x1x256 .f32) (v : Vec Ideal S80x256 .bf16) (acc : Vec Ideal S1x80x256 .f32)
    (Rm Lm : LM) (Ra La : LA) (hA : At S V n Rm Ra ci t)
    (hm : m (ix3 (0 : Fin 1) (0 : Fin 1) x) = View.canon Rm (ix3 ci (0 : Fin 1) t))
    (ha : ∀ d, acc (ix3 (0 : Fin 1) d x) = View.canon Ra (ix3 ci d t))
    (hs : ∀ k : Fin 256, s (ix2 k x) = if n + (k : ℕ) < n' then S (n + k) else ⊥)
    (hv : ∀ d (k : Fin 256), v (ix2 d k) = V d (n + k)) :
    At S V n' (⟨Rect.unit (s := S8x1x512) ![a, 0, 256] S1x1x256.size inb, k0_pay173 s m⟩ :: Lm)
      (⟨Rect.unit (s := S8x80x512) ![a, 0, 256] S1x80x256.size inb', k0_pay186 s m v acc⟩ :: La) ci t := by
  unfold At at hA ⊢
  rw [m_hit 256 256 a ci h t x hx]
  simp only [a_hit 256 256 a ci h _ t x hx]
  refine good_step S V hS n n' h1 h2 _ _ _ _ hA (fun k => s (ix2 k x)) hs (fun d k => v (ix2 d k)) hv ?_ ?_
  · rw [pay173, hm, neg_inf]
  · intro d
    rw [pay186, hm, ha]

/-! ## Scores and values of a tile -/

theorem score_apply (k : Vec Ideal S1x256x128 .bf16) (q : FVec Ideal S512x128 .bf16) (i : Fin 256) (t : Fin 512) :
    score k q (ix2 i t) = ∑ l : Fin 128, k (ix3 (0 : Fin 1) i l) * q (ix2 t l) := by
  pointwise [score]

theorem sle_of (a b : ℕ) (ha : a < 2147483648) (hb : b < 2147483648) :
    IntOp.cmpi .sle (BitVec.ofNat 32 a) (BitVec.ofNat 32 b) = BitVec.ofBool (decide (a ≤ b)) := by
  have e : (BitVec.ofNat 32 a).sle (BitVec.ofNat 32 b) = decide (a ≤ b) := by
    rw [BitVec.sle_eq_decide, BitVec.toInt_ofNat', BitVec.toInt_ofNat']
    congr 1
    simp only [Int.bmod]
    apply propext
    constructor <;> intro h <;> split at * <;> omega
  simp only [IntOp.cmpi]
  rw [e]

theorem sel_of (p : Prop) [Decidable p] (x y : EReal) : Scalar.select (BitVec.ofBool (decide p)) x y = if p then x else y := by
  by_cases h : p <;> simp [h, Scalar.select]

theorem score0_apply (k : Vec Ideal S1x256x128 .bf16) (q : FVec Ideal S512x128 .bf16) (i : Fin 256) (t : Fin 512) :
    score0 k q (ix2 i t) = if i.val ≤ t.val then ∑ l : Fin 128, k (ix3 (0 : Fin 1) i l) * q (ix2 t l) else ⊥ := by
  have e : score0 k q (ix2 i t) = Scalar.select (IntOp.cmpi .sle (BitVec.ofNat 32 i) (BitVec.ofNat 32 t))
      (∑ l : Fin 128, k (ix3 (0 : Fin 1) i l) * q (ix2 t l)) (Ideal.ofBits .f32 4286578688#32) := by
    pointwise [score0, k0_pay115, k0_pay114, kernelRun0_A.sl.v70, kernelRun0_A.sl.v71]
  rw [e, neg_inf, sle_of _ _ (by omega) (by omega)]
  exact sel_of _ _ _

theorem score1_apply (k : Vec Ideal S1x256x128 .bf16) (q : FVec Ideal S512x128 .bf16) (i : Fin 256) (t : Fin 256) (t' : Fin 512) (h : 256 + t.val = t'.val) :
    score1 k q (ix2 i t) = if i.val ≤ t.val then ∑ l : Fin 128, k (ix3 (0 : Fin 1) i l) * q (ix2 t' l) else ⊥ := by
  have e : score1 k q (ix2 i t) = Scalar.select (IntOp.cmpi .sle (BitVec.ofNat 32 i) (BitVec.ofNat 32 t))
      (∑ l : Fin 128, k (ix3 (0 : Fin 1) i l) * q (ix2 t' l)) (Ideal.ofBits .f32 4286578688#32) := by
    have ht : t' = (⟨256 + t.val, by have := t.isLt; omega⟩ : Fin 512) := Fin.ext h.symm
    rw [ht]
    pointwise [score1, k0_pay163, k0_pay162]
  rw [e, neg_inf, sle_of _ _ (by omega) (by omega)]
  exact sel_of _ _ _

/-- Block loads: a tile of keys, and a tile of value rows. -/
theorem k_rd (arg : Memref sig .tc .vmem S1x4096x512 .bf16) (harg : arg.IsWhole) (X : Vec Ideal S1x4096x512 .bf16) (off : Fin 3 → ℕ)
    (inb) (st c : ℕ) (h : off = ![0, st, c]) (k : Fin 256) (l : Fin 128) (hk : st + k.val < 4096) (hl : c + l.val < 512) :
    View.readAt (Elt Ideal) arg.view (Rect.unit (s := S1x4096x512) off S1x256x128.size inb).toLoadRect (harg.unread X) (ix3 (0 : Fin 1) k l)
      = X (ix3 (0 : Fin 1) (⟨st + k.val, hk⟩ : Fin 4096) (⟨c + l.val, hl⟩ : Fin 512)) := by
  subst h
  rw [View.readAt_apply, harg.read_unread]
  congr 1
  funext y; apply Fin.ext
  fin_cases y
  · rfl
  · show st + 1 * k.val = st + k.val; omega
  · show c + 1 * l.val = c + l.val; omega

theorem v_rd (arg : Memref sig .tc .vmem S640x4096 .bf16) (harg : arg.IsWhole) (X : Vec Ideal S640x4096 .bf16) (off : Fin 2 → ℕ)
    (inb) (st r : ℕ) (h : off = ![r, st]) (d : Fin 80) (k : Fin 256) (hk : st + k.val < 4096) (hd : r + d.val < 640) :
    View.readAt (Elt Ideal) arg.view (Rect.unit (s := S640x4096) off S80x256.size inb).toLoadRect (harg.unread X) (ix2 d k)
      = X (ix2 (⟨r + d.val, hd⟩ : Fin 640) (⟨st + k.val, hk⟩ : Fin 4096)) := by
  subst h
  rw [View.readAt_apply, harg.read_unread]
  congr 1
  funext y; apply Fin.ext
  fin_cases y
  · show r + 1 * d.val = r + d.val; omega
  · show st + 1 * k.val = st + k.val; omega

/-- The score of key `s` for query `t`, of one pair of chains' lanes. -/
def Sf (kb : Vec Ideal S1x4096x512 .bf16) (p : Fin 4) (Q : FVec Ideal S512x128 .bf16) (t : Fin 512) (s : ℕ) : EReal :=
  if h : s < 4096 then ∑ l : Fin 128, kb (ix3 (0 : Fin 1) (⟨s, h⟩ : Fin 4096) (⟨128 * p.val + l.val, by omega⟩ : Fin 512)) * Q (ix2 t l) else 0

/-- The values of key `s`, of one chain's rows. -/
def Vf (vb : Vec Ideal S640x4096 .bf16) (ci : Fin 8) (d : Fin 80) (s : ℕ) : EReal :=
  if h : s < 4096 then vb (ix2 (⟨80 * ci.val + d.val, by omega⟩ : Fin 640) (⟨s, h⟩ : Fin 4096)) else 0

section
variable (arg : Memref sig .tc .vmem S1x4096x512 .bf16) (harg : arg.IsWhole) (X : Vec Ideal S1x4096x512 .bf16) (off : Fin 3 → ℕ)
    (inb : ∀ a, off a + S1x256x128.size a ≤ S1x4096x512.size a) (st c : ℕ) (p : Fin 4) (h : off = ![0, st, c]) (hc : c = 128 * p.val) (hst : st + 256 ≤ 4096)
    (Q : FVec Ideal S512x128 .bf16)
include h hc hst

theorem tile_sum (t : Fin 512) (k : Fin 256) :
    (∑ l : Fin 128, (View.readAt (Elt Ideal) arg.view (Rect.unit (s := S1x4096x512) off S1x256x128.size inb).toLoadRect (harg.unread X)
        : Vec Ideal S1x256x128 .bf16) (ix3 (0 : Fin 1) k l) * Q (ix2 t l)) = Sf X p Q t (st + k.val) := by
  subst hc
  have hk : st + k.val < 4096 := by omega
  unfold Sf
  rw [dif_pos hk]
  refine Finset.sum_congr rfl fun l _ => ?_
  rw [k_rd arg harg X off inb st (128 * p.val) h k l hk (by omega)]

theorem sc_tile (t : Fin 512) (k : Fin 256) (n' : ℕ) (hn : n' = st + 256) :
    score (View.readAt (Elt Ideal) arg.view (Rect.unit (s := S1x4096x512) off S1x256x128.size inb).toLoadRect (harg.unread X)) Q (ix2 k t)
      = if st + (k : ℕ) < n' then Sf X p Q t (st + k) else ⊥ := by
  rw [score_apply, tile_sum arg harg X off inb st c p h hc hst Q, if_pos (by omega)]

theorem sc0_tile (t : Fin 512) (k : Fin 256) (n' : ℕ) (hn : n' = min (st + 256) (st + t.val + 1)) :
    score0 (View.readAt (Elt Ideal) arg.view (Rect.unit (s := S1x4096x512) off S1x256x128.size inb).toLoadRect (harg.unread X)) Q (ix2 k t)
      = if st + (k : ℕ) < n' then Sf X p Q t (st + k) else ⊥ := by
  rw [score0_apply, tile_sum arg harg X off inb st c p h hc hst Q]
  exact if_congr (by omega) rfl rfl

theorem sc1_tile (t : Fin 512) (x : Fin 256) (hx : 256 + x.val = t.val) (k : Fin 256) (n' : ℕ) (hn : n' = st + x.val + 1) :
    score1 (View.readAt (Elt Ideal) arg.view (Rect.unit (s := S1x4096x512) off S1x256x128.size inb).toLoadRect (harg.unread X)) Q (ix2 k x)
      = if st + (k : ℕ) < n' then Sf X p Q t (st + k) else ⊥ := by
  rw [score1_apply _ _ k x t hx, tile_sum arg harg X off inb st c p h hc hst Q]
  exact if_congr (by omega) rfl rfl

end

theorem v_tile (arg : Memref sig .tc .vmem S640x4096 .bf16) (harg : arg.IsWhole) (X : Vec Ideal S640x4096 .bf16) (off : Fin 2 → ℕ)
    (inb : ∀ a, off a + S80x256.size a ≤ S640x4096.size a) (st r : ℕ) (ci : Fin 8) (h : off = ![r, st]) (hr : r = 80 * ci.val) (hst : st + 256 ≤ 4096)
    (d : Fin 80) (k : Fin 256) :
    View.readAt (Elt Ideal) arg.view (Rect.unit (s := S640x4096) off S80x256.size inb).toLoadRect (harg.unread X) (ix2 d k)
      = Vf X ci d (st + k) := by
  subst hr
  have hk : st + k.val < 4096 := by omega
  unfold Vf
  rw [dif_pos hk, v_rd arg harg X off inb st (80 * ci.val) h d k hk (by omega)]

theorem m_rdc (arg : Memref sig .tc .vmem S8x1x512 .f32) (L : LM) (o w : ℕ) (a : ℕ) (ci : Fin 8) (h : a = ci.val) (t : Fin 512) (x : Fin w)
    (hx : o + x.val = t.val) (inb : ∀ a', (![a, 0, o] : Fin 3 → ℕ) a' + (⟨3, ![1, 1, w]⟩ : Shape).size a' ≤ S8x1x512.size a') :
    arg.view.readCov L (Rect.unit (s := S8x1x512) ![a, 0, o] (⟨3, ![1, 1, w]⟩ : Shape).size inb).toLoadRect (ix3 (0 : Fin 1) (0 : Fin 1) x)
      = View.canon L (ix3 ci (0 : Fin 1) t) := by
  rw [View.readCov_eq_canon']
  exact congrArg (View.canon L) (m_rd o w a ci h t x hx inb)

theorem a_rdc (arg : Memref sig .tc .vmem S8x80x512 .f32) (L : LA) (o w : ℕ) (a : ℕ) (ci : Fin 8) (h : a = ci.val) (t : Fin 512) (x : Fin w)
    (hx : o + x.val = t.val) (inb : ∀ a', (![a, 0, o] : Fin 3 → ℕ) a' + (⟨3, ![1, 80, w]⟩ : Shape).size a' ≤ S8x80x512.size a') (d : Fin 80) :
    arg.view.readCov L (Rect.unit (s := S8x80x512) ![a, 0, o] (⟨3, ![1, 80, w]⟩ : Shape).size inb).toLoadRect (ix3 (0 : Fin 1) d x)
      = View.canon L (ix3 ci d t) := by
  rw [View.readCov_eq_canon']
  exact congrArg (View.canon L) (a_rd o w a ci h d t x hx inb)

theorem m_rdw (arg : Memref sig .tc .vmem S8x1x512 .f32) (L : LM) (a : ℕ) (ci : Fin 8) (h : a = ci.val) (t : Fin 512)
    (inb : ∀ a', (![a, 0, 0] : Fin 3 → ℕ) a' + S1x1x512.size a' ≤ S8x1x512.size a') :
    View.readAt (Elt Ideal) arg.view (Rect.unit (s := S8x1x512) ![a, 0, 0] S1x1x512.size inb).toLoadRect
      (arg.view.writes (Elt Ideal) arg.view.junk L) (ix3 (0 : Fin 1) (0 : Fin 1) t) = View.canon L (ix3 ci (0 : Fin 1) t) :=
  m_rdc arg L 0 512 a ci h t t (Nat.zero_add _) inb

theorem a_rdw (arg : Memref sig .tc .vmem S8x80x512 .f32) (L : LA) (a : ℕ) (ci : Fin 8) (h : a = ci.val) (t : Fin 512)
    (inb : ∀ a', (![a, 0, 0] : Fin 3 → ℕ) a' + S1x80x512.size a' ≤ S8x80x512.size a') (d : Fin 80) :
    View.readAt (Elt Ideal) arg.view (Rect.unit (s := S8x80x512) ![a, 0, 0] S1x80x512.size inb).toLoadRect
      (arg.view.writes (Elt Ideal) arg.view.junk L) (ix3 (0 : Fin 1) d t) = View.canon L (ix3 ci d t) :=
  a_rdc arg L 0 512 a ci h t t (Nat.zero_add _) inb d

theorem zero_at (S V) (ci : Fin 8) (t : Fin 512) : At S V 0 kernelRun0_A.sl.HS0_1 kernelRun0_A.sl.HS1_1 ci t := by
  have em : View.canon (kernelRun0_A.sl.HS0_1 (F := Ideal)) = k0_pay104 (F := Ideal) :=
    View.canon_cons_unit_lit (Val := Elt Ideal) (e := .f32) (S := S8x1x512) inb_S8x1x512_S8x1x512_0_0_0 (k0_pay104 (F := Ideal)) [] (by decide)
  have ea : View.canon (kernelRun0_A.sl.HS1_1 (F := Ideal)) = k0_pay105 (F := Ideal) :=
    View.canon_cons_unit_lit (Val := Elt Ideal) (e := .f32) (S := S8x80x512) inb_S8x80x512_S8x80x512_0_0_0 (k0_pay105 (F := Ideal)) [] (by decide)
  unfold At
  rw [em, ea]
  have e1 : (k0_pay104 (F := Ideal)) (ix3 ci (0 : Fin 1) t) = ⊥ := neg_inf
  have e2 : ∀ d, (k0_pay105 (F := Ideal)) (ix3 ci d t) = 0 := fun d => by pointwise [k0_pay105]
  rw [e1]
  simp only [e2]
  exact good_zero S V

end Cert.KernelIdeal.Fox
-- ==== Proof.FoxChain.lean ====
/- The state of each chain of the forgetting attention, through the loop and the two diagonal tiles. -/
module

public import proofs.«01_k».proof.Proof.FoxKit

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen Cert.Fox

/-! ## Where the tiles lie -/

theorem trips1 : ∀ t : Fin grid0.N, Scf.trips (k0_t1_loop (grid0.coords t)).lb (k0_t1_loop (grid0.coords t)).ub (k0_t1_loop (grid0.coords t)).st = 2 * ((grid0.coords t) 2).val := by decide +kernel
theorem trips2 : ∀ t : Fin grid0.N, Scf.trips (k0_t2_loop (grid0.coords t)).lb (k0_t2_loop (grid0.coords t)).ub (k0_t2_loop (grid0.coords t)).st = 0 := by decide +kernel
theorem qi_lt : ∀ t : Fin grid0.N, ((grid0.coords t) 2).val < 8 := by decide +kernel
theorem off1 : ∀ t : Fin grid0.N, ∀ k : Fin (k0_t1_loop (grid0.coords t)).trips, k0_off1 (grid0.coords t) k = ![0, 256 * k.val, 0] := by decide +kernel
theorem off25_0 : ∀ t : Fin grid0.N, k0_off25 (grid0.coords t) 0#32 = ![0, 512 * ((grid0.coords t) 2).val + 0, 0] := by decide +kernel
theorem off25_1 : ∀ t : Fin grid0.N, k0_off25 (grid0.coords t) 1#32 = ![0, 512 * ((grid0.coords t) 2).val + 256, 0] := by decide +kernel
theorem off2 : ∀ t : Fin grid0.N, ∀ k : Fin (k0_t1_loop (grid0.coords t)).trips, k0_off2 (grid0.coords t) k = ![0, 256 * k.val, 128] := by decide +kernel
theorem off26_0 : ∀ t : Fin grid0.N, k0_off26 (grid0.coords t) 0#32 = ![0, 512 * ((grid0.coords t) 2).val + 0, 128] := by decide +kernel
theorem off26_1 : ∀ t : Fin grid0.N, k0_off26 (grid0.coords t) 1#32 = ![0, 512 * ((grid0.coords t) 2).val + 256, 128] := by decide +kernel
theorem off3 : ∀ t : Fin grid0.N, ∀ k : Fin (k0_t1_loop (grid0.coords t)).trips, k0_off3 (grid0.coords t) k = ![0, 256 * k.val, 256] := by decide +kernel
theorem off27_0 : ∀ t : Fin grid0.N, k0_off27 (grid0.coords t) 0#32 = ![0, 512 * ((grid0.coords t) 2).val + 0, 256] := by decide +kernel
theorem off27_1 : ∀ t : Fin grid0.N, k0_off27 (grid0.coords t) 1#32 = ![0, 512 * ((grid0.coords t) 2).val + 256, 256] := by decide +kernel
theorem off4 : ∀ t : Fin grid0.N, ∀ k : Fin (k0_t1_loop (grid0.coords t)).trips, k0_off4 (grid0.coords t) k = ![0, 256 * k.val, 384] := by decide +kernel
theorem off28_0 : ∀ t : Fin grid0.N, k0_off28 (grid0.coords t) 0#32 = ![0, 512 * ((grid0.coords t) 2).val + 0, 384] := by decide +kernel
theorem off28_1 : ∀ t : Fin grid0.N, k0_off28 (grid0.coords t) 1#32 = ![0, 512 * ((grid0.coords t) 2).val + 256, 384] := by decide +kernel
theorem off5 : ∀ t : Fin grid0.N, ∀ k : Fin (k0_t1_loop (grid0.coords t)).trips, k0_off5 (grid0.coords t) k = ![0, 256 * k.val] := by decide +kernel
theorem off29_0 : ∀ t : Fin grid0.N, k0_off29 (grid0.coords t) 0#32 = ![0, 512 * ((grid0.coords t) 2).val + 0] := by decide +kernel
theorem off29_1 : ∀ t : Fin grid0.N, k0_off29 (grid0.coords t) 1#32 = ![0, 512 * ((grid0.coords t) 2).val + 256] := by decide +kernel
theorem off6 : ∀ t : Fin grid0.N, ∀ k : Fin (k0_t1_loop (grid0.coords t)).trips, k0_off6 (grid0.coords t) k = ![80, 256 * k.val] := by decide +kernel
theorem off30_0 : ∀ t : Fin grid0.N, k0_off30 (grid0.coords t) 0#32 = ![80, 512 * ((grid0.coords t) 2).val + 0] := by decide +kernel
theorem off30_1 : ∀ t : Fin grid0.N, k0_off30 (grid0.coords t) 1#32 = ![80, 512 * ((grid0.coords t) 2).val + 256] := by decide +kernel
theorem off7 : ∀ t : Fin grid0.N, ∀ k : Fin (k0_t1_loop (grid0.coords t)).trips, k0_off7 (grid0.coords t) k = ![160, 256 * k.val] := by decide +kernel
theorem off31_0 : ∀ t : Fin grid0.N, k0_off31 (grid0.coords t) 0#32 = ![160, 512 * ((grid0.coords t) 2).val + 0] := by decide +kernel
theorem off31_1 : ∀ t : Fin grid0.N, k0_off31 (grid0.coords t) 1#32 = ![160, 512 * ((grid0.coords t) 2).val + 256] := by decide +kernel
theorem off8 : ∀ t : Fin grid0.N, ∀ k : Fin (k0_t1_loop (grid0.coords t)).trips, k0_off8 (grid0.coords t) k = ![240, 256 * k.val] := by decide +kernel
theorem off32_0 : ∀ t : Fin grid0.N, k0_off32 (grid0.coords t) 0#32 = ![240, 512 * ((grid0.coords t) 2).val + 0] := by decide +kernel
theorem off32_1 : ∀ t : Fin grid0.N, k0_off32 (grid0.coords t) 1#32 = ![240, 512 * ((grid0.coords t) 2).val + 256] := by decide +kernel
theorem off9 : ∀ t : Fin grid0.N, ∀ k : Fin (k0_t1_loop (grid0.coords t)).trips, k0_off9 (grid0.coords t) k = ![320, 256 * k.val] := by decide +kernel
theorem off33_0 : ∀ t : Fin grid0.N, k0_off33 (grid0.coords t) 0#32 = ![320, 512 * ((grid0.coords t) 2).val + 0] := by decide +kernel
theorem off33_1 : ∀ t : Fin grid0.N, k0_off33 (grid0.coords t) 1#32 = ![320, 512 * ((grid0.coords t) 2).val + 256] := by decide +kernel
theorem off10 : ∀ t : Fin grid0.N, ∀ k : Fin (k0_t1_loop (grid0.coords t)).trips, k0_off10 (grid0.coords t) k = ![400, 256 * k.val] := by decide +kernel
theorem off34_0 : ∀ t : Fin grid0.N, k0_off34 (grid0.coords t) 0#32 = ![400, 512 * ((grid0.coords t) 2).val + 0] := by decide +kernel
theorem off34_1 : ∀ t : Fin grid0.N, k0_off34 (grid0.coords t) 1#32 = ![400, 512 * ((grid0.coords t) 2).val + 256] := by decide +kernel
theorem off11 : ∀ t : Fin grid0.N, ∀ k : Fin (k0_t1_loop (grid0.coords t)).trips, k0_off11 (grid0.coords t) k = ![480, 256 * k.val] := by decide +kernel
theorem off35_0 : ∀ t : Fin grid0.N, k0_off35 (grid0.coords t) 0#32 = ![480, 512 * ((grid0.coords t) 2).val + 0] := by decide +kernel
theorem off35_1 : ∀ t : Fin grid0.N, k0_off35 (grid0.coords t) 1#32 = ![480, 512 * ((grid0.coords t) 2).val + 256] := by decide +kernel
theorem off12 : ∀ t : Fin grid0.N, ∀ k : Fin (k0_t1_loop (grid0.coords t)).trips, k0_off12 (grid0.coords t) k = ![560, 256 * k.val] := by decide +kernel
theorem off36_0 : ∀ t : Fin grid0.N, k0_off36 (grid0.coords t) 0#32 = ![560, 512 * ((grid0.coords t) 2).val + 0] := by decide +kernel
theorem off36_1 : ∀ t : Fin grid0.N, k0_off36 (grid0.coords t) 1#32 = ![560, 512 * ((grid0.coords t) 2).val + 256] := by decide +kernel

section
variable (c : Dev nD) (t0 : Fin grid0.N) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole)
  (x0 : Vec Ideal S1x512x512 .bf16) (x1 : Vec Ideal S1x4096x512 .bf16) (x2 : Vec Ideal S1x4096x512 .bf16) (x3 : Vec Ideal S640x4096 .bf16)

/-- Chain 0 through the loop. -/
theorem loop_0 (t : Fin 512) (hS : ∀ s, ∃ r : ℝ, (Sf x1 0 (k0_pay92 (View.readAt (Elt Ideal) arg3.view (Rect.unit (s := S1x512x512) ![0, 0, 0] S1x512x128.size inb_S1x512x512_S1x512x128_0_0_0).toLoadRect (harg3.unread x0))) t) s = r) (n : ℕ) (hn : n ≤ (k0_t1_loop (grid0.coords t0)).trips) :
    At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 0 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off1 t0 ⟨n, hn⟩
    have e' := off5 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 0 t (Or.inl (by decide)) _ _ _ _ _ _ ( miss 0 512 6 0 t (Or.inl (by decide)) _ _ _ _ _ _ ( miss 0 512 5 0 t (Or.inl (by decide)) _ _ _ _ _ _ ( miss 0 512 4 0 t (Or.inl (by decide)) _ _ _ _ _ _ ( miss 0 512 3 0 t (Or.inl (by decide)) _ _ _ _ _ _ ( miss 0 512 2 0 t (Or.inl (by decide)) _ _ _ _ _ _ ( miss 0 512 1 0 t (Or.inl (by decide)) _ _ _ _ _ _ (hit0 0 0 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_)))))))
    · exact m_rdw arg9 _ 0 0 rfl t _
    · exact a_rdw arg10 _ 0 0 rfl t _
    · exact fun k => sc_tile arg4 harg4 x1 _ _ (256 * n) 0 0 e rfl (by omega) _ t k _ (by omega)
    · exact fun d k => v_tile arg6 harg6 x3 _ _ (256 * n) 0 0 e' rfl (by omega) d k

/-- Chain 0 at the end. -/
theorem chain_0 (t : Fin 512) (hS : ∀ s, ∃ r : ℝ, (Sf x1 0 (k0_pay92 (View.readAt (Elt Ideal) arg3.view (Rect.unit (s := S1x512x512) ![0, 0, 0] S1x512x128.size inb_S1x512x512_S1x512x128_0_0_0).toLoadRect (harg3.unread x0))) t) s = r) :
    ∃ m, Good (Sf x1 0 (k0_pay92 (View.readAt (Elt Ideal) arg3.view (Rect.unit (s := S1x512x512) ![0, 0, 0] S1x512x128.size inb_S1x512x512_S1x512x128_0_0_0).toLoadRect (harg3.unread x0))) t) (Vf x3 0) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 0 d t)) := by
  have hq := qi_lt t0
  have h0 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 0 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_0 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 0 t := by
    rw [hm_1, ha_1]
    refine hit0 0 0 rfl t hS _ _ (by omega) (by omega) _ _ _ _ _ _ (kernelRun0_A.sl.HS0_1_1 c (grid0.coords t0) arg3 harg3 arg4 harg4 arg5 harg5 arg6 harg6 arg7 harg7 arg8 harg8 arg9 harg9 arg10 harg10 x0 x1 x2 x3).tail _ (kernelRun0_A.sl.HS1_1_1 c (grid0.coords t0) arg3 harg3 arg4 harg4 arg5 harg5 arg6 harg6 arg7 harg7 arg8 harg8 arg9 harg9 arg10 harg10 x0 x1 x2 x3).tail _ h0 ?_ ?_ ?_ ?_
    · exact m_rdc arg9 _ 0 512 0 0 rfl t t (Nat.zero_add _) _
    · exact a_rdc arg10 _ 0 512 0 0 rfl t t (Nat.zero_add _) _
    · exact fun k => sc0_tile arg4 harg4 x1 _ _ (512 * ((grid0.coords t0) 2).val) 0 0 (off25_0 t0) rfl (by omega) _ t k _ rfl
    · exact fun d k => v_tile arg6 harg6 x3 _ _ (512 * ((grid0.coords t0) 2).val) 0 0 (off29_0 t0) rfl (by omega) d k
  have h2 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 0 t := by
    rw [hm_2, ha_2]
    exact miss 0 512 1 0 t (Or.inl (by decide)) _ _ _ _ _ _ h1
  have h3 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 0 t := by
    rw [hm_3, ha_3]
    exact miss 0 512 2 0 t (Or.inl (by decide)) _ _ _ _ _ _ h2
  have h4 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 0 t := by
    rw [hm_4, ha_4]
    exact miss 0 512 3 0 t (Or.inl (by decide)) _ _ _ _ _ _ h3
  have h5 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 0 t := by
    rw [hm_5, ha_5]
    exact miss 0 512 4 0 t (Or.inl (by decide)) _ _ _ _ _ _ h4
  have h6 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 0 t := by
    rw [hm_6, ha_6]
    exact miss 0 512 5 0 t (Or.inl (by decide)) _ _ _ _ _ _ h5
  have h7 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 0 t := by
    rw [hm_7, ha_7]
    exact miss 0 512 6 0 t (Or.inl (by decide)) _ _ _ _ _ _ h6
  have h8 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 0 t := by
    rw [hm_8, ha_8]
    exact miss 0 512 7 0 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 0 t := by
      rw [hm_9, ha_9]
      exact miss 256 256 0 0 t (Or.inr hx) _ _ _ _ _ _ h8
    have h10 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 0 t := by
      rw [hm_10, ha_10]
      exact miss 256 256 1 0 t (Or.inr hx) _ _ _ _ _ _ h9
    have h11 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 0 t := by
      rw [hm_11, ha_11]
      exact miss 256 256 2 0 t (Or.inr hx) _ _ _ _ _ _ h10
    have h12 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 0 t := by
      rw [hm_12, ha_12]
      exact miss 256 256 3 0 t (Or.inr hx) _ _ _ _ _ _ h11
    have h13 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 0 t := by
      rw [hm_13, ha_13]
      exact miss 256 256 4 0 t (Or.inr hx) _ _ _ _ _ _ h12
    have h14 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 0 t := by
      rw [hm_14, ha_14]
      exact miss 256 256 5 0 t (Or.inr hx) _ _ _ _ _ _ h13
    have h15 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 0 t := by
      rw [hm_15, ha_15]
      exact miss 256 256 6 0 t (Or.inr hx) _ _ _ _ _ _ h14
    rw [ha_16]
    exact ⟨_, miss 256 256 7 0 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 0 t := by
      rw [hm_9, ha_9]
      refine hit1 0 0 rfl t x hxt hS ((512 * ((grid0.coords t0) 2).val) + 256) ((512 * ((grid0.coords t0) 2).val) + t.val + 1) (by omega) (by omega) inb_S8x1x512_S1x1x256_0_0_256 inb_S8x80x512_S1x80x256_0_0_256 _ _ _ _ (kernelRun0_A.sl.HS0_8 c (grid0.coords t0) arg3 harg3 arg4 harg4 arg5 harg5 arg6 harg6 arg7 harg7 arg8 harg8 arg9 harg9 arg10 harg10 x0 x1 x2 x3) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) h8 ?_ ?_ ?_ ?_
      · exact m_rdc arg9 _ 256 256 0 0 rfl t x hxt _
      · exact a_rdc arg10 _ 256 256 0 0 rfl t x hxt _
      · exact fun k => sc1_tile arg4 harg4 x1 _ _ ((512 * ((grid0.coords t0) 2).val) + 256) 0 0 (off25_1 t0) rfl (by omega) _ t x hxt k _ (by omega)
      · exact fun d k => v_tile arg6 harg6 x3 _ _ ((512 * ((grid0.coords t0) 2).val) + 256) 0 0 (off29_1 t0) rfl (by omega) d k
    have h10 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 0 t := by
      rw [hm_10, ha_10]
      exact miss 256 256 1 0 t (Or.inl (by decide)) _ _ _ _ _ _ h9
    have h11 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 0 t := by
      rw [hm_11, ha_11]
      exact miss 256 256 2 0 t (Or.inl (by decide)) _ _ _ _ _ _ h10
    have h12 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 0 t := by
      rw [hm_12, ha_12]
      exact miss 256 256 3 0 t (Or.inl (by decide)) _ _ _ _ _ _ h11
    have h13 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 0 t := by
      rw [hm_13, ha_13]
      exact miss 256 256 4 0 t (Or.inl (by decide)) _ _ _ _ _ _ h12
    have h14 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 0 t := by
      rw [hm_14, ha_14]
      exact miss 256 256 5 0 t (Or.inl (by decide)) _ _ _ _ _ _ h13
    have h15 : At (Sf x1 0 (k0_pay92 (View.readAt (Elt Ideal) arg3.view (Rect.unit (s := S1x512x512) ![0, 0, 0] S1x512x128.size inb_S1x512x512_S1x512x128_0_0_0).toLoadRect (harg3.unread x0))) t) (Vf x3 0) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 0 t := by
      rw [hm_15, ha_15]
      exact miss 256 256 6 0 t (Or.inl (by decide)) _ _ _ _ _ _ h14
    rw [ha_16]
    exact ⟨_, miss 256 256 7 0 t (Or.inl (by decide)) inb_S8x1x512_S1x1x256_7_0_256 (fun _ => (0 : EReal)) inb_S8x80x512_S1x80x256_7_0_256 _ _ _ h15⟩

/-- Chain 1 through the loop. -/
theorem loop_1 (t : Fin 512) (hS : ∀ s, ∃ r : ℝ, (Sf x2 0 (k0_pay93 (View.readAt (Elt Ideal) arg3.view (Rect.unit (s := S1x512x512) ![0, 0, 0] S1x512x128.size inb_S1x512x512_S1x512x128_0_0_0).toLoadRect (harg3.unread x0))) t) s = r) (n : ℕ) (hn : n ≤ (k0_t1_loop (grid0.coords t0)).trips) :
    At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 1 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off1 t0 ⟨n, hn⟩
    have e' := off6 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 1 t (Or.inl (by decide)) _ _ _ _ _ _ ( miss 0 512 6 1 t (Or.inl (by decide)) _ _ _ _ _ _ ( miss 0 512 5 1 t (Or.inl (by decide)) _ _ _ _ _ _ ( miss 0 512 4 1 t (Or.inl (by decide)) _ _ _ _ _ _ ( miss 0 512 3 1 t (Or.inl (by decide)) _ _ _ _ _ _ ( miss 0 512 2 1 t (Or.inl (by decide)) _ _ _ _ _ _ (hit0 1 1 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_))))))
    · exact m_rdw arg9 _ 1 1 rfl t _
    · exact a_rdw arg10 _ 1 1 rfl t _
    · exact fun k => sc_tile arg5 harg5 x2 _ _ (256 * n) 0 0 e rfl (by omega) _ t k _ (by omega)
    · exact fun d k => v_tile arg6 harg6 x3 _ _ (256 * n) 80 1 e' rfl (by omega) d k

/-- Chain 1 at the end. -/
theorem chain_1 (t : Fin 512) (hS : ∀ s, ∃ r : ℝ, (Sf x2 0 (k0_pay93 (View.readAt (Elt Ideal) arg3.view (Rect.unit (s := S1x512x512) ![0, 0, 0] S1x512x128.size inb_S1x512x512_S1x512x128_0_0_0).toLoadRect (harg3.unread x0))) t) s = r) :
    ∃ m, Good (Sf x2 0 (k0_pay93 (View.readAt (Elt Ideal) arg3.view (Rect.unit (s := S1x512x512) ![0, 0, 0] S1x512x128.size inb_S1x512x512_S1x512x128_0_0_0).toLoadRect (harg3.unread x0))) t) (Vf x3 1) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 1 d t)) := by
  have hq := qi_lt t0
  have h0 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 1 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_1 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 1 t := by
    rw [hm_1, ha_1]
    exact miss 0 512 0 1 t (Or.inl (by decide)) _ _ _ _ _ _ h0
  have h2 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 1 t := by
    rw [hm_2, ha_2]
    refine hit0 1 1 rfl t hS _ _ (by omega) (by omega) _ _ _ _ _ _ (kernelRun0_A.sl.HS0_1_1 c (grid0.coords t0) arg3 harg3 arg4 harg4 arg5 harg5 arg6 harg6 arg7 harg7 arg8 harg8 arg9 harg9 arg10 harg10 x0 x1 x2 x3) _ (kernelRun0_A.sl.HS1_1_1 c (grid0.coords t0) arg3 harg3 arg4 harg4 arg5 harg5 arg6 harg6 arg7 harg7 arg8 harg8 arg9 harg9 arg10 harg10 x0 x1 x2 x3) _ h1 ?_ ?_ ?_ ?_
    · exact m_rdc arg9 _ 0 512 1 1 rfl t t (Nat.zero_add _) _
    · exact a_rdc arg10 _ 0 512 1 1 rfl t t (Nat.zero_add _) _
    · exact fun k => sc0_tile arg5 harg5 x2 _ _ (512 * ((grid0.coords t0) 2).val) 0 0 (off25_0 t0) rfl (by omega) _ t k _ rfl
    · exact fun d k => v_tile arg6 harg6 x3 _ _ (512 * ((grid0.coords t0) 2).val) 80 1 (off30_0 t0) rfl (by omega) d k
  have h3 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 1 t := by
    rw [hm_3, ha_3]
    exact miss 0 512 2 1 t (Or.inl (by decide)) _ _ _ _ _ _ h2
  have h4 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 1 t := by
    rw [hm_4, ha_4]
    exact miss 0 512 3 1 t (Or.inl (by decide)) _ _ _ _ _ _ h3
  have h5 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 1 t := by
    rw [hm_5, ha_5]
    exact miss 0 512 4 1 t (Or.inl (by decide)) _ _ _ _ _ _ h4
  have h6 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 1 t := by
    rw [hm_6, ha_6]
    exact miss 0 512 5 1 t (Or.inl (by decide)) _ _ _ _ _ _ h5
  have h7 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 1 t := by
    rw [hm_7, ha_7]
    exact miss 0 512 6 1 t (Or.inl (by decide)) _ _ _ _ _ _ h6
  have h8 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 1 t := by
    rw [hm_8, ha_8]
    exact miss 0 512 7 1 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 1 t := by
      rw [hm_9, ha_9]
      exact miss 256 256 0 1 t (Or.inr hx) _ _ _ _ _ _ h8
    have h10 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 1 t := by
      rw [hm_10, ha_10]
      exact miss 256 256 1 1 t (Or.inr hx) _ _ _ _ _ _ h9
    have h11 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 1 t := by
      rw [hm_11, ha_11]
      exact miss 256 256 2 1 t (Or.inr hx) _ _ _ _ _ _ h10
    have h12 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 1 t := by
      rw [hm_12, ha_12]
      exact miss 256 256 3 1 t (Or.inr hx) _ _ _ _ _ _ h11
    have h13 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 1 t := by
      rw [hm_13, ha_13]
      exact miss 256 256 4 1 t (Or.inr hx) _ _ _ _ _ _ h12
    have h14 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 1 t := by
      rw [hm_14, ha_14]
      exact miss 256 256 5 1 t (Or.inr hx) _ _ _ _ _ _ h13
    have h15 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 1 t := by
      rw [hm_15, ha_15]
      exact miss 256 256 6 1 t (Or.inr hx) _ _ _ _ _ _ h14
    rw [ha_16]
    exact ⟨_, miss 256 256 7 1 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 1 t := by
      rw [hm_9, ha_9]
      exact miss 256 256 0 1 t (Or.inl (by decide)) _ _ _ _ _ _ h8
    have h10 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 1 t := by
      rw [hm_10, ha_10]
      refine hit1 1 1 rfl t x hxt hS ((512 * ((grid0.coords t0) 2).val) + 256) ((512 * ((grid0.coords t0) 2).val) + t.val + 1) (by omega) (by omega) inb_S8x1x512_S1x1x256_1_0_256 inb_S8x80x512_S1x80x256_1_0_256 _ _ _ _ (kernelRun0_A.sl.HS0_9 c (grid0.coords t0) arg3 harg3 arg4 harg4 arg5 harg5 arg6 harg6 arg7 harg7 arg8 harg8 arg9 harg9 arg10 harg10 x0 x1 x2 x3) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) h9 ?_ ?_ ?_ ?_
      · exact m_rdc arg9 _ 256 256 1 1 rfl t x hxt _
      · exact a_rdc arg10 _ 256 256 1 1 rfl t x hxt _
      · exact fun k => sc1_tile arg5 harg5 x2 _ _ ((512 * ((grid0.coords t0) 2).val) + 256) 0 0 (off25_1 t0) rfl (by omega) _ t x hxt k _ (by omega)
      · exact fun d k => v_tile arg6 harg6 x3 _ _ ((512 * ((grid0.coords t0) 2).val) + 256) 80 1 (off30_1 t0) rfl (by omega) d k
    have h11 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 1 t := by
      rw [hm_11, ha_11]
      exact miss 256 256 2 1 t (Or.inl (by decide)) _ _ _ _ _ _ h10
    have h12 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 1 t := by
      rw [hm_12, ha_12]
      exact miss 256 256 3 1 t (Or.inl (by decide)) _ _ _ _ _ _ h11
    have h13 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 1 t := by
      rw [hm_13, ha_13]
      exact miss 256 256 4 1 t (Or.inl (by decide)) _ _ _ _ _ _ h12
    have h14 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 1 t := by
      rw [hm_14, ha_14]
      exact miss 256 256 5 1 t (Or.inl (by decide)) _ _ _ _ _ _ h13
    have h15 : At (Sf x2 0 (k0_pay93 (View.readAt (Elt Ideal) arg3.view (Rect.unit (s := S1x512x512) ![0, 0, 0] S1x512x128.size inb_S1x512x512_S1x512x128_0_0_0).toLoadRect (harg3.unread x0))) t) (Vf x3 1) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 1 t := by
      rw [hm_15, ha_15]
      exact miss 256 256 6 1 t (Or.inl (by decide)) _ _ _ _ _ _ h14
    rw [ha_16]
    exact ⟨_, miss 256 256 7 1 t (Or.inl (by decide)) inb_S8x1x512_S1x1x256_7_0_256 (fun _ => (0 : EReal)) inb_S8x80x512_S1x80x256_7_0_256 _ _ _ h15⟩

/-- Chain 2 through the loop. -/
theorem loop_2 (t : Fin 512) (hS : ∀ s, ∃ r : ℝ, (Sf x1 1 (k0_pay92 (View.readAt (Elt Ideal) arg3.view (Rect.unit (s := S1x512x512) ![0, 0, 128] S1x512x128.size inb_S1x512x512_S1x512x128_0_0_128).toLoadRect (harg3.unread x0))) t) s = r) (n : ℕ) (hn : n ≤ (k0_t1_loop (grid0.coords t0)).trips) :
    At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 2 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off2 t0 ⟨n, hn⟩
    have e' := off7 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 2 t (Or.inl (by decide)) _ _ _ _ _ _ ( miss 0 512 6 2 t (Or.inl (by decide)) _ _ _ _ _ _ ( miss 0 512 5 2 t (Or.inl (by decide)) _ _ _ _ _ _ ( miss 0 512 4 2 t (Or.inl (by decide)) _ _ _ _ _ _ ( miss 0 512 3 2 t (Or.inl (by decide)) _ _ _ _ _ _ (hit0 2 2 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_)))))
    · exact m_rdw arg9 _ 2 2 rfl t _
    · exact a_rdw arg10 _ 2 2 rfl t _
    · exact fun k => sc_tile arg4 harg4 x1 _ _ (256 * n) 128 1 e rfl (by omega) _ t k _ (by omega)
    · exact fun d k => v_tile arg6 harg6 x3 _ _ (256 * n) 160 2 e' rfl (by omega) d k

/-- Chain 2 at the end. -/
theorem chain_2 (t : Fin 512) (hS : ∀ s, ∃ r : ℝ, (Sf x1 1 (k0_pay92 (View.readAt (Elt Ideal) arg3.view (Rect.unit (s := S1x512x512) ![0, 0, 128] S1x512x128.size inb_S1x512x512_S1x512x128_0_0_128).toLoadRect (harg3.unread x0))) t) s = r) :
    ∃ m, Good (Sf x1 1 (k0_pay92 (View.readAt (Elt Ideal) arg3.view (Rect.unit (s := S1x512x512) ![0, 0, 128] S1x512x128.size inb_S1x512x512_S1x512x128_0_0_128).toLoadRect (harg3.unread x0))) t) (Vf x3 2) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 2 d t)) := by
  have hq := qi_lt t0
  have h0 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 2 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_2 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 2 t := by
    rw [hm_1, ha_1]
    exact miss 0 512 0 2 t (Or.inl (by decide)) _ _ _ _ _ _ h0
  have h2 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 2 t := by
    rw [hm_2, ha_2]
    exact miss 0 512 1 2 t (Or.inl (by decide)) _ _ _ _ _ _ h1
  have h3 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 2 t := by
    rw [hm_3, ha_3]
    refine hit0 2 2 rfl t hS _ _ (by omega) (by omega) _ _ _ _ _ _ (kernelRun0_A.sl.HS0_2 c (grid0.coords t0) arg3 harg3 arg4 harg4 arg5 harg5 arg6 harg6 arg7 harg7 arg8 harg8 arg9 harg9 arg10 harg10 x0 x1 x2 x3) _ (kernelRun0_A.sl.HS1_2 c (grid0.coords t0) arg3 harg3 arg4 harg4 arg5 harg5 arg6 harg6 arg7 harg7 arg8 harg8 arg9 harg9 arg10 harg10 x0 x1 x2 x3) _ h2 ?_ ?_ ?_ ?_
    · exact m_rdc arg9 _ 0 512 2 2 rfl t t (Nat.zero_add _) _
    · exact a_rdc arg10 _ 0 512 2 2 rfl t t (Nat.zero_add _) _
    · exact fun k => sc0_tile arg4 harg4 x1 _ _ (512 * ((grid0.coords t0) 2).val) 128 1 (off26_0 t0) rfl (by omega) _ t k _ rfl
    · exact fun d k => v_tile arg6 harg6 x3 _ _ (512 * ((grid0.coords t0) 2).val) 160 2 (off31_0 t0) rfl (by omega) d k
  have h4 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 2 t := by
    rw [hm_4, ha_4]
    exact miss 0 512 3 2 t (Or.inl (by decide)) _ _ _ _ _ _ h3
  have h5 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 2 t := by
    rw [hm_5, ha_5]
    exact miss 0 512 4 2 t (Or.inl (by decide)) _ _ _ _ _ _ h4
  have h6 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 2 t := by
    rw [hm_6, ha_6]
    exact miss 0 512 5 2 t (Or.inl (by decide)) _ _ _ _ _ _ h5
  have h7 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 2 t := by
    rw [hm_7, ha_7]
    exact miss 0 512 6 2 t (Or.inl (by decide)) _ _ _ _ _ _ h6
  have h8 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 2 t := by
    rw [hm_8, ha_8]
    exact miss 0 512 7 2 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 2 t := by
      rw [hm_9, ha_9]
      exact miss 256 256 0 2 t (Or.inr hx) _ _ _ _ _ _ h8
    have h10 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 2 t := by
      rw [hm_10, ha_10]
      exact miss 256 256 1 2 t (Or.inr hx) _ _ _ _ _ _ h9
    have h11 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 2 t := by
      rw [hm_11, ha_11]
      exact miss 256 256 2 2 t (Or.inr hx) _ _ _ _ _ _ h10
    have h12 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 2 t := by
      rw [hm_12, ha_12]
      exact miss 256 256 3 2 t (Or.inr hx) _ _ _ _ _ _ h11
    have h13 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 2 t := by
      rw [hm_13, ha_13]
      exact miss 256 256 4 2 t (Or.inr hx) _ _ _ _ _ _ h12
    have h14 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 2 t := by
      rw [hm_14, ha_14]
      exact miss 256 256 5 2 t (Or.inr hx) _ _ _ _ _ _ h13
    have h15 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 2 t := by
      rw [hm_15, ha_15]
      exact miss 256 256 6 2 t (Or.inr hx) _ _ _ _ _ _ h14
    rw [ha_16]
    exact ⟨_, miss 256 256 7 2 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 2 t := by
      rw [hm_9, ha_9]
      exact miss 256 256 0 2 t (Or.inl (by decide)) _ _ _ _ _ _ h8
    have h10 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 2 t := by
      rw [hm_10, ha_10]
      exact miss 256 256 1 2 t (Or.inl (by decide)) _ _ _ _ _ _ h9
    have h11 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 2 t := by
      rw [hm_11, ha_11]
      refine hit1 2 2 rfl t x hxt hS ((512 * ((grid0.coords t0) 2).val) + 256) ((512 * ((grid0.coords t0) 2).val) + t.val + 1) (by omega) (by omega) inb_S8x1x512_S1x1x256_2_0_256 inb_S8x80x512_S1x80x256_2_0_256 _ _ _ _ (kernelRun0_A.sl.HS0_10 c (grid0.coords t0) arg3 harg3 arg4 harg4 arg5 harg5 arg6 harg6 arg7 harg7 arg8 harg8 arg9 harg9 arg10 harg10 x0 x1 x2 x3) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) h10 ?_ ?_ ?_ ?_
      · exact m_rdc arg9 _ 256 256 2 2 rfl t x hxt _
      · exact a_rdc arg10 _ 256 256 2 2 rfl t x hxt _
      · exact fun k => sc1_tile arg4 harg4 x1 _ _ ((512 * ((grid0.coords t0) 2).val) + 256) 128 1 (off26_1 t0) rfl (by omega) _ t x hxt k _ (by omega)
      · exact fun d k => v_tile arg6 harg6 x3 _ _ ((512 * ((grid0.coords t0) 2).val) + 256) 160 2 (off31_1 t0) rfl (by omega) d k
    have h12 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 2 t := by
      rw [hm_12, ha_12]
      exact miss 256 256 3 2 t (Or.inl (by decide)) _ _ _ _ _ _ h11
    have h13 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 2 t := by
      rw [hm_13, ha_13]
      exact miss 256 256 4 2 t (Or.inl (by decide)) _ _ _ _ _ _ h12
    have h14 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 2 t := by
      rw [hm_14, ha_14]
      exact miss 256 256 5 2 t (Or.inl (by decide)) _ _ _ _ _ _ h13
    have h15 : At (Sf x1 1 (k0_pay92 (View.readAt (Elt Ideal) arg3.view (Rect.unit (s := S1x512x512) ![0, 0, 128] S1x512x128.size inb_S1x512x512_S1x512x128_0_0_128).toLoadRect (harg3.unread x0))) t) (Vf x3 2) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 2 t := by
      rw [hm_15, ha_15]
      exact miss 256 256 6 2 t (Or.inl (by decide)) _ _ _ _ _ _ h14
    rw [ha_16]
    exact ⟨_, miss 256 256 7 2 t (Or.inl (by decide)) inb_S8x1x512_S1x1x256_7_0_256 (fun _ => (0 : EReal)) inb_S8x80x512_S1x80x256_7_0_256 _ _ _ h15⟩

/-- Chain 3 through the loop. -/
theorem loop_3 (t : Fin 512) (hS : ∀ s, ∃ r : ℝ, (Sf x2 1 (k0_pay93 (View.readAt (Elt Ideal) arg3.view (Rect.unit (s := S1x512x512) ![0, 0, 128] S1x512x128.size inb_S1x512x512_S1x512x128_0_0_128).toLoadRect (harg3.unread x0))) t) s = r) (n : ℕ) (hn : n ≤ (k0_t1_loop (grid0.coords t0)).trips) :
    At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 3 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off2 t0 ⟨n, hn⟩
    have e' := off8 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 3 t (Or.inl (by decide)) _ _ _ _ _ _ ( miss 0 512 6 3 t (Or.inl (by decide)) _ _ _ _ _ _ ( miss 0 512 5 3 t (Or.inl (by decide)) _ _ _ _ _ _ ( miss 0 512 4 3 t (Or.inl (by decide)) _ _ _ _ _ _ (hit0 3 3 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_))))
    · exact m_rdw arg9 _ 3 3 rfl t _
    · exact a_rdw arg10 _ 3 3 rfl t _
    · exact fun k => sc_tile arg5 harg5 x2 _ _ (256 * n) 128 1 e rfl (by omega) _ t k _ (by omega)
    · exact fun d k => v_tile arg6 harg6 x3 _ _ (256 * n) 240 3 e' rfl (by omega) d k

/-- Chain 3 at the end. -/
theorem chain_3 (t : Fin 512) (hS : ∀ s, ∃ r : ℝ, (Sf x2 1 (k0_pay93 (View.readAt (Elt Ideal) arg3.view (Rect.unit (s := S1x512x512) ![0, 0, 128] S1x512x128.size inb_S1x512x512_S1x512x128_0_0_128).toLoadRect (harg3.unread x0))) t) s = r) :
    ∃ m, Good (Sf x2 1 (k0_pay93 (View.readAt (Elt Ideal) arg3.view (Rect.unit (s := S1x512x512) ![0, 0, 128] S1x512x128.size inb_S1x512x512_S1x512x128_0_0_128).toLoadRect (harg3.unread x0))) t) (Vf x3 3) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 3 d t)) := by
  have hq := qi_lt t0
  have h0 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 3 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_3 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 3 t := by
    rw [hm_1, ha_1]
    exact miss 0 512 0 3 t (Or.inl (by decide)) _ _ _ _ _ _ h0
  have h2 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 3 t := by
    rw [hm_2, ha_2]
    exact miss 0 512 1 3 t (Or.inl (by decide)) _ _ _ _ _ _ h1
  have h3 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (512 * ((grid0.coords t0) 2).val) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 3 t := by
    rw [hm_3, ha_3]
    exact miss 0 512 2 3 t (Or.inl (by decide)) _ _ _ _ _ _ h2
  have h4 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (min ((512 * ((grid0.coords t0) 2).val) + 256) ((512 * ((grid0.coords t0) 2).val) + t.val + 1)) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 3 t := by
    rw [hm_4, ha_4]
    refine hit0 3 3 rfl t hS _ _ (by omega) (by omega) _ _ _ _ _ _ (kernelRun0_A.sl.HS0_3 c (grid0.coords t0) arg3 harg3 arg4 harg4 arg5 harg5 arg6 harg6 arg7 harg7 arg8 harg8 arg9 harg9 arg10 harg10 x0 x1 x2 x3) _ (kernelRun0_A.sl.HS1_3 c (grid0.coords t0) arg3 harg3 arg4 harg4 arg5 harg5 arg6 harg6 arg7 harg7 arg8 harg8 arg9 harg9 arg10 harg10 x0 x1 x2 x3) _ h3 ?_ ?_ ?_ ?_
    · exact m_rdc arg9 _ 0 512 3 3 rfl t t (Nat.zero_add _) _
    · exact a_rdc arg10 _ 0 512 3 3 rfl t t (Nat.zero_add _) _
    · exact fun k => sc0_tile arg5 harg5 x2 _ _ (512 * ((grid0.coords t0) 2).val) 128 1 (off26_0 t0) rfl (by omega) _ t k _ rfl
    · exact fun d k => v_tile arg6 harg6 x3 _ _ (512 * ((grid0.coords t0) 2).val) 240 3 (off32_0 t0) rfl (by omega) d k
  have h5 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (min ((512 * ((grid0.coords t0) 2).val) + 256) ((512 * ((grid0.coords t0) 2).val) + t.val + 1)) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 3 t := by
    rw [hm_5, ha_5]
    exact miss 0 512 4 3 t (Or.inl (by decide)) _ _ _ _ _ _ h4
  have h6 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 3 t := by
    rw [hm_6, ha_6]
    exact miss 0 512 5 3 t (Or.inl (by decide)) _ _ _ _ _ _ h5
  have h7 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 3 t := by
    rw [hm_7, ha_7]
    exact miss 0 512 6 3 t (Or.inl (by decide)) _ _ _ _ _ _ h6
  have h8 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 3 t := by
    rw [hm_8, ha_8]
    exact miss 0 512 7 3 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 3 t := by
      rw [hm_9, ha_9]
      exact miss 256 256 0 3 t (Or.inr hx) _ _ _ _ _ _ h8
    have h10 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 3 t := by
      rw [hm_10, ha_10]
      exact miss 256 256 1 3 t (Or.inr hx) _ _ _ _ _ _ h9
    have h11 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 3 t := by
      rw [hm_11, ha_11]
      exact miss 256 256 2 3 t (Or.inr hx) _ _ _ _ _ _ h10
    have h12 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 3 t := by
      rw [hm_12, ha_12]
      exact miss 256 256 3 3 t (Or.inr hx) _ _ _ _ _ _ h11
    have h13 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 3 t := by
      rw [hm_13, ha_13]
      exact miss 256 256 4 3 t (Or.inr hx) _ _ _ _ _ _ h12
    have h14 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 3 t := by
      rw [hm_14, ha_14]
      exact miss 256 256 5 3 t (Or.inr hx) _ _ _ _ _ _ h13
    have h15 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 3 t := by
      rw [hm_15, ha_15]
      exact miss 256 256 6 3 t (Or.inr hx) _ _ _ _ _ _ h14
    rw [ha_16]
    exact ⟨_, miss 256 256 7 3 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 3 t := by
      rw [hm_9, ha_9]
      exact miss 256 256 0 3 t (Or.inl (by decide)) _ _ _ _ _ _ h8
    have h10 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 3 t := by
      rw [hm_10, ha_10]
      exact miss 256 256 1 3 t (Or.inl (by decide)) _ _ _ _ _ _ h9
    have h11 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + 256) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 3 t := by
      rw [hm_11, ha_11]
      exact miss 256 256 2 3 t (Or.inl (by decide)) _ _ _ _ _ _ h10
    have h12 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 3 t := by
      rw [hm_12, ha_12]
      refine hit1 3 3 rfl t x hxt hS ((512 * ((grid0.coords t0) 2).val) + 256) ((512 * ((grid0.coords t0) 2).val) + t.val + 1) (by omega) (by omega) inb_S8x1x512_S1x1x256_3_0_256 inb_S8x80x512_S1x80x256_3_0_256 _ _ _ _ (kernelRun0_A.sl.HS0_11 c (grid0.coords t0) arg3 harg3 arg4 harg4 arg5 harg5 arg6 harg6 arg7 harg7 arg8 harg8 arg9 harg9 arg10 harg10 x0 x1 x2 x3) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) h11 ?_ ?_ ?_ ?_
      · exact m_rdc arg9 _ 256 256 3 3 rfl t x hxt _
      · exact a_rdc arg10 _ 256 256 3 3 rfl t x hxt _
      · exact fun k => sc1_tile arg5 harg5 x2 _ _ ((512 * ((grid0.coords t0) 2).val) + 256) 128 1 (off26_1 t0) rfl (by omega) _ t x hxt k _ (by omega)
      · exact fun d k => v_tile arg6 harg6 x3 _ _ ((512 * ((grid0.coords t0) 2).val) + 256) 240 3 (off32_1 t0) rfl (by omega) d k
    have h13 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 3 t := by
      rw [hm_13, ha_13]
      exact miss 256 256 4 3 t (Or.inl (by decide)) _ _ _ _ _ _ h12
    have h14 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 3 t := by
      rw [hm_14, ha_14]
      exact miss 256 256 5 3 t (Or.inl (by decide)) _ _ _ _ _ _ h13
    have h15 : At (Sf x2 1 (k0_pay93 (View.readAt (Elt Ideal) arg3.view (Rect.unit (s := S1x512x512) ![0, 0, 128] S1x512x128.size inb_S1x512x512_S1x512x128_0_0_128).toLoadRect (harg3.unread x0))) t) (Vf x3 3) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 3 t := by
      rw [hm_15, ha_15]
      exact miss 256 256 6 3 t (Or.inl (by decide)) _ _ _ _ _ _ h14
    rw [ha_16]
    exact ⟨_, miss 256 256 7 3 t (Or.inl (by decide)) inb_S8x1x512_S1x1x256_7_0_256 (fun _ => (0 : EReal)) inb_S8x80x512_S1x80x256_7_0_256 _ _ _ h15⟩

end

end Cert.KernelIdeal.Fox
-- ==== Proof.FoxChains.lean ====
/- The state of each chain of the forgetting attention, through the loop and the two diagonal tiles. -/
module

public import proofs.«01_k».proof.Proof.FoxChain

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen Cert.Fox

section
variable (c : Dev nD) (t0 : Fin grid0.N) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole)
  (x0 : Vec Ideal S1x512x512 .bf16) (x1 : Vec Ideal S1x4096x512 .bf16) (x2 : Vec Ideal S1x4096x512 .bf16) (x3 : Vec Ideal S640x4096 .bf16)

/-- Chain 4 through the loop. -/
theorem loop_4 (t : Fin 512) (hS : ∀ s, ∃ r : ℝ, (Sf x1 2 (k0_pay92 (View.readAt (Elt Ideal) arg3.view (Rect.unit (s := S1x512x512) ![0, 0, 256] S1x512x128.size inb_S1x512x512_S1x512x128_0_0_256).toLoadRect (harg3.unread x0))) t) s = r) (n : ℕ) (hn : n ≤ (k0_t1_loop (grid0.coords t0)).trips) :
    At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 4 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off3 t0 ⟨n, hn⟩
    have e' := off9 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 4 t (Or.inl (by decide)) _ _ _ _ _ _ ( miss 0 512 6 4 t (Or.inl (by decide)) _ _ _ _ _ _ ( miss 0 512 5 4 t (Or.inl (by decide)) _ _ _ _ _ _ (hit0 4 4 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_)))
    · exact m_rdw arg9 _ 4 4 rfl t _
    · exact a_rdw arg10 _ 4 4 rfl t _
    · exact fun k => sc_tile arg4 harg4 x1 _ _ (256 * n) 256 2 e rfl (by omega) _ t k _ (by omega)
    · exact fun d k => v_tile arg6 harg6 x3 _ _ (256 * n) 320 4 e' rfl (by omega) d k

/-- Chain 4 at the end. -/
theorem chain_4 (t : Fin 512) (hS : ∀ s, ∃ r : ℝ, (Sf x1 2 (k0_pay92 (View.readAt (Elt Ideal) arg3.view (Rect.unit (s := S1x512x512) ![0, 0, 256] S1x512x128.size inb_S1x512x512_S1x512x128_0_0_256).toLoadRect (harg3.unread x0))) t) s = r) :
    ∃ m, Good (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 4 d t)) := by
  have hq := qi_lt t0
  have h0 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 4 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_4 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 4 t := by
    rw [hm_1, ha_1]
    exact miss 0 512 0 4 t (Or.inl (by decide)) _ _ _ _ _ _ h0
  have h2 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 4 t := by
    rw [hm_2, ha_2]
    exact miss 0 512 1 4 t (Or.inl (by decide)) _ _ _ _ _ _ h1
  have h3 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 4 t := by
    rw [hm_3, ha_3]
    exact miss 0 512 2 4 t (Or.inl (by decide)) _ _ _ _ _ _ h2
  have h4 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (512 * ((grid0.coords t0) 2).val) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 4 t := by
    rw [hm_4, ha_4]
    exact miss 0 512 3 4 t (Or.inl (by decide)) _ _ _ _ _ _ h3
  have h5 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (min ((512 * ((grid0.coords t0) 2).val) + 256) ((512 * ((grid0.coords t0) 2).val) + t.val + 1)) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 4 t := by
    rw [hm_5, ha_5]
    refine hit0 4 4 rfl t hS _ _ (by omega) (by omega) _ _ _ _ _ _ (kernelRun0_A.sl.HS0_4 c (grid0.coords t0) arg3 harg3 arg4 harg4 arg5 harg5 arg6 harg6 arg7 harg7 arg8 harg8 arg9 harg9 arg10 harg10 x0 x1 x2 x3) _ (kernelRun0_A.sl.HS1_4 c (grid0.coords t0) arg3 harg3 arg4 harg4 arg5 harg5 arg6 harg6 arg7 harg7 arg8 harg8 arg9 harg9 arg10 harg10 x0 x1 x2 x3) _ h4 ?_ ?_ ?_ ?_
    · exact m_rdc arg9 _ 0 512 4 4 rfl t t (Nat.zero_add _) _
    · exact a_rdc arg10 _ 0 512 4 4 rfl t t (Nat.zero_add _) _
    · exact fun k => sc0_tile arg4 harg4 x1 _ _ (512 * ((grid0.coords t0) 2).val) 256 2 (off27_0 t0) rfl (by omega) _ t k _ rfl
    · exact fun d k => v_tile arg6 harg6 x3 _ _ (512 * ((grid0.coords t0) 2).val) 320 4 (off33_0 t0) rfl (by omega) d k
  have h6 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 4 t := by
    rw [hm_6, ha_6]
    exact miss 0 512 5 4 t (Or.inl (by decide)) _ _ _ _ _ _ h5
  have h7 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 4 t := by
    rw [hm_7, ha_7]
    exact miss 0 512 6 4 t (Or.inl (by decide)) _ _ _ _ _ _ h6
  have h8 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 4 t := by
    rw [hm_8, ha_8]
    exact miss 0 512 7 4 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 4 t := by
      rw [hm_9, ha_9]
      exact miss 256 256 0 4 t (Or.inr hx) _ _ _ _ _ _ h8
    have h10 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 4 t := by
      rw [hm_10, ha_10]
      exact miss 256 256 1 4 t (Or.inr hx) _ _ _ _ _ _ h9
    have h11 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 4 t := by
      rw [hm_11, ha_11]
      exact miss 256 256 2 4 t (Or.inr hx) _ _ _ _ _ _ h10
    have h12 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 4 t := by
      rw [hm_12, ha_12]
      exact miss 256 256 3 4 t (Or.inr hx) _ _ _ _ _ _ h11
    have h13 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 4 t := by
      rw [hm_13, ha_13]
      exact miss 256 256 4 4 t (Or.inr hx) _ _ _ _ _ _ h12
    have h14 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 4 t := by
      rw [hm_14, ha_14]
      exact miss 256 256 5 4 t (Or.inr hx) _ _ _ _ _ _ h13
    have h15 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 4 t := by
      rw [hm_15, ha_15]
      exact miss 256 256 6 4 t (Or.inr hx) _ _ _ _ _ _ h14
    rw [ha_16]
    exact ⟨_, miss 256 256 7 4 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 4 t := by
      rw [hm_9, ha_9]
      exact miss 256 256 0 4 t (Or.inl (by decide)) _ _ _ _ _ _ h8
    have h10 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 4 t := by
      rw [hm_10, ha_10]
      exact miss 256 256 1 4 t (Or.inl (by decide)) _ _ _ _ _ _ h9
    have h11 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + 256) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 4 t := by
      rw [hm_11, ha_11]
      exact miss 256 256 2 4 t (Or.inl (by decide)) _ _ _ _ _ _ h10
    have h12 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + 256) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 4 t := by
      rw [hm_12, ha_12]
      exact miss 256 256 3 4 t (Or.inl (by decide)) _ _ _ _ _ _ h11
    have h13 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 4 t := by
      rw [hm_13, ha_13]
      refine hit1 4 4 rfl t x hxt hS ((512 * ((grid0.coords t0) 2).val) + 256) ((512 * ((grid0.coords t0) 2).val) + t.val + 1) (by omega) (by omega) inb_S8x1x512_S1x1x256_4_0_256 inb_S8x80x512_S1x80x256_4_0_256 _ _ _ _ (kernelRun0_A.sl.HS0_12 c (grid0.coords t0) arg3 harg3 arg4 harg4 arg5 harg5 arg6 harg6 arg7 harg7 arg8 harg8 arg9 harg9 arg10 harg10 x0 x1 x2 x3) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) h12 ?_ ?_ ?_ ?_
      · exact m_rdc arg9 _ 256 256 4 4 rfl t x hxt _
      · exact a_rdc arg10 _ 256 256 4 4 rfl t x hxt _
      · exact fun k => sc1_tile arg4 harg4 x1 _ _ ((512 * ((grid0.coords t0) 2).val) + 256) 256 2 (off27_1 t0) rfl (by omega) _ t x hxt k _ (by omega)
      · exact fun d k => v_tile arg6 harg6 x3 _ _ ((512 * ((grid0.coords t0) 2).val) + 256) 320 4 (off33_1 t0) rfl (by omega) d k
    have h14 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 4 t := by
      rw [hm_14, ha_14]
      exact miss 256 256 5 4 t (Or.inl (by decide)) _ _ _ _ _ _ h13
    have h15 : At (Sf x1 2 (k0_pay92 (View.readAt (Elt Ideal) arg3.view (Rect.unit (s := S1x512x512) ![0, 0, 256] S1x512x128.size inb_S1x512x512_S1x512x128_0_0_256).toLoadRect (harg3.unread x0))) t) (Vf x3 4) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 4 t := by
      rw [hm_15, ha_15]
      exact miss 256 256 6 4 t (Or.inl (by decide)) _ _ _ _ _ _ h14
    rw [ha_16]
    exact ⟨_, miss 256 256 7 4 t (Or.inl (by decide)) inb_S8x1x512_S1x1x256_7_0_256 (fun _ => (0 : EReal)) inb_S8x80x512_S1x80x256_7_0_256 _ _ _ h15⟩

/-- Chain 5 through the loop. -/
theorem loop_5 (t : Fin 512) (hS : ∀ s, ∃ r : ℝ, (Sf x2 2 (k0_pay93 (View.readAt (Elt Ideal) arg3.view (Rect.unit (s := S1x512x512) ![0, 0, 256] S1x512x128.size inb_S1x512x512_S1x512x128_0_0_256).toLoadRect (harg3.unread x0))) t) s = r) (n : ℕ) (hn : n ≤ (k0_t1_loop (grid0.coords t0)).trips) :
    At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 5 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off3 t0 ⟨n, hn⟩
    have e' := off10 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 5 t (Or.inl (by decide)) _ _ _ _ _ _ ( miss 0 512 6 5 t (Or.inl (by decide)) _ _ _ _ _ _ (hit0 5 5 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_))
    · exact m_rdw arg9 _ 5 5 rfl t _
    · exact a_rdw arg10 _ 5 5 rfl t _
    · exact fun k => sc_tile arg5 harg5 x2 _ _ (256 * n) 256 2 e rfl (by omega) _ t k _ (by omega)
    · exact fun d k => v_tile arg6 harg6 x3 _ _ (256 * n) 400 5 e' rfl (by omega) d k

/-- Chain 5 at the end. -/
theorem chain_5 (t : Fin 512) (hS : ∀ s, ∃ r : ℝ, (Sf x2 2 (k0_pay93 (View.readAt (Elt Ideal) arg3.view (Rect.unit (s := S1x512x512) ![0, 0, 256] S1x512x128.size inb_S1x512x512_S1x512x128_0_0_256).toLoadRect (harg3.unread x0))) t) s = r) :
    ∃ m, Good (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 5 d t)) := by
  have hq := qi_lt t0
  have h0 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 5 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_5 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 5 t := by
    rw [hm_1, ha_1]
    exact miss 0 512 0 5 t (Or.inl (by decide)) _ _ _ _ _ _ h0
  have h2 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 5 t := by
    rw [hm_2, ha_2]
    exact miss 0 512 1 5 t (Or.inl (by decide)) _ _ _ _ _ _ h1
  have h3 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 5 t := by
    rw [hm_3, ha_3]
    exact miss 0 512 2 5 t (Or.inl (by decide)) _ _ _ _ _ _ h2
  have h4 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 5 t := by
    rw [hm_4, ha_4]
    exact miss 0 512 3 5 t (Or.inl (by decide)) _ _ _ _ _ _ h3
  have h5 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (512 * ((grid0.coords t0) 2).val) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 5 t := by
    rw [hm_5, ha_5]
    exact miss 0 512 4 5 t (Or.inl (by decide)) _ _ _ _ _ _ h4
  have h6 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (min ((512 * ((grid0.coords t0) 2).val) + 256) ((512 * ((grid0.coords t0) 2).val) + t.val + 1)) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 5 t := by
    rw [hm_6, ha_6]
    refine hit0 5 5 rfl t hS _ _ (by omega) (by omega) _ _ _ _ _ _ (kernelRun0_A.sl.HS0_5 c (grid0.coords t0) arg3 harg3 arg4 harg4 arg5 harg5 arg6 harg6 arg7 harg7 arg8 harg8 arg9 harg9 arg10 harg10 x0 x1 x2 x3) _ (kernelRun0_A.sl.HS1_5 c (grid0.coords t0) arg3 harg3 arg4 harg4 arg5 harg5 arg6 harg6 arg7 harg7 arg8 harg8 arg9 harg9 arg10 harg10 x0 x1 x2 x3) _ h5 ?_ ?_ ?_ ?_
    · exact m_rdc arg9 _ 0 512 5 5 rfl t t (Nat.zero_add _) _
    · exact a_rdc arg10 _ 0 512 5 5 rfl t t (Nat.zero_add _) _
    · exact fun k => sc0_tile arg5 harg5 x2 _ _ (512 * ((grid0.coords t0) 2).val) 256 2 (off27_0 t0) rfl (by omega) _ t k _ rfl
    · exact fun d k => v_tile arg6 harg6 x3 _ _ (512 * ((grid0.coords t0) 2).val) 400 5 (off34_0 t0) rfl (by omega) d k
  have h7 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 5 t := by
    rw [hm_7, ha_7]
    exact miss 0 512 6 5 t (Or.inl (by decide)) _ _ _ _ _ _ h6
  have h8 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 5 t := by
    rw [hm_8, ha_8]
    exact miss 0 512 7 5 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 5 t := by
      rw [hm_9, ha_9]
      exact miss 256 256 0 5 t (Or.inr hx) _ _ _ _ _ _ h8
    have h10 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 5 t := by
      rw [hm_10, ha_10]
      exact miss 256 256 1 5 t (Or.inr hx) _ _ _ _ _ _ h9
    have h11 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 5 t := by
      rw [hm_11, ha_11]
      exact miss 256 256 2 5 t (Or.inr hx) _ _ _ _ _ _ h10
    have h12 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 5 t := by
      rw [hm_12, ha_12]
      exact miss 256 256 3 5 t (Or.inr hx) _ _ _ _ _ _ h11
    have h13 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 5 t := by
      rw [hm_13, ha_13]
      exact miss 256 256 4 5 t (Or.inr hx) _ _ _ _ _ _ h12
    have h14 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 5 t := by
      rw [hm_14, ha_14]
      exact miss 256 256 5 5 t (Or.inr hx) _ _ _ _ _ _ h13
    have h15 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 5 t := by
      rw [hm_15, ha_15]
      exact miss 256 256 6 5 t (Or.inr hx) _ _ _ _ _ _ h14
    rw [ha_16]
    exact ⟨_, miss 256 256 7 5 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 5 t := by
      rw [hm_9, ha_9]
      exact miss 256 256 0 5 t (Or.inl (by decide)) _ _ _ _ _ _ h8
    have h10 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 5 t := by
      rw [hm_10, ha_10]
      exact miss 256 256 1 5 t (Or.inl (by decide)) _ _ _ _ _ _ h9
    have h11 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + 256) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 5 t := by
      rw [hm_11, ha_11]
      exact miss 256 256 2 5 t (Or.inl (by decide)) _ _ _ _ _ _ h10
    have h12 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + 256) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 5 t := by
      rw [hm_12, ha_12]
      exact miss 256 256 3 5 t (Or.inl (by decide)) _ _ _ _ _ _ h11
    have h13 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + 256) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 5 t := by
      rw [hm_13, ha_13]
      exact miss 256 256 4 5 t (Or.inl (by decide)) _ _ _ _ _ _ h12
    have h14 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 5 t := by
      rw [hm_14, ha_14]
      refine hit1 5 5 rfl t x hxt hS ((512 * ((grid0.coords t0) 2).val) + 256) ((512 * ((grid0.coords t0) 2).val) + t.val + 1) (by omega) (by omega) inb_S8x1x512_S1x1x256_5_0_256 inb_S8x80x512_S1x80x256_5_0_256 _ _ _ _ (kernelRun0_A.sl.HS0_13 c (grid0.coords t0) arg3 harg3 arg4 harg4 arg5 harg5 arg6 harg6 arg7 harg7 arg8 harg8 arg9 harg9 arg10 harg10 x0 x1 x2 x3) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) h13 ?_ ?_ ?_ ?_
      · exact m_rdc arg9 _ 256 256 5 5 rfl t x hxt _
      · exact a_rdc arg10 _ 256 256 5 5 rfl t x hxt _
      · exact fun k => sc1_tile arg5 harg5 x2 _ _ ((512 * ((grid0.coords t0) 2).val) + 256) 256 2 (off27_1 t0) rfl (by omega) _ t x hxt k _ (by omega)
      · exact fun d k => v_tile arg6 harg6 x3 _ _ ((512 * ((grid0.coords t0) 2).val) + 256) 400 5 (off34_1 t0) rfl (by omega) d k
    have h15 : At (Sf x2 2 (k0_pay93 (View.readAt (Elt Ideal) arg3.view (Rect.unit (s := S1x512x512) ![0, 0, 256] S1x512x128.size inb_S1x512x512_S1x512x128_0_0_256).toLoadRect (harg3.unread x0))) t) (Vf x3 5) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 5 t := by
      rw [hm_15, ha_15]
      exact miss 256 256 6 5 t (Or.inl (by decide)) _ _ _ _ _ _ h14
    rw [ha_16]
    exact ⟨_, miss 256 256 7 5 t (Or.inl (by decide)) inb_S8x1x512_S1x1x256_7_0_256 (fun _ => (0 : EReal)) inb_S8x80x512_S1x80x256_7_0_256 _ _ _ h15⟩

/-- Chain 6 through the loop. -/
theorem loop_6 (t : Fin 512) (hS : ∀ s, ∃ r : ℝ, (Sf x1 3 (k0_pay92 (View.readAt (Elt Ideal) arg3.view (Rect.unit (s := S1x512x512) ![0, 0, 384] S1x512x128.size inb_S1x512x512_S1x512x128_0_0_384).toLoadRect (harg3.unread x0))) t) s = r) (n : ℕ) (hn : n ≤ (k0_t1_loop (grid0.coords t0)).trips) :
    At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 6 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off4 t0 ⟨n, hn⟩
    have e' := off11 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine miss 0 512 7 6 t (Or.inl (by decide)) _ _ _ _ _ _ (hit0 6 6 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_)
    · exact m_rdw arg9 _ 6 6 rfl t _
    · exact a_rdw arg10 _ 6 6 rfl t _
    · exact fun k => sc_tile arg4 harg4 x1 _ _ (256 * n) 384 3 e rfl (by omega) _ t k _ (by omega)
    · exact fun d k => v_tile arg6 harg6 x3 _ _ (256 * n) 480 6 e' rfl (by omega) d k

/-- Chain 6 at the end. -/
theorem chain_6 (t : Fin 512) (hS : ∀ s, ∃ r : ℝ, (Sf x1 3 (k0_pay92 (View.readAt (Elt Ideal) arg3.view (Rect.unit (s := S1x512x512) ![0, 0, 384] S1x512x128.size inb_S1x512x512_S1x512x128_0_0_384).toLoadRect (harg3.unread x0))) t) s = r) :
    ∃ m, Good (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 6 d t)) := by
  have hq := qi_lt t0
  have h0 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 6 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_6 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 6 t := by
    rw [hm_1, ha_1]
    exact miss 0 512 0 6 t (Or.inl (by decide)) _ _ _ _ _ _ h0
  have h2 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 6 t := by
    rw [hm_2, ha_2]
    exact miss 0 512 1 6 t (Or.inl (by decide)) _ _ _ _ _ _ h1
  have h3 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 6 t := by
    rw [hm_3, ha_3]
    exact miss 0 512 2 6 t (Or.inl (by decide)) _ _ _ _ _ _ h2
  have h4 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 6 t := by
    rw [hm_4, ha_4]
    exact miss 0 512 3 6 t (Or.inl (by decide)) _ _ _ _ _ _ h3
  have h5 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 6 t := by
    rw [hm_5, ha_5]
    exact miss 0 512 4 6 t (Or.inl (by decide)) _ _ _ _ _ _ h4
  have h6 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (512 * ((grid0.coords t0) 2).val) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 6 t := by
    rw [hm_6, ha_6]
    exact miss 0 512 5 6 t (Or.inl (by decide)) _ _ _ _ _ _ h5
  have h7 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (min ((512 * ((grid0.coords t0) 2).val) + 256) ((512 * ((grid0.coords t0) 2).val) + t.val + 1)) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 6 t := by
    rw [hm_7, ha_7]
    refine hit0 6 6 rfl t hS _ _ (by omega) (by omega) _ _ _ _ _ _ (kernelRun0_A.sl.HS0_6 c (grid0.coords t0) arg3 harg3 arg4 harg4 arg5 harg5 arg6 harg6 arg7 harg7 arg8 harg8 arg9 harg9 arg10 harg10 x0 x1 x2 x3) _ (kernelRun0_A.sl.HS1_6 c (grid0.coords t0) arg3 harg3 arg4 harg4 arg5 harg5 arg6 harg6 arg7 harg7 arg8 harg8 arg9 harg9 arg10 harg10 x0 x1 x2 x3) _ h6 ?_ ?_ ?_ ?_
    · exact m_rdc arg9 _ 0 512 6 6 rfl t t (Nat.zero_add _) _
    · exact a_rdc arg10 _ 0 512 6 6 rfl t t (Nat.zero_add _) _
    · exact fun k => sc0_tile arg4 harg4 x1 _ _ (512 * ((grid0.coords t0) 2).val) 384 3 (off28_0 t0) rfl (by omega) _ t k _ rfl
    · exact fun d k => v_tile arg6 harg6 x3 _ _ (512 * ((grid0.coords t0) 2).val) 480 6 (off35_0 t0) rfl (by omega) d k
  have h8 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 6 t := by
    rw [hm_8, ha_8]
    exact miss 0 512 7 6 t (Or.inl (by decide)) _ _ _ _ _ _ h7
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 6 t := by
      rw [hm_9, ha_9]
      exact miss 256 256 0 6 t (Or.inr hx) _ _ _ _ _ _ h8
    have h10 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 6 t := by
      rw [hm_10, ha_10]
      exact miss 256 256 1 6 t (Or.inr hx) _ _ _ _ _ _ h9
    have h11 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 6 t := by
      rw [hm_11, ha_11]
      exact miss 256 256 2 6 t (Or.inr hx) _ _ _ _ _ _ h10
    have h12 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 6 t := by
      rw [hm_12, ha_12]
      exact miss 256 256 3 6 t (Or.inr hx) _ _ _ _ _ _ h11
    have h13 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 6 t := by
      rw [hm_13, ha_13]
      exact miss 256 256 4 6 t (Or.inr hx) _ _ _ _ _ _ h12
    have h14 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 6 t := by
      rw [hm_14, ha_14]
      exact miss 256 256 5 6 t (Or.inr hx) _ _ _ _ _ _ h13
    have h15 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 6 t := by
      rw [hm_15, ha_15]
      exact miss 256 256 6 6 t (Or.inr hx) _ _ _ _ _ _ h14
    rw [ha_16]
    exact ⟨_, miss 256 256 7 6 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 6 t := by
      rw [hm_9, ha_9]
      exact miss 256 256 0 6 t (Or.inl (by decide)) _ _ _ _ _ _ h8
    have h10 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 6 t := by
      rw [hm_10, ha_10]
      exact miss 256 256 1 6 t (Or.inl (by decide)) _ _ _ _ _ _ h9
    have h11 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 6 t := by
      rw [hm_11, ha_11]
      exact miss 256 256 2 6 t (Or.inl (by decide)) _ _ _ _ _ _ h10
    have h12 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 6 t := by
      rw [hm_12, ha_12]
      exact miss 256 256 3 6 t (Or.inl (by decide)) _ _ _ _ _ _ h11
    have h13 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 6 t := by
      rw [hm_13, ha_13]
      exact miss 256 256 4 6 t (Or.inl (by decide)) _ _ _ _ _ _ h12
    have h14 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + 256) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 6 t := by
      rw [hm_14, ha_14]
      exact miss 256 256 5 6 t (Or.inl (by decide)) _ _ _ _ _ _ h13
    have h15 : At (Sf x1 3 (k0_pay92 (View.readAt (Elt Ideal) arg3.view (Rect.unit (s := S1x512x512) ![0, 0, 384] S1x512x128.size inb_S1x512x512_S1x512x128_0_0_384).toLoadRect (harg3.unread x0))) t) (Vf x3 6) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 6 t := by
      rw [hm_15, ha_15]
      refine hit1 6 6 rfl t x hxt hS ((512 * ((grid0.coords t0) 2).val) + 256) ((512 * ((grid0.coords t0) 2).val) + t.val + 1) (by omega) (by omega) inb_S8x1x512_S1x1x256_6_0_256 inb_S8x80x512_S1x80x256_6_0_256 _ _ _ _ (kernelRun0_A.sl.HS0_14 c (grid0.coords t0) arg3 harg3 arg4 harg4 arg5 harg5 arg6 harg6 arg7 harg7 arg8 harg8 arg9 harg9 arg10 harg10 x0 x1 x2 x3) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) h14 ?_ ?_ ?_ ?_
      · exact m_rdc arg9 _ 256 256 6 6 rfl t x hxt _
      · exact a_rdc arg10 _ 256 256 6 6 rfl t x hxt _
      · exact fun k => sc1_tile arg4 harg4 x1 _ _ ((512 * ((grid0.coords t0) 2).val) + 256) 384 3 (off28_1 t0) rfl (by omega) _ t x hxt k _ (by omega)
      · exact fun d k => v_tile arg6 harg6 x3 _ _ ((512 * ((grid0.coords t0) 2).val) + 256) 480 6 (off35_1 t0) rfl (by omega) d k
    rw [ha_16]
    exact ⟨_, miss 256 256 7 6 t (Or.inl (by decide)) inb_S8x1x512_S1x1x256_7_0_256 (fun _ => (0 : EReal)) inb_S8x80x512_S1x80x256_7_0_256 _ _ _ h15⟩

/-- Chain 7 through the loop. -/
theorem loop_7 (t : Fin 512) (hS : ∀ s, ∃ r : ℝ, (Sf x2 3 (k0_pay93 (View.readAt (Elt Ideal) arg3.view (Rect.unit (s := S1x512x512) ![0, 0, 384] S1x512x128.size inb_S1x512x512_S1x512x128_0_0_384).toLoadRect (harg3.unread x0))) t) s = r) (n : ℕ) (hn : n ≤ (k0_t1_loop (grid0.coords t0)).trips) :
    At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (256 * n) (loopM c (grid0.coords t0) arg3 harg3 arg4 harg4 arg5 harg5 arg6 harg6 arg7 harg7 arg8 harg8 arg9 harg9 arg10 harg10 x0 x1 x2 x3 n) (loopA c (grid0.coords t0) arg3 harg3 arg4 harg4 arg5 harg5 arg6 harg6 arg7 harg7 arg8 harg8 arg9 harg9 arg10 harg10 x0 x1 x2 x3 n) 7 t := by
  induction n with
  | zero => exact zero_at _ _ _ _
  | succ n ih =>
    have ih := ih (Nat.le_of_succ_le hn)
    have ht : (k0_t1_loop (grid0.coords t0)).trips = 2 * ((grid0.coords t0) 2).val := trips1 t0
    have hq := qi_lt t0
    have e := off4 t0 ⟨n, hn⟩
    have e' := off12 t0 ⟨n, hn⟩
    rw [loopM_succ c (grid0.coords t0) arg3 harg3 arg4 harg4 arg5 harg5 arg6 harg6 arg7 harg7 arg8 harg8 arg9 harg9 arg10 harg10 x0 x1 x2 x3 ⟨n, hn⟩, loopA_succ c (grid0.coords t0) arg3 harg3 arg4 harg4 arg5 harg5 arg6 harg6 arg7 harg7 arg8 harg8 arg9 harg9 arg10 harg10 x0 x1 x2 x3 ⟨n, hn⟩]
    refine hit0 7 7 rfl t hS (256 * n) (256 * (n + 1)) (by omega) (by omega) _ _ _ _ _ _ (loopM c (grid0.coords t0) arg3 harg3 arg4 harg4 arg5 harg5 arg6 harg6 arg7 harg7 arg8 harg8 arg9 harg9 arg10 harg10 x0 x1 x2 x3 n) _ (loopA c (grid0.coords t0) arg3 harg3 arg4 harg4 arg5 harg5 arg6 harg6 arg7 harg7 arg8 harg8 arg9 harg9 arg10 harg10 x0 x1 x2 x3 n) _ ih ?_ ?_ ?_ ?_
    · exact m_rdw arg9 _ 7 7 rfl t _
    · exact a_rdw arg10 _ 7 7 rfl t _
    · exact fun k => sc_tile arg5 harg5 x2 _ _ (256 * n) 384 3 e rfl (by omega) _ t k _ (by omega)
    · exact fun d k => v_tile arg6 harg6 x3 _ _ (256 * n) 560 7 e' rfl (by omega) d k

/-- Chain 7 at the end. -/
theorem chain_7 (t : Fin 512) (hS : ∀ s, ∃ r : ℝ, (Sf x2 3 (k0_pay93 (View.readAt (Elt Ideal) arg3.view (Rect.unit (s := S1x512x512) ![0, 0, 384] S1x512x128.size inb_S1x512x512_S1x512x128_0_0_384).toLoadRect (harg3.unread x0))) t) s = r) :
    ∃ m, Good (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val + t.val + 1) m (fun d => View.canon (kernelRun0_A.sl.HS1_16 c (grid0.coords t0) arg3 harg3 arg4 harg4 arg5 harg5 arg6 harg6 arg7 harg7 arg8 harg8 arg9 harg9 arg10 harg10 x0 x1 x2 x3) (ix3 7 d t)) := by
  have hq := qi_lt t0
  have h0 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3).tail (kernelRun0_A.sl.HS1_1_1 c (grid0.coords t0) arg3 harg3 arg4 harg4 arg5 harg5 arg6 harg6 arg7 harg7 arg8 harg8 arg9 harg9 arg10 harg10 x0 x1 x2 x3).tail 7 t := by
    rw [baseM c (grid0.coords t0) arg3 harg3 arg4 harg4 arg5 harg5 arg6 harg6 arg7 harg7 arg8 harg8 arg9 harg9 arg10 harg10 x0 x1 x2 x3 (trips2 t0), baseA c (grid0.coords t0) arg3 harg3 arg4 harg4 arg5 harg5 arg6 harg6 arg7 harg7 arg8 harg8 arg9 harg9 arg10 harg10 x0 x1 x2 x3 (trips2 t0)]
    have h := loop_7 c t0 arg3 harg3 arg4 harg4 arg5 harg5 arg6 harg6 arg7 harg7 arg8 harg8 arg9 harg9 arg10 harg10 x0 x1 x2 x3 t hS _ le_rfl
    have ht : (k0_t1_loop (grid0.coords t0)).trips = 2 * ((grid0.coords t0) 2).val := trips1 t0
    rw [show 256 * (k0_t1_loop (grid0.coords t0)).trips = 512 * ((grid0.coords t0) 2).val by omega] at h
    exact h
  have h1 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_1_1 c (grid0.coords t0) arg3 harg3 arg4 harg4 arg5 harg5 arg6 harg6 arg7 harg7 arg8 harg8 arg9 harg9 arg10 harg10 x0 x1 x2 x3) (kernelRun0_A.sl.HS1_1_1 c (grid0.coords t0) arg3 harg3 arg4 harg4 arg5 harg5 arg6 harg6 arg7 harg7 arg8 harg8 arg9 harg9 arg10 harg10 x0 x1 x2 x3) 7 t := by
    rw [hm_1, ha_1]
    exact miss 0 512 0 7 t (Or.inl (by decide)) _ _ _ _ _ _ h0
  have h2 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_2 c (grid0.coords t0) arg3 harg3 arg4 harg4 arg5 harg5 arg6 harg6 arg7 harg7 arg8 harg8 arg9 harg9 arg10 harg10 x0 x1 x2 x3) (kernelRun0_A.sl.HS1_2 c (grid0.coords t0) arg3 harg3 arg4 harg4 arg5 harg5 arg6 harg6 arg7 harg7 arg8 harg8 arg9 harg9 arg10 harg10 x0 x1 x2 x3) 7 t := by
    rw [hm_2, ha_2]
    exact miss 0 512 1 7 t (Or.inl (by decide)) _ _ _ _ _ _ h1
  have h3 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_3 c (grid0.coords t0) arg3 harg3 arg4 harg4 arg5 harg5 arg6 harg6 arg7 harg7 arg8 harg8 arg9 harg9 arg10 harg10 x0 x1 x2 x3) (kernelRun0_A.sl.HS1_3 c (grid0.coords t0) arg3 harg3 arg4 harg4 arg5 harg5 arg6 harg6 arg7 harg7 arg8 harg8 arg9 harg9 arg10 harg10 x0 x1 x2 x3) 7 t := by
    rw [hm_3, ha_3]
    exact miss 0 512 2 7 t (Or.inl (by decide)) _ _ _ _ _ _ h2
  have h4 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_4 c (grid0.coords t0) arg3 harg3 arg4 harg4 arg5 harg5 arg6 harg6 arg7 harg7 arg8 harg8 arg9 harg9 arg10 harg10 x0 x1 x2 x3) (kernelRun0_A.sl.HS1_4 c (grid0.coords t0) arg3 harg3 arg4 harg4 arg5 harg5 arg6 harg6 arg7 harg7 arg8 harg8 arg9 harg9 arg10 harg10 x0 x1 x2 x3) 7 t := by
    rw [hm_4, ha_4]
    exact miss 0 512 3 7 t (Or.inl (by decide)) _ _ _ _ _ _ h3
  have h5 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_5 c (grid0.coords t0) arg3 harg3 arg4 harg4 arg5 harg5 arg6 harg6 arg7 harg7 arg8 harg8 arg9 harg9 arg10 harg10 x0 x1 x2 x3) (kernelRun0_A.sl.HS1_5 c (grid0.coords t0) arg3 harg3 arg4 harg4 arg5 harg5 arg6 harg6 arg7 harg7 arg8 harg8 arg9 harg9 arg10 harg10 x0 x1 x2 x3) 7 t := by
    rw [hm_5, ha_5]
    exact miss 0 512 4 7 t (Or.inl (by decide)) _ _ _ _ _ _ h4
  have h6 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_6 c (grid0.coords t0) arg3 harg3 arg4 harg4 arg5 harg5 arg6 harg6 arg7 harg7 arg8 harg8 arg9 harg9 arg10 harg10 x0 x1 x2 x3) (kernelRun0_A.sl.HS1_6 c (grid0.coords t0) arg3 harg3 arg4 harg4 arg5 harg5 arg6 harg6 arg7 harg7 arg8 harg8 arg9 harg9 arg10 harg10 x0 x1 x2 x3) 7 t := by
    rw [hm_6, ha_6]
    exact miss 0 512 5 7 t (Or.inl (by decide)) _ _ _ _ _ _ h5
  have h7 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (512 * ((grid0.coords t0) 2).val) (kernelRun0_A.sl.HS0_7 c (grid0.coords t0) arg3 harg3 arg4 harg4 arg5 harg5 arg6 harg6 arg7 harg7 arg8 harg8 arg9 harg9 arg10 harg10 x0 x1 x2 x3) (kernelRun0_A.sl.HS1_7 c (grid0.coords t0) arg3 harg3 arg4 harg4 arg5 harg5 arg6 harg6 arg7 harg7 arg8 harg8 arg9 harg9 arg10 harg10 x0 x1 x2 x3) 7 t := by
    rw [hm_7, ha_7]
    exact miss 0 512 6 7 t (Or.inl (by decide)) _ _ _ _ _ _ h6
  have h8 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) (min ((512 * ((grid0.coords t0) 2).val) + 256) ((512 * ((grid0.coords t0) 2).val) + t.val + 1)) (kernelRun0_A.sl.HS0_8 c (grid0.coords t0) arg3 harg3 arg4 harg4 arg5 harg5 arg6 harg6 arg7 harg7 arg8 harg8 arg9 harg9 arg10 harg10 x0 x1 x2 x3) (kernelRun0_A.sl.HS1_8 c (grid0.coords t0) arg3 harg3 arg4 harg4 arg5 harg5 arg6 harg6 arg7 harg7 arg8 harg8 arg9 harg9 arg10 harg10 x0 x1 x2 x3) 7 t := by
    rw [hm_8, ha_8]
    refine hit0 7 7 rfl t hS _ _ (by omega) (by omega) _ _ _ _ _ _ (kernelRun0_A.sl.HS0_7 c (grid0.coords t0) arg3 harg3 arg4 harg4 arg5 harg5 arg6 harg6 arg7 harg7 arg8 harg8 arg9 harg9 arg10 harg10 x0 x1 x2 x3) _ (kernelRun0_A.sl.HS1_7 c (grid0.coords t0) arg3 harg3 arg4 harg4 arg5 harg5 arg6 harg6 arg7 harg7 arg8 harg8 arg9 harg9 arg10 harg10 x0 x1 x2 x3) _ h7 ?_ ?_ ?_ ?_
    · exact m_rdc arg9 _ 0 512 7 7 rfl t t (Nat.zero_add _) _
    · exact a_rdc arg10 _ 0 512 7 7 rfl t t (Nat.zero_add _) _
    · exact fun k => sc0_tile arg5 harg5 x2 _ _ (512 * ((grid0.coords t0) 2).val) 384 3 (off28_0 t0) rfl (by omega) _ t k _ rfl
    · exact fun d k => v_tile arg6 harg6 x3 _ _ (512 * ((grid0.coords t0) 2).val) 560 7 (off36_0 t0) rfl (by omega) d k
  by_cases hx : t.val < 256
  · rw [show min ((512 * ((grid0.coords t0) 2).val) + 256) ((512 * ((grid0.coords t0) 2).val) + t.val + 1) = 512 * ((grid0.coords t0) 2).val + t.val + 1 by omega] at h8
    have h9 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 7 t := by
      rw [hm_9, ha_9]
      exact miss 256 256 0 7 t (Or.inr hx) _ _ _ _ _ _ h8
    have h10 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 7 t := by
      rw [hm_10, ha_10]
      exact miss 256 256 1 7 t (Or.inr hx) _ _ _ _ _ _ h9
    have h11 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 7 t := by
      rw [hm_11, ha_11]
      exact miss 256 256 2 7 t (Or.inr hx) _ _ _ _ _ _ h10
    have h12 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 7 t := by
      rw [hm_12, ha_12]
      exact miss 256 256 3 7 t (Or.inr hx) _ _ _ _ _ _ h11
    have h13 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 7 t := by
      rw [hm_13, ha_13]
      exact miss 256 256 4 7 t (Or.inr hx) _ _ _ _ _ _ h12
    have h14 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 7 t := by
      rw [hm_14, ha_14]
      exact miss 256 256 5 7 t (Or.inr hx) _ _ _ _ _ _ h13
    have h15 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + t.val + 1) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 7 t := by
      rw [hm_15, ha_15]
      exact miss 256 256 6 7 t (Or.inr hx) _ _ _ _ _ _ h14
    rw [ha_16]
    exact ⟨_, miss 256 256 7 7 t (Or.inr hx) inb_S8x1x512_S1x1x256_7_0_256 (fun _ => (0 : EReal)) inb_S8x80x512_S1x80x256_7_0_256 _ _ _ h15⟩
  · rw [show min ((512 * ((grid0.coords t0) 2).val) + 256) ((512 * ((grid0.coords t0) 2).val) + t.val + 1) = 512 * ((grid0.coords t0) 2).val + 256 by omega] at h8
    obtain ⟨x, hxt⟩ : ∃ x : Fin 256, 256 + x.val = t.val := ⟨⟨t.val - 256, by omega⟩, by show 256 + (t.val - 256) = t.val; omega⟩
    have h9 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_9 c (grid0.coords t0) arg3 harg3 arg4 harg4 arg5 harg5 arg6 harg6 arg7 harg7 arg8 harg8 arg9 harg9 arg10 harg10 x0 x1 x2 x3) (kernelRun0_A.sl.HS1_9 c (grid0.coords t0) arg3 harg3 arg4 harg4 arg5 harg5 arg6 harg6 arg7 harg7 arg8 harg8 arg9 harg9 arg10 harg10 x0 x1 x2 x3) 7 t := by
      rw [hm_9, ha_9]
      exact miss 256 256 0 7 t (Or.inl (by decide)) _ _ _ _ _ _ h8
    have h10 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_10 c (grid0.coords t0) arg3 harg3 arg4 harg4 arg5 harg5 arg6 harg6 arg7 harg7 arg8 harg8 arg9 harg9 arg10 harg10 x0 x1 x2 x3) (kernelRun0_A.sl.HS1_10 c (grid0.coords t0) arg3 harg3 arg4 harg4 arg5 harg5 arg6 harg6 arg7 harg7 arg8 harg8 arg9 harg9 arg10 harg10 x0 x1 x2 x3) 7 t := by
      rw [hm_10, ha_10]
      exact miss 256 256 1 7 t (Or.inl (by decide)) _ _ _ _ _ _ h9
    have h11 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_11 c (grid0.coords t0) arg3 harg3 arg4 harg4 arg5 harg5 arg6 harg6 arg7 harg7 arg8 harg8 arg9 harg9 arg10 harg10 x0 x1 x2 x3) (kernelRun0_A.sl.HS1_11 c (grid0.coords t0) arg3 harg3 arg4 harg4 arg5 harg5 arg6 harg6 arg7 harg7 arg8 harg8 arg9 harg9 arg10 harg10 x0 x1 x2 x3) 7 t := by
      rw [hm_11, ha_11]
      exact miss 256 256 2 7 t (Or.inl (by decide)) _ _ _ _ _ _ h10
    have h12 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_12 c (grid0.coords t0) arg3 harg3 arg4 harg4 arg5 harg5 arg6 harg6 arg7 harg7 arg8 harg8 arg9 harg9 arg10 harg10 x0 x1 x2 x3) (kernelRun0_A.sl.HS1_12 c (grid0.coords t0) arg3 harg3 arg4 harg4 arg5 harg5 arg6 harg6 arg7 harg7 arg8 harg8 arg9 harg9 arg10 harg10 x0 x1 x2 x3) 7 t := by
      rw [hm_12, ha_12]
      exact miss 256 256 3 7 t (Or.inl (by decide)) _ _ _ _ _ _ h11
    have h13 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_13 c (grid0.coords t0) arg3 harg3 arg4 harg4 arg5 harg5 arg6 harg6 arg7 harg7 arg8 harg8 arg9 harg9 arg10 harg10 x0 x1 x2 x3) (kernelRun0_A.sl.HS1_13 c (grid0.coords t0) arg3 harg3 arg4 harg4 arg5 harg5 arg6 harg6 arg7 harg7 arg8 harg8 arg9 harg9 arg10 harg10 x0 x1 x2 x3) 7 t := by
      rw [hm_13, ha_13]
      exact miss 256 256 4 7 t (Or.inl (by decide)) _ _ _ _ _ _ h12
    have h14 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_14 c (grid0.coords t0) arg3 harg3 arg4 harg4 arg5 harg5 arg6 harg6 arg7 harg7 arg8 harg8 arg9 harg9 arg10 harg10 x0 x1 x2 x3) (kernelRun0_A.sl.HS1_14 c (grid0.coords t0) arg3 harg3 arg4 harg4 arg5 harg5 arg6 harg6 arg7 harg7 arg8 harg8 arg9 harg9 arg10 harg10 x0 x1 x2 x3) 7 t := by
      rw [hm_14, ha_14]
      exact miss 256 256 5 7 t (Or.inl (by decide)) _ _ _ _ _ _ h13
    have h15 : At (Sf x2 3 (k0_pay93 (View.readAt (Elt Ideal) arg3.view (Rect.unit (s := S1x512x512) ![0, 0, 384] S1x512x128.size inb_S1x512x512_S1x512x128_0_0_384).toLoadRect (harg3.unread x0))) t) (Vf x3 7) ((512 * ((grid0.coords t0) 2).val) + 256) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) 7 t := by
      rw [hm_15, ha_15]
      exact miss 256 256 6 7 t (Or.inl (by decide)) _ _ _ _ _ _ h14
    rw [ha_16]
    refine ⟨_, hit1 7 7 rfl t x hxt hS ((512 * ((grid0.coords t0) 2).val) + 256) ((512 * ((grid0.coords t0) 2).val) + t.val + 1) (by omega) (by omega) inb_S8x1x512_S1x1x256_7_0_256 inb_S8x80x512_S1x80x256_7_0_256 _ _ _ _ (kernelRun0_A.sl.HS0_15 c (grid0.coords t0) arg3 harg3 arg4 harg4 arg5 harg5 arg6 harg6 arg7 harg7 arg8 harg8 arg9 harg9 arg10 harg10 x0 x1 x2 x3) (kernelRun0_A.sl.HS0_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) (kernelRun0_A.sl.HS1_15 c (grid0.coords t0) arg3 harg3 arg4 harg4 arg5 harg5 arg6 harg6 arg7 harg7 arg8 harg8 arg9 harg9 arg10 harg10 x0 x1 x2 x3) h15 ?_ ?_ ?_ ?_⟩
    · exact m_rdc arg9 _ 256 256 7 7 rfl t x hxt _
    · exact a_rdc arg10 _ 256 256 7 7 rfl t x hxt _
    · exact fun k => sc1_tile arg5 harg5 x2 _ _ ((512 * ((grid0.coords t0) 2).val) + 256) 384 3 (off28_1 t0) rfl (by omega) _ t x hxt k _ (by omega)
    · exact fun d k => v_tile arg6 harg6 x3 _ _ ((512 * ((grid0.coords t0) 2).val) + 256) 560 7 (off36_1 t0) rfl (by omega) d k

end

end Cert.KernelIdeal.Fox
-- ==== Proof.FoxOut.lean ====
/- What the forgetting attention stores at a grid point, of what it finds there. -/
module

public import proofs.«01_k».proof.Proof.FoxChain
public import proofs.«01_k».proof.Proof.FoxChains
public import proofs.«01_k».proof.Proof.FoxRow

@[expose] public section

set_option maxRecDepth 16384

noncomputable section

open Idealize.ShloMosaic Idealize.ShloMosaic.TcCoe Idealize.SL.Sem
open Idealize.ShloMosaic.Pipeline (Dat)

namespace Cert.KernelIdeal.Fox

open Cert.KernelIdeal Cert.KernelIdeal.Gen Cert.Fox

/-- What is stored, of the two chains' sums and the gate. -/
theorem fin_gen (a0 a1 : Vec Ideal S1x80x512 .f32) (g : Vec Ideal S1x512x128 .f32) (t : Fin 512) (l : Fin 128) (X Y : Fin 80 → EReal) (z : EReal)
    (h0 : ∀ d, a0 (ix3 (0 : Fin 1) d t) = X d) (h1 : ∀ d, a1 (ix3 (0 : Fin 1) d t) = Y d) (hg : g (ix3 (0 : Fin 1) t l) = z) :
    fin a0 a1 g (ix3 (0 : Fin 1) t l) = (if h : l.val < 64 then X (⟨l.val, by omega⟩ : Fin 80) * Ideal.div 1 (X 64)
        else Y (⟨l.val - 64, by omega⟩ : Fin 80) * Ideal.div 1 (Y 64)) * (z * Ideal.div 1 (1 + Ideal.exp (0 - z))) := by
  have e : fin a0 a1 g (ix3 (0 : Fin 1) t l) = (if h : l.val < 64 then a0 (ix3 (0 : Fin 1) (⟨l.val, by omega⟩ : Fin 80) t) * Ideal.div 1 (a0 (ix3 (0 : Fin 1) (64 : Fin 80) t))
        else a1 (ix3 (0 : Fin 1) (⟨l.val - 64, by omega⟩ : Fin 80) t) * Ideal.div 1 (a1 (ix3 (0 : Fin 1) (64 : Fin 80) t)))
      * (g (ix3 (0 : Fin 1) t l) * Ideal.div 1 (1 + Ideal.exp (0 - g (ix3 (0 : Fin 1) t l)))) := by
    pointwise [fin, k0_pay213, k0_pay210, k0_pay211, k0_pay212]
  rw [e]
  simp only [h0, h1, hg]

theorem o_hit (o : ℕ) (t : Fin 512) (l : Fin 128) (col : Fin 512) (hx : o + l.val = col.val)
    (inb : ∀ a', (![0, 0, o] : Fin 3 → ℕ) a' + S1x512x128.size a' ≤ S1x512x512.size a')
    (W : Vec Ideal S1x512x128 .bf16) (L : List (View.Piece (Elt Ideal) S1x512x512 .bf16)) :
    View.canon (⟨Rect.unit (s := S1x512x512) ![0, 0, o] S1x512x128.size inb, W⟩ :: L) (ix3 (0 : Fin 1) t col)
      = W (ix3 (0 : Fin 1) t l) := by
  have he : (Rect.unit (s := S1x512x512) ![0, 0, o] S1x512x128.size inb).emb (ix3 (0 : Fin 1) t l) = ix3 (0 : Fin 1) t col := by
    funext y; apply Fin.ext
    fin_cases y
    · rfl
    · show 0 + 1 * t.val = t.val; omega
    · show o + 1 * l.val = col.val; omega
  rw [← he]
  exact View.canon_cons_emb (Rect.unit ![0, 0, o] _ inb) W L _

theorem o_miss (o : ℕ) (t : Fin 512) (col : Fin 512) (h : col.val < o)
    (inb : ∀ a', (![0, 0, o] : Fin 3 → ℕ) a' + S1x512x128.size a' ≤ S1x512x512.size a')
    (W : Vec Ideal S1x512x128 .bf16) (L : List (View.Piece (Elt Ideal) S1x512x512 .bf16)) :
    View.canon (⟨Rect.unit (s := S1x512x512) ![0, 0, o] S1x512x128.size inb, W⟩ :: L) (ix3 (0 : Fin 1) t col)
      = View.canon L (ix3 (0 : Fin 1) t col) := by
  refine View.canon_cons_of_not_mem _ L ?_
  intro hm
  obtain ⟨j, hj, he2⟩ := (LoadRect.mem_set _).mp hm (2 : Fin 3)
  have he3 : col.val = o + 1 * j := he2
  omega

theorem q_rd (e : EltTy) (arg : Memref sig .tc .vmem S1x512x512 e) (harg : arg.IsWhole) (X : Vec Ideal S1x512x512 e) (o : ℕ)
    (inb : ∀ a', (![0, 0, o] : Fin 3 → ℕ) a' + S1x512x128.size a' ≤ S1x512x512.size a') (t : Fin 512) (l : Fin 128) (col : Fin 512) (hx : o + l.val = col.val) :
    View.readAt (Elt Ideal) arg.view (Rect.unit (s := S1x512x512) ![0, 0, o] S1x512x128.size inb).toLoadRect (harg.unread X) (ix3 (0 : Fin 1) t l)
      = X (ix3 (0 : Fin 1) t col) := by
  rw [View.readAt_apply, harg.read_unread]
  congr 1
  funext y; apply Fin.ext
  fin_cases y
  · rfl
  · show 0 + 1 * t.val = t.val; omega
  · show o + 1 * l.val = col.val; omega

theorem neg_one : Ideal.ofBits FTy.f32 3212836864#32 = -1 := by
  have h : ((8388608 : ℝ) : EReal) * (((2 ^ 23 : ℝ)⁻¹ : ℝ) : EReal) = 1 := by
    rw [← EReal.coe_mul, ← EReal.coe_one]; congr 1; norm_num
  simpa [Ideal.ofBits, Ideal.ieee] using h

theorem lane64 (l : Fin 128) : IntOp.cmpi .slt (BitVec.ofNat 32 l.val) 64#32 = BitVec.ofBool (decide (l.val < 64)) := by
  revert l; decide +kernel
theorem lane67 (l : Fin 128) : IntOp.andi (IntOp.cmpi .sge (BitVec.ofNat 32 l.val) 64#32) (IntOp.cmpi .slt (BitVec.ofNat 32 l.val) 67#32) = BitVec.ofBool (decide (64 ≤ l.val ∧ l.val < 67)) := by
  revert l; decide +kernel
theorem lane3 (l : Fin 128) : IntOp.cmpi .slt (BitVec.ofNat 32 l.val) 3#32 = BitVec.ofBool (decide (l.val < 3)) := by
  revert l; decide +kernel

/-- The scale of the queries. -/
def scl : ℝ := (8 * Real.log 2)⁻¹

theorem pay91_apply (g : Vec Ideal S1x512x128 .bf16) (t : Fin 512) (l : Fin 128) : k0_pay91 g (ix2 t l) = g (ix3 (0 : Fin 1) t l) * (scl : EReal) := by
  have e : k0_pay91 g (ix2 t l) = g (ix3 (0 : Fin 1) t l) * (Named.named (F := Ideal) (φ := .f32) κ "scale" 0x3E38AA3B#32) := by
    pointwise [k0_pay91]
  rw [e, IdealRules.named_const.ideal_named_scalar _ _ _ _ rfl]
  rfl

theorem pay92_apply (g : Vec Ideal S1x512x128 .bf16) (t : Fin 512) (l : Fin 128) :
    k0_pay92 g (ix2 t l) = if l.val < 64 then g (ix3 (0 : Fin 1) t l) * (scl : EReal) else if 64 ≤ l.val ∧ l.val < 67 then -1 else 0 := by
  have e : k0_pay92 g (ix2 t l) = Scalar.select (IntOp.cmpi .slt (BitVec.ofNat 32 l.val) 64#32) (k0_pay91 g (ix2 t l)) (Scalar.select
        (IntOp.andi (IntOp.cmpi CmpIPredicate.sge (BitVec.ofNat 32 l.val) 64#32) (IntOp.cmpi CmpIPredicate.slt (BitVec.ofNat 32 l.val) 67#32))
        (Ideal.ofBits FTy.f32 3212836864#32) 0) := by
    pointwise [k0_pay92, k0_pay89, k0_pay88]
  rw [e, lane64, lane67, neg_one, pay91_apply, sel_of, sel_of]
theorem pay93_apply (g : Vec Ideal S1x512x128 .bf16) (t : Fin 512) (l : Fin 128) :
    k0_pay93 g (ix2 t l) = if l.val < 64 then if l.val < 3 then -1 else 0 else g (ix3 (0 : Fin 1) t l) * (scl : EReal) := by
  have e : k0_pay93 g (ix2 t l) = Scalar.select (IntOp.cmpi .slt (BitVec.ofNat 32 l.val) 64#32) (Scalar.select (IntOp.cmpi CmpIPredicate.slt (BitVec.ofNat 32 l.val) 3#32)
        (Ideal.ofBits FTy.f32 3212836864#32) 0) (k0_pay91 g (ix2 t l)) := by
    pointwise [k0_pay93, k0_pay90, k0_pay88]
  rw [e, lane64, lane3, neg_one, pay91_apply, sel_of, sel_of]

/-- A head's output row, of what its chain holds at the end. -/
theorem good_row (ci : Fin 8) (x3 : Vec Ideal S640x4096 .bf16) (Sg : ℕ → EReal) (S : ℕ → ℝ) (hS : ∀ s, Sg s = S s) (n : ℕ) (hn : 0 < n) (hn' : n ≤ 4096)
    (m : EReal) (acc : Fin 80 → EReal) (hg : Good Sg (Vf x3 ci) n m acc) (hone : ∀ s : Fin 4096, x3 (ix2 (⟨80 * ci.val + 64, by omega⟩ : Fin 640) s) = 1)
    (d : Fin 64) (v : Fin 4096 → EReal) (hv : ∀ s, x3 (ix2 (⟨80 * ci.val + d.val, by omega⟩ : Fin 640) s) = v s)
    (τ : ℝ) (r : Fin 4096 → EReal) (hr : ∀ s, r s = if s.val < n then ((Real.log 2 * S s.val + τ : ℝ) : EReal) else ⊥)
    (M : EReal) (hM : M = Finset.fold max ⊥ r Finset.univ) :
    acc (⟨d.val, by omega⟩ : Fin 80) * Ideal.div 1 (acc 64)
      = ∑ s, Ideal.div (Ideal.exp (r s - M)) (∑ s', Ideal.exp (r s' - M)) * v s := by
  obtain ⟨h1, h2⟩ := hg
  have eS : Sg = fun s => (S s : EReal) := funext hS
  subst eS
  have hV : ∀ s : Fin 4096, Vf x3 ci (⟨d.val, by omega⟩ : Fin 80) s.val = v s := fun s => by
    rw [← hv s]; exact dif_pos s.isLt
  rw [row n hn hn' S τ r hr v _ hV m M h1 hM, h2, h2]
  have e1 : ∑ s ∈ Finset.range n, Vf x3 ci 64 s * Ideal.exp2 ((S s : EReal) - m) = ∑ s ∈ Finset.range n, 1 * Ideal.exp2 ((S s : EReal) - m) := by
    refine Finset.sum_congr rfl fun s hs => ?_
    have hs' : s < 4096 := lt_of_lt_of_le (Finset.mem_range.mp hs) hn'
    have : Vf x3 ci 64 s = 1 := (dif_pos hs').trans (hone ⟨s, hs'⟩)
    rw [this]
  rw [e1]

/-- The scores of a head of even number within its pair. -/
theorem sf_even (kb : Vec Ideal S1x4096x512 .bf16) (p : Fin 4) (g : Vec Ideal S1x512x128 .bf16) (t : Fin 512) (q : Fin 64 → ℝ) (k : Fin 4096 → Fin 64 → ℝ) (u : Fin 4096 → ℝ)
    (hq : ∀ d : Fin 64, g (ix3 (0 : Fin 1) t (⟨d.val, by omega⟩ : Fin 128)) = (q d : EReal))
    (hk : ∀ s, ∀ d : Fin 64, kb (ix3 (0 : Fin 1) s (⟨128 * p.val + d.val, by omega⟩ : Fin 512)) = (k s d : EReal))
    (hu : ∀ s, ∀ d : Fin 64, kb (ix3 (0 : Fin 1) s (⟨128 * p.val + 64 + d.val, by omega⟩ : Fin 512)) = if d.val = 0 then (u s : EReal) else 0) (s : ℕ) :
    Sf kb p (k0_pay92 g) t s = ((if h : s < 4096 then scl * ∑ d, k ⟨s, h⟩ d * q d - u ⟨s, h⟩ else 0 : ℝ) : EReal) := by
  unfold Sf
  by_cases h : s < 4096
  · rw [dif_pos h, dif_pos h]
    refine score_even _ _ _ _ (fun l : Fin 128 => kb (ix3 (0 : Fin 1) (⟨s, h⟩ : Fin 4096) (⟨128 * p.val + l.val, by omega⟩ : Fin 512)))
      (fun l => k0_pay92 g (ix2 t l)) (fun d => hk _ d) (fun d => ?_) (fun d => ?_) (fun d => ?_)
    · rw [← hu ⟨s, h⟩ d]
      exact congrArg (fun e => kb (ix3 (0 : Fin 1) (⟨s, h⟩ : Fin 4096) e)) (Fin.ext (by simp only []; omega))
    · rw [pay92_apply, if_pos d.isLt, hq]
    · rw [pay92_apply, if_neg (by simp only []; omega)]
      by_cases h3 : d.val < 3
      · rw [if_pos (by simp only []; omega), if_pos h3]
      · rw [if_neg (by simp only []; omega), if_neg h3]
  · rw [dif_neg h, dif_neg h]; rfl

/-- The scores of a head of odd number within its pair. -/
theorem sf_odd (kb : Vec Ideal S1x4096x512 .bf16) (p : Fin 4) (g : Vec Ideal S1x512x128 .bf16) (t : Fin 512) (q : Fin 64 → ℝ) (k : Fin 4096 → Fin 64 → ℝ) (u : Fin 4096 → ℝ)
    (hq : ∀ d : Fin 64, g (ix3 (0 : Fin 1) t (⟨64 + d.val, by omega⟩ : Fin 128)) = (q d : EReal))
    (hk : ∀ s, ∀ d : Fin 64, kb (ix3 (0 : Fin 1) s (⟨128 * p.val + 64 + d.val, by omega⟩ : Fin 512)) = (k s d : EReal))
    (hu : ∀ s, ∀ d : Fin 64, kb (ix3 (0 : Fin 1) s (⟨128 * p.val + d.val, by omega⟩ : Fin 512)) = if d.val = 0 then (u s : EReal) else 0) (s : ℕ) :
    Sf kb p (k0_pay93 g) t s = ((if h : s < 4096 then scl * ∑ d, k ⟨s, h⟩ d * q d - u ⟨s, h⟩ else 0 : ℝ) : EReal) := by
  unfold Sf
  by_cases h : s < 4096
  · rw [dif_pos h, dif_pos h]
    refine score_odd _ _ _ _ (fun l : Fin 128 => kb (ix3 (0 : Fin 1) (⟨s, h⟩ : Fin 4096) (⟨128 * p.val + l.val, by omega⟩ : Fin 512)))
      (fun l => k0_pay93 g (ix2 t l)) (fun d => ?_) (fun d => hu _ d) (fun d => ?_) (fun d => ?_)
    · rw [← hk ⟨s, h⟩ d]
      exact congrArg (fun e => kb (ix3 (0 : Fin 1) (⟨s, h⟩ : Fin 4096) e)) (Fin.ext (by simp only []; omega))
    · rw [pay93_apply, if_neg (by simp only []; omega), hq]
    · rw [pay93_apply, if_pos d.isLt]
  · rw [dif_neg h, dif_neg h]; rfl

variable (c : Dev nD) (t0 : Fin grid0.N) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole)
  (x0 : Vec Ideal S1x512x512 .bf16) (x1 : Vec Ideal S1x4096x512 .bf16) (x2 : Vec Ideal S1x4096x512 .bf16) (x3 : Vec Ideal S640x4096 .bf16)

/-- What chain 0 leaves: a row of the reference's means. -/
theorem acc_0 (t : Fin 512) (q : Fin 64 → ℝ) (k : Fin 4096 → Fin 64 → ℝ) (u : Fin 4096 → ℝ)
    (hq : ∀ d : Fin 64, x0 (ix3 (0 : Fin 1) t (⟨0 + d.val, by omega⟩ : Fin 512)) = (q d : EReal))
    (hk : ∀ s, ∀ d : Fin 64, x1 (ix3 (0 : Fin 1) s (⟨0 + d.val, by omega⟩ : Fin 512)) = (k s d : EReal))
    (hu : ∀ s, ∀ d : Fin 64, x1 (ix3 (0 : Fin 1) s (⟨64 + d.val, by omega⟩ : Fin 512)) = if d.val = 0 then (u s : EReal) else 0)
    (hone : ∀ s : Fin 4096, x3 (ix2 (⟨64, by omega⟩ : Fin 640) s) = 1)
    (d : Fin 64) (v : Fin 4096 → EReal) (hv : ∀ s, x3 (ix2 (⟨0 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (0 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (0 : Fin 8) (64 : Fin 80) t))
      = ∑ s, Ideal.div (Ideal.exp (r s - M)) (∑ s', Ideal.exp (r s' - M)) * v s := by
  have hi := qi_lt t0
  have hS := sf_even x1 (0 : Fin 4) (View.readAt (Elt Ideal) arg3.view (Rect.unit (s := S1x512x512) ![0, 0, 0] S1x512x128.size inb_S1x512x512_S1x512x128_0_0_0).toLoadRect (harg3.unread x0)) t q k u (fun d => (q_rd .bf16 arg3 harg3 x0 0 _ t _ (⟨0 + d.val, by omega⟩ : Fin 512) (by first | (simp only []; done) | (simp only []; omega))).trans (hq d)) hk hu
  obtain ⟨m, hg⟩ := chain_0 c t0 arg3 harg3 arg4 harg4 arg5 harg5 arg6 harg6 arg7 harg7 arg8 harg8 arg9 harg9 arg10 harg10 x0 x1 x2 x3 t (fun s => ⟨_, hS s⟩)
  refine good_row (0 : Fin 8) x3 _ _ hS _ (Nat.succ_pos _) (by omega) m _ hg hone d v hv τ r (fun s => ?_) M hM
  rw [hr s, dif_pos s.isLt]

/-- What chain 1 leaves: a row of the reference's means. -/
theorem acc_1 (t : Fin 512) (q : Fin 64 → ℝ) (k : Fin 4096 → Fin 64 → ℝ) (u : Fin 4096 → ℝ)
    (hq : ∀ d : Fin 64, x0 (ix3 (0 : Fin 1) t (⟨64 + d.val, by omega⟩ : Fin 512)) = (q d : EReal))
    (hk : ∀ s, ∀ d : Fin 64, x2 (ix3 (0 : Fin 1) s (⟨64 + d.val, by omega⟩ : Fin 512)) = (k s d : EReal))
    (hu : ∀ s, ∀ d : Fin 64, x2 (ix3 (0 : Fin 1) s (⟨0 + d.val, by omega⟩ : Fin 512)) = if d.val = 0 then (u s : EReal) else 0)
    (hone : ∀ s : Fin 4096, x3 (ix2 (⟨144, by omega⟩ : Fin 640) s) = 1)
    (d : Fin 64) (v : Fin 4096 → EReal) (hv : ∀ s, x3 (ix2 (⟨80 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (1 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (1 : Fin 8) (64 : Fin 80) t))
      = ∑ s, Ideal.div (Ideal.exp (r s - M)) (∑ s', Ideal.exp (r s' - M)) * v s := by
  have hi := qi_lt t0
  have hS := sf_odd x2 (0 : Fin 4) (View.readAt (Elt Ideal) arg3.view (Rect.unit (s := S1x512x512) ![0, 0, 0] S1x512x128.size inb_S1x512x512_S1x512x128_0_0_0).toLoadRect (harg3.unread x0)) t q k u (fun d => (q_rd .bf16 arg3 harg3 x0 0 _ t _ (⟨64 + d.val, by omega⟩ : Fin 512) (by first | (simp only []; done) | (simp only []; omega))).trans (hq d)) hk hu
  obtain ⟨m, hg⟩ := chain_1 c t0 arg3 harg3 arg4 harg4 arg5 harg5 arg6 harg6 arg7 harg7 arg8 harg8 arg9 harg9 arg10 harg10 x0 x1 x2 x3 t (fun s => ⟨_, hS s⟩)
  refine good_row (1 : Fin 8) x3 _ _ hS _ (Nat.succ_pos _) (by omega) m _ hg hone d v hv τ r (fun s => ?_) M hM
  rw [hr s, dif_pos s.isLt]

/-- What chain 2 leaves: a row of the reference's means. -/
theorem acc_2 (t : Fin 512) (q : Fin 64 → ℝ) (k : Fin 4096 → Fin 64 → ℝ) (u : Fin 4096 → ℝ)
    (hq : ∀ d : Fin 64, x0 (ix3 (0 : Fin 1) t (⟨128 + d.val, by omega⟩ : Fin 512)) = (q d : EReal))
    (hk : ∀ s, ∀ d : Fin 64, x1 (ix3 (0 : Fin 1) s (⟨128 + d.val, by omega⟩ : Fin 512)) = (k s d : EReal))
    (hu : ∀ s, ∀ d : Fin 64, x1 (ix3 (0 : Fin 1) s (⟨192 + d.val, by omega⟩ : Fin 512)) = if d.val = 0 then (u s : EReal) else 0)
    (hone : ∀ s : Fin 4096, x3 (ix2 (⟨224, by omega⟩ : Fin 640) s) = 1)
    (d : Fin 64) (v : Fin 4096 → EReal) (hv : ∀ s, x3 (ix2 (⟨160 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (2 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (2 : Fin 8) (64 : Fin 80) t))
      = ∑ s, Ideal.div (Ideal.exp (r s - M)) (∑ s', Ideal.exp (r s' - M)) * v s := by
  have hi := qi_lt t0
  have hS := sf_even x1 (1 : Fin 4) (View.readAt (Elt Ideal) arg3.view (Rect.unit (s := S1x512x512) ![0, 0, 128] S1x512x128.size inb_S1x512x512_S1x512x128_0_0_128).toLoadRect (harg3.unread x0)) t q k u (fun d => (q_rd .bf16 arg3 harg3 x0 128 _ t _ (⟨128 + d.val, by omega⟩ : Fin 512) (by first | (simp only []; done) | (simp only []; omega))).trans (hq d)) hk hu
  obtain ⟨m, hg⟩ := chain_2 c t0 arg3 harg3 arg4 harg4 arg5 harg5 arg6 harg6 arg7 harg7 arg8 harg8 arg9 harg9 arg10 harg10 x0 x1 x2 x3 t (fun s => ⟨_, hS s⟩)
  refine good_row (2 : Fin 8) x3 _ _ hS _ (Nat.succ_pos _) (by omega) m _ hg hone d v hv τ r (fun s => ?_) M hM
  rw [hr s, dif_pos s.isLt]

/-- What chain 3 leaves: a row of the reference's means. -/
theorem acc_3 (t : Fin 512) (q : Fin 64 → ℝ) (k : Fin 4096 → Fin 64 → ℝ) (u : Fin 4096 → ℝ)
    (hq : ∀ d : Fin 64, x0 (ix3 (0 : Fin 1) t (⟨192 + d.val, by omega⟩ : Fin 512)) = (q d : EReal))
    (hk : ∀ s, ∀ d : Fin 64, x2 (ix3 (0 : Fin 1) s (⟨192 + d.val, by omega⟩ : Fin 512)) = (k s d : EReal))
    (hu : ∀ s, ∀ d : Fin 64, x2 (ix3 (0 : Fin 1) s (⟨128 + d.val, by omega⟩ : Fin 512)) = if d.val = 0 then (u s : EReal) else 0)
    (hone : ∀ s : Fin 4096, x3 (ix2 (⟨304, by omega⟩ : Fin 640) s) = 1)
    (d : Fin 64) (v : Fin 4096 → EReal) (hv : ∀ s, x3 (ix2 (⟨240 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (3 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (3 : Fin 8) (64 : Fin 80) t))
      = ∑ s, Ideal.div (Ideal.exp (r s - M)) (∑ s', Ideal.exp (r s' - M)) * v s := by
  have hi := qi_lt t0
  have hS := sf_odd x2 (1 : Fin 4) (View.readAt (Elt Ideal) arg3.view (Rect.unit (s := S1x512x512) ![0, 0, 128] S1x512x128.size inb_S1x512x512_S1x512x128_0_0_128).toLoadRect (harg3.unread x0)) t q k u (fun d => (q_rd .bf16 arg3 harg3 x0 128 _ t _ (⟨192 + d.val, by omega⟩ : Fin 512) (by first | (simp only []; done) | (simp only []; omega))).trans (hq d)) hk hu
  obtain ⟨m, hg⟩ := chain_3 c t0 arg3 harg3 arg4 harg4 arg5 harg5 arg6 harg6 arg7 harg7 arg8 harg8 arg9 harg9 arg10 harg10 x0 x1 x2 x3 t (fun s => ⟨_, hS s⟩)
  refine good_row (3 : Fin 8) x3 _ _ hS _ (Nat.succ_pos _) (by omega) m _ hg hone d v hv τ r (fun s => ?_) M hM
  rw [hr s, dif_pos s.isLt]

/-- What chain 4 leaves: a row of the reference's means. -/
theorem acc_4 (t : Fin 512) (q : Fin 64 → ℝ) (k : Fin 4096 → Fin 64 → ℝ) (u : Fin 4096 → ℝ)
    (hq : ∀ d : Fin 64, x0 (ix3 (0 : Fin 1) t (⟨256 + d.val, by omega⟩ : Fin 512)) = (q d : EReal))
    (hk : ∀ s, ∀ d : Fin 64, x1 (ix3 (0 : Fin 1) s (⟨256 + d.val, by omega⟩ : Fin 512)) = (k s d : EReal))
    (hu : ∀ s, ∀ d : Fin 64, x1 (ix3 (0 : Fin 1) s (⟨320 + d.val, by omega⟩ : Fin 512)) = if d.val = 0 then (u s : EReal) else 0)
    (hone : ∀ s : Fin 4096, x3 (ix2 (⟨384, by omega⟩ : Fin 640) s) = 1)
    (d : Fin 64) (v : Fin 4096 → EReal) (hv : ∀ s, x3 (ix2 (⟨320 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (4 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (4 : Fin 8) (64 : Fin 80) t))
      = ∑ s, Ideal.div (Ideal.exp (r s - M)) (∑ s', Ideal.exp (r s' - M)) * v s := by
  have hi := qi_lt t0
  have hS := sf_even x1 (2 : Fin 4) (View.readAt (Elt Ideal) arg3.view (Rect.unit (s := S1x512x512) ![0, 0, 256] S1x512x128.size inb_S1x512x512_S1x512x128_0_0_256).toLoadRect (harg3.unread x0)) t q k u (fun d => (q_rd .bf16 arg3 harg3 x0 256 _ t _ (⟨256 + d.val, by omega⟩ : Fin 512) (by first | (simp only []; done) | (simp only []; omega))).trans (hq d)) hk hu
  obtain ⟨m, hg⟩ := chain_4 c t0 arg3 harg3 arg4 harg4 arg5 harg5 arg6 harg6 arg7 harg7 arg8 harg8 arg9 harg9 arg10 harg10 x0 x1 x2 x3 t (fun s => ⟨_, hS s⟩)
  refine good_row (4 : Fin 8) x3 _ _ hS _ (Nat.succ_pos _) (by omega) m _ hg hone d v hv τ r (fun s => ?_) M hM
  rw [hr s, dif_pos s.isLt]

/-- What chain 5 leaves: a row of the reference's means. -/
theorem acc_5 (t : Fin 512) (q : Fin 64 → ℝ) (k : Fin 4096 → Fin 64 → ℝ) (u : Fin 4096 → ℝ)
    (hq : ∀ d : Fin 64, x0 (ix3 (0 : Fin 1) t (⟨320 + d.val, by omega⟩ : Fin 512)) = (q d : EReal))
    (hk : ∀ s, ∀ d : Fin 64, x2 (ix3 (0 : Fin 1) s (⟨320 + d.val, by omega⟩ : Fin 512)) = (k s d : EReal))
    (hu : ∀ s, ∀ d : Fin 64, x2 (ix3 (0 : Fin 1) s (⟨256 + d.val, by omega⟩ : Fin 512)) = if d.val = 0 then (u s : EReal) else 0)
    (hone : ∀ s : Fin 4096, x3 (ix2 (⟨464, by omega⟩ : Fin 640) s) = 1)
    (d : Fin 64) (v : Fin 4096 → EReal) (hv : ∀ s, x3 (ix2 (⟨400 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (5 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (5 : Fin 8) (64 : Fin 80) t))
      = ∑ s, Ideal.div (Ideal.exp (r s - M)) (∑ s', Ideal.exp (r s' - M)) * v s := by
  have hi := qi_lt t0
  have hS := sf_odd x2 (2 : Fin 4) (View.readAt (Elt Ideal) arg3.view (Rect.unit (s := S1x512x512) ![0, 0, 256] S1x512x128.size inb_S1x512x512_S1x512x128_0_0_256).toLoadRect (harg3.unread x0)) t q k u (fun d => (q_rd .bf16 arg3 harg3 x0 256 _ t _ (⟨320 + d.val, by omega⟩ : Fin 512) (by first | (simp only []; done) | (simp only []; omega))).trans (hq d)) hk hu
  obtain ⟨m, hg⟩ := chain_5 c t0 arg3 harg3 arg4 harg4 arg5 harg5 arg6 harg6 arg7 harg7 arg8 harg8 arg9 harg9 arg10 harg10 x0 x1 x2 x3 t (fun s => ⟨_, hS s⟩)
  refine good_row (5 : Fin 8) x3 _ _ hS _ (Nat.succ_pos _) (by omega) m _ hg hone d v hv τ r (fun s => ?_) M hM
  rw [hr s, dif_pos s.isLt]

/-- What chain 6 leaves: a row of the reference's means. -/
theorem acc_6 (t : Fin 512) (q : Fin 64 → ℝ) (k : Fin 4096 → Fin 64 → ℝ) (u : Fin 4096 → ℝ)
    (hq : ∀ d : Fin 64, x0 (ix3 (0 : Fin 1) t (⟨384 + d.val, by omega⟩ : Fin 512)) = (q d : EReal))
    (hk : ∀ s, ∀ d : Fin 64, x1 (ix3 (0 : Fin 1) s (⟨384 + d.val, by omega⟩ : Fin 512)) = (k s d : EReal))
    (hu : ∀ s, ∀ d : Fin 64, x1 (ix3 (0 : Fin 1) s (⟨448 + d.val, by omega⟩ : Fin 512)) = if d.val = 0 then (u s : EReal) else 0)
    (hone : ∀ s : Fin 4096, x3 (ix2 (⟨544, by omega⟩ : Fin 640) s) = 1)
    (d : Fin 64) (v : Fin 4096 → EReal) (hv : ∀ s, x3 (ix2 (⟨480 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (6 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (6 : Fin 8) (64 : Fin 80) t))
      = ∑ s, Ideal.div (Ideal.exp (r s - M)) (∑ s', Ideal.exp (r s' - M)) * v s := by
  have hi := qi_lt t0
  have hS := sf_even x1 (3 : Fin 4) (View.readAt (Elt Ideal) arg3.view (Rect.unit (s := S1x512x512) ![0, 0, 384] S1x512x128.size inb_S1x512x512_S1x512x128_0_0_384).toLoadRect (harg3.unread x0)) t q k u (fun d => (q_rd .bf16 arg3 harg3 x0 384 _ t _ (⟨384 + d.val, by omega⟩ : Fin 512) (by first | (simp only []; done) | (simp only []; omega))).trans (hq d)) hk hu
  obtain ⟨m, hg⟩ := chain_6 c t0 arg3 harg3 arg4 harg4 arg5 harg5 arg6 harg6 arg7 harg7 arg8 harg8 arg9 harg9 arg10 harg10 x0 x1 x2 x3 t (fun s => ⟨_, hS s⟩)
  refine good_row (6 : Fin 8) x3 _ _ hS _ (Nat.succ_pos _) (by omega) m _ hg hone d v hv τ r (fun s => ?_) M hM
  rw [hr s, dif_pos s.isLt]

/-- What chain 7 leaves: a row of the reference's means. -/
theorem acc_7 (t : Fin 512) (q : Fin 64 → ℝ) (k : Fin 4096 → Fin 64 → ℝ) (u : Fin 4096 → ℝ)
    (hq : ∀ d : Fin 64, x0 (ix3 (0 : Fin 1) t (⟨448 + d.val, by omega⟩ : Fin 512)) = (q d : EReal))
    (hk : ∀ s, ∀ d : Fin 64, x2 (ix3 (0 : Fin 1) s (⟨448 + d.val, by omega⟩ : Fin 512)) = (k s d : EReal))
    (hu : ∀ s, ∀ d : Fin 64, x2 (ix3 (0 : Fin 1) s (⟨384 + d.val, by omega⟩ : Fin 512)) = if d.val = 0 then (u s : EReal) else 0)
    (hone : ∀ s : Fin 4096, x3 (ix2 (⟨624, by omega⟩ : Fin 640) s) = 1)
    (d : Fin 64) (v : Fin 4096 → EReal) (hv : ∀ s, x3 (ix2 (⟨560 + d.val, by omega⟩ : Fin 640) s) = v s)
    (τ : ℝ) (r : Fin 4096 → EReal) (hr : ∀ s : Fin 4096, r s = if s.val < 512 * ((grid0.coords t0) 2).val + t.val + 1 then ((Real.log 2 * (scl * ∑ d, k s d * q d - u s) + τ : ℝ) : EReal) else ⊥)
    (M : EReal) (hM : M = Finset.fold max ⊥ r Finset.univ) :
    View.canon (kernelRun0_A.sl.HS1_16 c (grid0.coords t0) arg3 harg3 arg4 harg4 arg5 harg5 arg6 harg6 arg7 harg7 arg8 harg8 arg9 harg9 arg10 harg10 x0 x1 x2 x3) (ix3 (7 : Fin 8) (⟨d.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (7 : Fin 8) (64 : Fin 80) t))
      = ∑ s, Ideal.div (Ideal.exp (r s - M)) (∑ s', Ideal.exp (r s' - M)) * v s := by
  have hi := qi_lt t0
  have hS := sf_odd x2 (3 : Fin 4) (View.readAt (Elt Ideal) arg3.view (Rect.unit (s := S1x512x512) ![0, 0, 384] S1x512x128.size inb_S1x512x512_S1x512x128_0_0_384).toLoadRect (harg3.unread x0)) t q k u (fun d => (q_rd .bf16 arg3 harg3 x0 384 _ t _ (⟨448 + d.val, by omega⟩ : Fin 512) (by first | (simp only []; done) | (simp only []; omega))).trans (hq d)) hk hu
  obtain ⟨m, hg⟩ := chain_7 c t0 arg3 harg3 arg4 harg4 arg5 harg5 arg6 harg6 arg7 harg7 arg8 harg8 arg9 harg9 arg10 harg10 x0 x1 x2 x3 t (fun s => ⟨_, hS s⟩)
  refine good_row (7 : Fin 8) x3 _ _ hS _ (Nat.succ_pos _) (by omega) m _ hg hone d v hv τ r (fun s => ?_) M hM
  rw [hr s, dif_pos s.isLt]

/-- What is stored for heads 0 and 1. -/
theorem out_at_0 (x4 : Vec Ideal S1x512x512 .f32) (t : Fin 512) (l : Fin 128) (col : Fin 512) (hx : 0 + l.val = col.val) :
    View.canon (kernelRun0_A c (grid0.coords t0) arg3 harg3 arg4 harg4 arg5 harg5 arg6 harg6 arg7 harg7 arg8 harg8 arg9 harg9 arg10 harg10 x0 x1 x2 x3 x4).1 (ix3 (0 : Fin 1) t col)
      = (if h : l.val < 64 then View.canon (kernelRun0_A.sl.HS1_16 c (grid0.coords t0) arg3 harg3 arg4 harg4 arg5 harg5 arg6 harg6 arg7 harg7 arg8 harg8 arg9 harg9 arg10 harg10 x0 x1 x2 x3) (ix3 (0 : Fin 8) (⟨l.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (0 : Fin 8) (64 : Fin 80) t))
        else View.canon (kernelRun0_A.sl.HS1_16 c (grid0.coords t0) arg3 harg3 arg4 harg4 arg5 harg5 arg6 harg6 arg7 harg7 arg8 harg8 arg9 harg9 arg10 harg10 x0 x1 x2 x3) (ix3 (1 : Fin 8) (⟨l.val - 64, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (1 : Fin 8) (64 : Fin 80) t)))
        * (x4 (ix3 (0 : Fin 1) t col) * Ideal.div 1 (1 + Ideal.exp (0 - x4 (ix3 (0 : Fin 1) t col)))) := by
  rw [out_pieces]
  rw [o_miss 384 t col (by omega)]
  rw [o_miss 256 t col (by omega)]
  rw [o_miss 128 t col (by omega)]
  rw [o_hit 0 t l col hx]
  exact fin_gen _ _ _ t l (fun d => View.canon (kernelRun0_A.sl.HS1_16 c (grid0.coords t0) arg3 harg3 arg4 harg4 arg5 harg5 arg6 harg6 arg7 harg7 arg8 harg8 arg9 harg9 arg10 harg10 x0 x1 x2 x3) (ix3 (0 : Fin 8) d t)) (fun d => View.canon (kernelRun0_A.sl.HS1_16 c (grid0.coords t0) arg3 harg3 arg4 harg4 arg5 harg5 arg6 harg6 arg7 harg7 arg8 harg8 arg9 harg9 arg10 harg10 x0 x1 x2 x3) (ix3 (1 : Fin 8) d t)) _
    (fun d => a_rdc arg10 _ 0 512 0 (0 : Fin 8) rfl t t (Nat.zero_add _) _ d) (fun d => a_rdc arg10 _ 0 512 1 (1 : Fin 8) rfl t t (Nat.zero_add _) _ d)
    (q_rd .f32 arg7 harg7 x4 0 _ t l col hx)

/-- What is stored for heads 2 and 3. -/
theorem out_at_1 (x4 : Vec Ideal S1x512x512 .f32) (t : Fin 512) (l : Fin 128) (col : Fin 512) (hx : 128 + l.val = col.val) :
    View.canon (kernelRun0_A c (grid0.coords t0) arg3 harg3 arg4 harg4 arg5 harg5 arg6 harg6 arg7 harg7 arg8 harg8 arg9 harg9 arg10 harg10 x0 x1 x2 x3 x4).1 (ix3 (0 : Fin 1) t col)
      = (if h : l.val < 64 then View.canon (kernelRun0_A.sl.HS1_16 c (grid0.coords t0) arg3 harg3 arg4 harg4 arg5 harg5 arg6 harg6 arg7 harg7 arg8 harg8 arg9 harg9 arg10 harg10 x0 x1 x2 x3) (ix3 (2 : Fin 8) (⟨l.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (2 : Fin 8) (64 : Fin 80) t))
        else View.canon (kernelRun0_A.sl.HS1_16 c (grid0.coords t0) arg3 harg3 arg4 harg4 arg5 harg5 arg6 harg6 arg7 harg7 arg8 harg8 arg9 harg9 arg10 harg10 x0 x1 x2 x3) (ix3 (3 : Fin 8) (⟨l.val - 64, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (3 : Fin 8) (64 : Fin 80) t)))
        * (x4 (ix3 (0 : Fin 1) t col) * Ideal.div 1 (1 + Ideal.exp (0 - x4 (ix3 (0 : Fin 1) t col)))) := by
  rw [out_pieces]
  rw [o_miss 384 t col (by omega)]
  rw [o_miss 256 t col (by omega)]
  rw [o_hit 128 t l col hx]
  exact fin_gen _ _ _ t l (fun d => View.canon (kernelRun0_A.sl.HS1_16 c (grid0.coords t0) arg3 harg3 arg4 harg4 arg5 harg5 arg6 harg6 arg7 harg7 arg8 harg8 arg9 harg9 arg10 harg10 x0 x1 x2 x3) (ix3 (2 : Fin 8) d t)) (fun d => View.canon (kernelRun0_A.sl.HS1_16 c (grid0.coords t0) arg3 harg3 arg4 harg4 arg5 harg5 arg6 harg6 arg7 harg7 arg8 harg8 arg9 harg9 arg10 harg10 x0 x1 x2 x3) (ix3 (3 : Fin 8) d t)) _
    (fun d => a_rdc arg10 _ 0 512 2 (2 : Fin 8) rfl t t (Nat.zero_add _) _ d) (fun d => a_rdc arg10 _ 0 512 3 (3 : Fin 8) rfl t t (Nat.zero_add _) _ d)
    (q_rd .f32 arg7 harg7 x4 128 _ t l col hx)

/-- What is stored for heads 4 and 5. -/
theorem out_at_2 (x4 : Vec Ideal S1x512x512 .f32) (t : Fin 512) (l : Fin 128) (col : Fin 512) (hx : 256 + l.val = col.val) :
    View.canon (kernelRun0_A c (grid0.coords t0) arg3 harg3 arg4 harg4 arg5 harg5 arg6 harg6 arg7 harg7 arg8 harg8 arg9 harg9 arg10 harg10 x0 x1 x2 x3 x4).1 (ix3 (0 : Fin 1) t col)
      = (if h : l.val < 64 then View.canon (kernelRun0_A.sl.HS1_16 c (grid0.coords t0) arg3 harg3 arg4 harg4 arg5 harg5 arg6 harg6 arg7 harg7 arg8 harg8 arg9 harg9 arg10 harg10 x0 x1 x2 x3) (ix3 (4 : Fin 8) (⟨l.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (4 : Fin 8) (64 : Fin 80) t))
        else View.canon (kernelRun0_A.sl.HS1_16 c (grid0.coords t0) arg3 harg3 arg4 harg4 arg5 harg5 arg6 harg6 arg7 harg7 arg8 harg8 arg9 harg9 arg10 harg10 x0 x1 x2 x3) (ix3 (5 : Fin 8) (⟨l.val - 64, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (5 : Fin 8) (64 : Fin 80) t)))
        * (x4 (ix3 (0 : Fin 1) t col) * Ideal.div 1 (1 + Ideal.exp (0 - x4 (ix3 (0 : Fin 1) t col)))) := by
  rw [out_pieces]
  rw [o_miss 384 t col (by omega)]
  rw [o_hit 256 t l col hx]
  exact fin_gen _ _ _ t l (fun d => View.canon (kernelRun0_A.sl.HS1_16 c (grid0.coords t0) arg3 harg3 arg4 harg4 arg5 harg5 arg6 harg6 arg7 harg7 arg8 harg8 arg9 harg9 arg10 harg10 x0 x1 x2 x3) (ix3 (4 : Fin 8) d t)) (fun d => View.canon (kernelRun0_A.sl.HS1_16 c (grid0.coords t0) arg3 harg3 arg4 harg4 arg5 harg5 arg6 harg6 arg7 harg7 arg8 harg8 arg9 harg9 arg10 harg10 x0 x1 x2 x3) (ix3 (5 : Fin 8) d t)) _
    (fun d => a_rdc arg10 _ 0 512 4 (4 : Fin 8) rfl t t (Nat.zero_add _) _ d) (fun d => a_rdc arg10 _ 0 512 5 (5 : Fin 8) rfl t t (Nat.zero_add _) _ d)
    (q_rd .f32 arg7 harg7 x4 256 _ t l col hx)

/-- What is stored for heads 6 and 7. -/
theorem out_at_3 (x4 : Vec Ideal S1x512x512 .f32) (t : Fin 512) (l : Fin 128) (col : Fin 512) (hx : 384 + l.val = col.val) :
    View.canon (kernelRun0_A c (grid0.coords t0) arg3 harg3 arg4 harg4 arg5 harg5 arg6 harg6 arg7 harg7 arg8 harg8 arg9 harg9 arg10 harg10 x0 x1 x2 x3 x4).1 (ix3 (0 : Fin 1) t col)
      = (if h : l.val < 64 then View.canon (kernelRun0_A.sl.HS1_16 c (grid0.coords t0) arg3 harg3 arg4 harg4 arg5 harg5 arg6 harg6 arg7 harg7 arg8 harg8 arg9 harg9 arg10 harg10 x0 x1 x2 x3) (ix3 (6 : Fin 8) (⟨l.val, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (6 : Fin 8) (64 : Fin 80) t))
        else View.canon (kernelRun0_A.sl.HS1_16 c (grid0.coords t0) arg3 harg3 arg4 harg4 arg5 harg5 arg6 harg6 arg7 harg7 arg8 harg8 arg9 harg9 arg10 harg10 x0 x1 x2 x3) (ix3 (7 : Fin 8) (⟨l.val - 64, by omega⟩ : Fin 80) t) * Ideal.div 1 (View.canon (kernelRun0_A.sl.HS1_16 c (grid0.coords t0) arg3 harg3 arg4 harg4 arg5 harg5 arg6 harg6 arg7 harg7 arg8 harg8 arg9 harg9 arg10 harg10 x0 x1 x2 x3) (ix3 (7 : Fin 8) (64 : Fin 80) t)))
        * (x4 (ix3 (0 : Fin 1) t col) * Ideal.div 1 (1 + Ideal.exp (0 - x4 (ix3 (0 : Fin 1) t col)))) := by
  rw [out_pieces]
  rw [o_hit 384 t l col hx]
  exact fin_gen _ _ _ t l (fun d => View.canon (kernelRun0_A.sl.HS1_16 c (grid0.coords t0) arg3 harg3 arg4 harg4 arg5 harg5 arg6 harg6 arg7 harg7 arg8 harg8 arg9 harg9 arg10 harg10 x0 x1 x2 x3) (ix3 (6 : Fin 8) d t)) (fun d => View.canon (kernelRun0_A.sl.HS1_16 c (grid0.coords t0) arg3 harg3 arg4 harg4 arg5 harg5 arg6 harg6 arg7 harg7 arg8 harg8 arg9 harg9 arg10 harg10 x0 x1 x2 x3) (ix3 (7 : Fin 8) d t)) _
    (fun d => a_rdc arg10 _ 0 512 6 (6 : Fin 8) rfl t t (Nat.zero_add _) _ d) (fun d => a_rdc arg10 _ 0 512 7 (7 : Fin 8) rfl t t (Nat.zero_add _) _ d)
    (q_rd .f32 arg7 harg7 x4 384 _ t l col hx)

end Cert.KernelIdeal.Fox
-- ==== Proof.FoxRef.lean ====
/- The forgetting attention's reference, stage by stage, and the stages' entries. -/
module

public import proofs.«01_k».proof.Defs
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Fox

open Cert.ReferenceIdeal Cert.ReferenceIdeal.Gen

abbrev TP := FVec Ideal S2x4096x14616 .f32
abbrev TB := FVec Ideal S24 .f32

/-- The negated forget logits. -/
def Z (p : TP) (b : TB) : FVec Ideal S2x4096x24 .f32 :=
  Host.negf (addf (extractStridedSlice S2x4096x24 ![0, 0, 11008] p slices_S2x4096x14616_S2x4096x24_0_0_11008) (broadcastInDim S2x4096x24 ![0, 1, 2] bcast_S1x1x24_S2x4096x24_0_1_2 (broadcastInDim S1x1x24 ![2] bcast_S24_S1x1x24_2 b)))

/-- The log forget gates. -/
def LG (z : FVec Ideal S2x4096x24 .f32) : FVec Ideal S2x4096x24 .f32 :=
  Host.negf (select (cmpf .une (subf z (broadcastInDim S2x4096x24 ![] bcast_S_S2x4096x24 (constant S_ .f32 0x00000000#32))) (subf z (broadcastInDim S2x4096x24 ![] bcast_S_S2x4096x24 (constant S_ .f32 0x00000000#32)))) (addf z (broadcastInDim S2x4096x24 ![] bcast_S_S2x4096x24 (constant S_ .f32 0x00000000#32))) (addf (maximumf z (broadcastInDim S2x4096x24 ![] bcast_S_S2x4096x24 (constant S_ .f32 0x00000000#32))) (Host.log1p (Host.exp (Host.negf (Host.absf (subf z (broadcastInDim S2x4096x24 ![] bcast_S_S2x4096x24 (constant S_ .f32 0x00000000#32)))))))))

/-- Their running sums. -/
def CU (x : FVec Ideal S2x4096x24 .f32) : FVec Ideal S2x4096x24 .f32 :=
  Host.reduceWindowAdd ![1, 4096, 1] ![1, 1, 1] ![0, 4095, 0] ![0, 0, 0] x (broadcastInDim S_ ![] bcast_S_S_ (constant S_ .f32 0x00000000#32)) reduceWindows_S2x4096x24_S2x4096x24_w1s1p0_0_w4096s1p4095_0_w1s1p0_0 h_S_

/-- The queries, per head. -/
def QH (p : TP) : FVec Ideal S2x24x4096x64 .f32 :=
  transpose S2x24x4096x64 [0, 2, 1, 3] (shapeCast S2x4096x24x64 (extractStridedSlice S2x4096x1536 ![0, 0, 6400] p slices_S2x4096x14616_S2x4096x1536_0_0_6400) shapeCasts_S2x4096x1536_S2x4096x24x64) transposes_S2x4096x24x64_S2x24x4096x64_0_2_1_3

/-- The keys. -/
def KH (p : TP) : FVec Ideal S2x24x4096x64 .f32 :=
  transpose S2x24x4096x64 [0, 2, 1, 3] (shapeCast S2x4096x24x64 (extractStridedSlice S2x4096x1536 ![0, 0, 7936] p slices_S2x4096x14616_S2x4096x1536_0_0_7936) shapeCasts_S2x4096x1536_S2x4096x24x64) transposes_S2x4096x24x64_S2x24x4096x64_0_2_1_3

/-- The values. -/
def VH (p : TP) : FVec Ideal S2x24x4096x64 .f32 :=
  transpose S2x24x4096x64 [0, 2, 1, 3] (shapeCast S2x4096x24x64 (extractStridedSlice S2x4096x1536 ![0, 0, 9472] p slices_S2x4096x14616_S2x4096x1536_0_0_9472) shapeCasts_S2x4096x1536_S2x4096x24x64) transposes_S2x4096x24x64_S2x24x4096x64_0_2_1_3

/-- The scores. -/
def SC (q : FVec Ideal S2x24x4096x64 .f32) (k : FVec Ideal S2x24x4096x64 .f32) (u : FVec Ideal S2x4096x24 .f32) : FVec Ideal S2x24x4096x4096 .f32 :=
  subf (addf (mulf (Host.dotGeneral dot_S2x24x4096x64_S2x24x4096x64_S2x24x4096x4096_3_3_2_2_01_01 none q k) (broadcastInDim S2x24x4096x4096 ![] bcast_S_S2x24x4096x4096 (constant S_ .f32 0x3E000000#32))) (broadcastInDim S2x24x4096x4096 ![0, 1, 2, 3] bcast_S2x24x4096x1_S2x24x4096x4096_0_1_2_3 (broadcastInDim S2x24x4096x1 ![0, 1, 2] bcast_S2x24x4096_S2x24x4096x1_0_1_2 (transpose S2x24x4096 [0, 2, 1] u transposes_S2x4096x24_S2x24x4096_0_2_1)))) (broadcastInDim S2x24x4096x4096 ![0, 1, 2, 3] bcast_S2x24x1x4096_S2x24x4096x4096_0_1_2_3 (broadcastInDim S2x24x1x4096 ![0, 1, 3] bcast_S2x24x4096_S2x24x1x4096_0_1_3 (transpose S2x24x4096 [0, 2, 1] u transposes_S2x4096x24_S2x24x4096_0_2_1)))

/-- The scores, those of later keys at least. -/
def MK (s : FVec Ideal S2x24x4096x4096 .f32) : FVec Ideal S2x24x4096x4096 .f32 :=
  select (broadcastInDim S2x24x4096x4096 ![2, 3] bcast_S4096x4096_S2x24x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S2x24x4096x4096 ![] bcast_S_S2x24x4096x4096 (id (constant S_ .f32 0xFF800000#32)))

/-- The greatest score of each row. -/
def MX (s : FVec Ideal S2x24x4096x4096 .f32) : FVec Ideal S2x24x4096 .f32 :=
  maximumf (broadcastInDim S2x24x4096 ![] bcast_S_S2x24x4096 (constant S_ .f32 0xFF800000#32)) (Host.reduce FloatOps.maximumf s (constant S_ .f32 0xFF800000#32) reducesTo_S2x24x4096x4096_S2x24x4096_d3 h_S_)

/-- The exponentials. -/
def EX (x : FVec Ideal S2x24x4096 .f32) (s : FVec Ideal S2x24x4096x4096 .f32) : FVec Ideal S2x24x4096x4096 .f32 :=
  Host.exp (subf s (broadcastInDim S2x24x4096x4096 ![0, 1, 2, 3] bcast_S2x24x4096x1_S2x24x4096x4096_0_1_2_3 (broadcastInDim S2x24x4096x1 ![0, 1, 2] bcast_S2x24x4096_S2x24x4096x1_0_1_2 x)))

/-- The weights. -/
def SM (e : FVec Ideal S2x24x4096x4096 .f32) : FVec Ideal S2x24x4096x4096 .f32 :=
  Host.divf e (broadcastInDim S2x24x4096x4096 ![0, 1, 2, 3] bcast_S2x24x4096x1_S2x24x4096x4096_0_1_2_3 (broadcastInDim S2x24x4096x1 ![0, 1, 2] bcast_S2x24x4096_S2x24x4096x1_0_1_2 (Host.reduceAdd e (constant S_ .f32 0x00000000#32) reducesTo_S2x24x4096x4096_S2x24x4096_d3 h_S_)))

/-- The means of the values. -/
def YV (a : FVec Ideal S2x24x4096x4096 .f32) (v : FVec Ideal S2x24x4096x64 .f32) : FVec Ideal S2x24x4096x64 .f32 :=
  Host.dotGeneral dot_S2x24x4096x4096_S2x24x4096x64_S2x24x4096x64_3_2_2_3_01_01 none a v

/-- The heads behind the positions. -/
def YH (y : FVec Ideal S2x24x4096x64 .f32) : FVec Ideal S2x4096x24x64 .f32 :=
  transpose S2x4096x24x64 [0, 2, 1, 3] y transposes_S2x24x4096x64_S2x4096x24x64_0_2_1_3

/-- The gates. -/
def SL (p : TP) : FVec Ideal S2x4096x1536 .f32 :=
  mulf (extractStridedSlice S2x4096x1536 ![0, 0, 11032] p slices_S2x4096x14616_S2x4096x1536_0_0_11032) (Host.divf (broadcastInDim S2x4096x1536 ![] bcast_S_S2x4096x1536 (constant S_ .f32 0x3F800000#32)) (addf (broadcastInDim S2x4096x1536 ![] bcast_S_S2x4096x1536 (constant S_ .f32 0x3F800000#32)) (Host.exp (Host.negf (extractStridedSlice S2x4096x1536 ![0, 0, 11032] p slices_S2x4096x14616_S2x4096x1536_0_0_11032)))))

/-- The reference. -/
def OUT (p : TP) (b : TB) : FVec Ideal S2x4096x1536 .bf16 :=
  truncf .bf16 (mulf (shapeCast S2x4096x1536 (YH (YV (SM (EX (MX (MK (SC (QH p) (KH p) (CU (LG (Z p b)))))) (MK (SC (QH p) (KH p) (CU (LG (Z p b))))))) (VH p))) shapeCasts_S2x4096x24x64_S2x4096x1536) (SL p)) bitsLt_bf16_f32

/-- The printed result is the last stage. -/
theorem res_eq (m : (ℓ : Loc nD τ sig) → Buf (Elt Ideal) ℓ) (c : Dev nD) :
    Cert.ReferenceIdeal.Value.res_main_v49 m c = OUT (m ((c.tc : Thread nD τ).loc main_arg0)) (m ((c.tc : Thread nD τ).loc main_arg1)) := rfl

theorem QH_apply (p : TP) (b : Fin 2) (h : Fin 24) (t : Fin 4096) (d : Fin 64) :
    QH p (ix4 b h t d) = p (ix3 b t (⟨6400 + (64 * h.val + d.val), by omega⟩ : Fin 14616)) := by
  pointwise [QH]
  exact congrArg (fun e => p (ix3 b t e)) (Fin.ext (by simp only []; omega))

theorem KH_apply (p : TP) (b : Fin 2) (h : Fin 24) (t : Fin 4096) (d : Fin 64) :
    KH p (ix4 b h t d) = p (ix3 b t (⟨7936 + (64 * h.val + d.val), by omega⟩ : Fin 14616)) := by
  pointwise [KH]
  exact congrArg (fun e => p (ix3 b t e)) (Fin.ext (by simp only []; omega))

theorem VH_apply (p : TP) (b : Fin 2) (h : Fin 24) (t : Fin 4096) (d : Fin 64) :
    VH p (ix4 b h t d) = p (ix3 b t (⟨9472 + (64 * h.val + d.val), by omega⟩ : Fin 14616)) := by
  pointwise [VH]
  exact congrArg (fun e => p (ix3 b t e)) (Fin.ext (by simp only []; omega))

theorem SC_apply (q k : FVec Ideal S2x24x4096x64 .f32) (u : FVec Ideal S2x4096x24 .f32) (b : Fin 2) (h : Fin 24) (t s : Fin 4096) :
    SC q k u (ix4 b h t s) = (∑ d : Fin 64, q (ix4 b h t d) * k (ix4 b h s d)) * Ideal.ofBits .f32 0x3E000000#32 + u (ix3 b t h) - u (ix3 b s h) := by
  pointwise [SC]

theorem SL_apply (p : TP) (b : Fin 2) (t : Fin 4096) (j : Fin 1536) :
    SL p (ix3 b t j) = p (ix3 b t (⟨11032 + j.val, by omega⟩ : Fin 14616)) * Ideal.div 1 (1 + Ideal.exp (-(p (ix3 b t (⟨11032 + j.val, by omega⟩ : Fin 14616))))) := by
  pointwise [SL]

theorem YH_apply (y : FVec Ideal S2x24x4096x64 .f32) (b : Fin 2) (t : Fin 4096) (h : Fin 24) (d : Fin 64) : YH y (ix4 b t h d) = y (ix4 b h t d) := by
  pointwise [YH]

theorem YV_apply (a : FVec Ideal S2x24x4096x4096 .f32) (v : FVec Ideal S2x24x4096x64 .f32) (b : Fin 2) (t : Fin 4096) (h : Fin 24) (d : Fin 64) :
   YV a v (ix4 b h t d) = ∑ s : Fin 4096, a (ix4 b h t s) * v (ix4 b h s d) := by
  pointwise [YV]

theorem LG_apply (z : FVec Ideal S2x4096x24 .f32) (b : Fin 2) (t : Fin 4096) (h : Fin 24) :
    LG z (ix3 b t h) = -(max (z (ix3 b t h)) 0 + Ideal.log (1 + Ideal.exp (-(max (z (ix3 b t h)) (-(z (ix3 b t h))))))) := by
  pointwise [LG]
  rw [if_neg (by simp)]
  rfl

theorem EX_apply (x : FVec Ideal S2x24x4096 .f32) (z : FVec Ideal S2x24x4096x4096 .f32) (b : Fin 2) (h : Fin 24) (t s : Fin 4096) :
    EX x z (ix4 b h t s) = Ideal.exp (z (ix4 b h t s) - x (ix3 b h t)) := by
  pointwise [EX]

theorem SM_apply (z : FVec Ideal S2x24x4096x4096 .f32) (b : Fin 2) (h : Fin 24) (t s : Fin 4096) :
    SM z (ix4 b h t s) = Ideal.div (z (ix4 b h t s)) (∑ s' : Fin 4096, z (ix4 b h t s')) := by
  pointwise [SM]

/-- The greatest score of each row, of no other score than the row's. -/
def MR (s : FVec Ideal S2x24x4096x4096 .f32) : FVec Ideal S2x24x4096 .f32 :=
  Host.reduce FloatOps.maximumf s (constant S_ .f32 0xFF800000#32) reducesTo_S2x24x4096x4096_S2x24x4096_d3 h_S_

theorem mx_at (x y : FVec Ideal S2x24x4096 .f32) (i : S2x24x4096.Idx) : maximumf x y i = max (x i) (y i) := rfl

theorem MX_eq (z : FVec Ideal S2x24x4096x4096 .f32) : MX z = maximumf (broadcastInDim S2x24x4096 ![] bcast_S_S2x24x4096 (constant S_ .f32 0xFF800000#32)) (MR z) := rfl

theorem bc_at (x : BitVec 32) (i : S2x24x4096.Idx) : (broadcastInDim S2x24x4096 ![] bcast_S_S2x24x4096 (constant S_ .f32 x : FVec Ideal S_ .f32) : FVec Ideal S2x24x4096 .f32) i = Ideal.ofBits .f32 x := rfl

theorem MX_max (z : FVec Ideal S2x24x4096x4096 .f32) (b : Fin 2) (h : Fin 24) (t : Fin 4096) :
    MX z (ix3 b h t) = max (Ideal.ofBits .f32 0xFF800000#32) (MR z (ix3 b h t)) := by
  rw [MX_eq, mx_at, bc_at]

theorem MR_apply (z : FVec Ideal S2x24x4096x4096 .f32) (b : Fin 2) (h : Fin 24) (t : Fin 4096) :
    MR z (ix3 b h t) = Finset.fold max (Ideal.ofBits .f32 0xFF800000#32) (fun s : Fin 4096 => z (ix4 b h t s)) Finset.univ := by
  pointwise [MR]

theorem tr_at (z : FVec Ideal S2x4096x1536 .f32) (i : S2x4096x1536.Idx) : (truncf .bf16 z bitsLt_bf16_f32 : FVec Ideal S2x4096x1536 .bf16) i = z i := rfl

theorem mul_at (x y : FVec Ideal S2x4096x1536 .f32) (i : S2x4096x1536.Idx) : mulf x y i = x i * y i := rfl
/-- The means of the values, heads behind the positions. -/
def YY (p : TP) (b : TB) : FVec Ideal S2x4096x24x64 .f32 := YH (YV (SM (EX (MX (MK (SC (QH p) (KH p) (CU (LG (Z p b)))))) (MK (SC (QH p) (KH p) (CU (LG (Z p b))))))) (VH p))

theorem OUT_eq (p : TP) (b : TB) : OUT p b = truncf .bf16 (mulf (shapeCast S2x4096x1536 (YY p b) shapeCasts_S2x4096x24x64_S2x4096x1536 : FVec Ideal S2x4096x1536 .f32) (SL p)) bitsLt_bf16_f32 := rfl

theorem OUT_apply (p : TP) (b : TB) (n : Fin 2) (t : Fin 4096) (h : Fin 24) (d : Fin 64) (j : Fin 1536) (hj : j.val = 64 * h.val + d.val) :
    OUT p b (ix3 n t j) = YY p b (ix4 n t h d) * SL p (ix3 n t j) := by
  rw [OUT_eq, tr_at, mul_at]
  generalize YY p b = y
  congr 1
  refine shapeCast_apply _ _ _ _ ?_
  rw [Shape.rowMajor_val_four, Shape.rowMajor_val_three]
  show ((n.val * 4096 + t.val) * 24 + h.val) * 64 + d.val = (n.val * 4096 + t.val) * 1536 + j.val
  omega

theorem sle_of (a b : ℕ) (ha : a < 2147483648) (hb : b < 2147483648) :
    IntOp.cmpi .sle (BitVec.ofNat 32 a) (BitVec.ofNat 32 b) = BitVec.ofBool (decide (a ≤ b)) := by
  have e : (BitVec.ofNat 32 a).sle (BitVec.ofNat 32 b) = decide (a ≤ b) := by
    rw [BitVec.sle_eq_decide, BitVec.toInt_ofNat', BitVec.toInt_ofNat']
    congr 1
    simp only [Int.bmod]
    apply propext
    constructor <;> intro h <;> split at * <;> omega
  simp only [IntOp.cmpi]
  rw [e]

theorem sel_of (p : Prop) [Decidable p] (x y : EReal) : Scalar.select (BitVec.ofBool (decide p)) x y = if p then x else y := by
  by_cases h : p <;> simp [h, Scalar.select]

theorem neg_inf : Ideal.ofBits FTy.f32 4286578688#32 = ⊥ := by
  simp [Ideal.ofBits, Ideal.ieee]

theorem MK_apply (z : FVec Ideal S2x24x4096x4096 .f32) (b : Fin 2) (h : Fin 24) (t s : Fin 4096) :
    MK z (ix4 b h t s) = if s.val ≤ t.val then z (ix4 b h t s) else ⊥ := by
  have e : MK z (ix4 b h t s) = Scalar.select (IntOp.cmpi CmpIPredicate.sle (BitVec.ofNat 32 s.val) (BitVec.ofNat 32 t.val)) (z (ix4 b h t s))
      (id (constant S_ FTy.f32 4286578688#32 : FVec Ideal S_ .f32) ix0) := by
    pointwise [MK]
  have e1 : (id (constant S_ FTy.f32 4286578688#32 : FVec Ideal S_ .f32) ix0) = ⊥ := by
    rw [← neg_inf]; rfl
  rw [e, sle_of _ _ (by omega) (by omega), sel_of, e1]

theorem MX_apply (z : FVec Ideal S2x24x4096x4096 .f32) (b : Fin 2) (h : Fin 24) (t : Fin 4096) :
    MX z (ix3 b h t) = Finset.fold max ⊥ (fun s : Fin 4096 => z (ix4 b h t s)) Finset.univ := by
  rw [MX_max, MR_apply, neg_inf, max_eq_right bot_le]

/-- The masked scores. -/
def ROW (p : TP) (b : TB) : FVec Ideal S2x24x4096x4096 .f32 := MK (SC (QH p) (KH p) (CU (LG (Z p b))))

theorem YY_apply (p : TP) (b : TB) (n : Fin 2) (t : Fin 4096) (h : Fin 24) (d : Fin 64) :
    YY p b (ix4 n t h d) = ∑ s : Fin 4096, Ideal.div (Ideal.exp (ROW p b (ix4 n h t s) - Finset.fold max ⊥ (fun s : Fin 4096 => ROW p b (ix4 n h t s)) Finset.univ))
        (∑ s' : Fin 4096, Ideal.exp (ROW p b (ix4 n h t s') - Finset.fold max ⊥ (fun s : Fin 4096 => ROW p b (ix4 n h t s)) Finset.univ))
      * p (ix3 n s (⟨9472 + (64 * h.val + d.val), by omega⟩ : Fin 14616)) := by
  have e : YY p b = YH (YV (SM (EX (MX (ROW p b)) (ROW p b))) (VH p)) := rfl
  rw [e, YH_apply, YV_apply]
  refine Finset.sum_congr rfl fun s _ => ?_
  rw [SM_apply, VH_apply]
  simp only [EX_apply, MX_apply]

/-- A score of the reference. -/
theorem ROW_apply (p : TP) (b : TB) (n : Fin 2) (h : Fin 24) (t s : Fin 4096) :
    ROW p b (ix4 n h t s) = if s.val ≤ t.val then
        (∑ d : Fin 64, p (ix3 n t (⟨6400 + (64 * h.val + d.val), by omega⟩ : Fin 14616)) * p (ix3 n s (⟨7936 + (64 * h.val + d.val), by omega⟩ : Fin 14616)))
          * Ideal.ofBits .f32 0x3E000000#32 + CU (LG (Z p b)) (ix3 n t h) - CU (LG (Z p b)) (ix3 n s h)
      else ⊥ := by
  unfold ROW
  rw [MK_apply, SC_apply]
  simp only [QH_apply, KH_apply]

end Cert.ReferenceIdeal.Fox
-- ==== Proof.FoxBlk.lean ====
/- What the forgetting attention finds at a grid point. -/
module

public import proofs.«01_k».proof.Defs
public import proofs.«01_k».proof.Proof.FoxEnt
public import proofs.«01_k».proof.Proof.FoxV
public import proofs.«01_k».proof.Proof.FoxPre
public import proofs.«01_k».proof.Proof.FoxOut
public import proofs.«01_k».proof.Proof.FoxRef
public import Idealize.ShloMosaic.Lib.Pipeline.ValueKit

public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.KernelIdeal.Fox

open Cert.KernelIdeal Cert.KernelIdeal.Gen
variable (m : (ℓ : Loc nD τ sig) → Buf (Elt Ideal) ℓ)

theorem idx : ∀ t : Fin cfg0.N, win0_0.index t = ![t.val / 24, t.val % 8, t.val / 8 % 3] ∧ win0_1.index t = ![t.val / 24, 0, t.val / 8 % 3] ∧ win0_2.index t = ![t.val / 24, 0, t.val / 8 % 3]
    ∧ win0_3.index t = ![t.val / 8 % 3, t.val / 24] ∧ win0_4.index t = ![t.val / 24, t.val % 8, 14 + t.val / 8 % 3] ∧ win0_5.index t = ![t.val / 24, t.val % 8, t.val / 8 % 3]
    ∧ ((grid0.coords t) 2).val = t.val % 8 ∧ t.val / 24 < 2 :=
  (by decide +kernel : ∀ t : Fin grid0.N, _)

theorem blk_q (c : Dev nD) (t : Fin cfg0.N) (r : Fin 512) (l : Fin 512) (n : Fin 2) (hn : n.val = t.val / 24) (s : Fin 4096) (hs : s.val = t.val % 8 * 512 + r.val) (j : Fin 4096) (hj : j.val = t.val / 8 % 3 * 512 + l.val) :
    (iblk m c 0 t : Vec Ideal S1x512x512 .bf16) (ix3 (0 : Fin 1) r l) = AQ (aP m c) (ix3 n s j) := by
  obtain ⟨e0, -⟩ := idx t
  unfold iblk
  show V m c main_v54 _ = _
  rw [Vq]
  generalize AQ (aP m c) = X
  blk_ext [e0, hn, hs, hj]

theorem blk_v (c : Dev nD) (t : Fin cfg0.N) (r : Fin 640) (l : Fin 4096) (i : Fin 1920) (hi : i.val = t.val / 8 % 3 * 640 + r.val) (j : Fin 8192) (hj : j.val = t.val / 24 * 4096 + l.val) :
    (iblk m c 3 t : Vec Ideal S640x4096 .bf16) (ix2 r l) = AV (aP m c) (ix2 i j) := by
  obtain ⟨-, -, -, e0, -⟩ := idx t
  unfold iblk
  show V m c main_v62 _ = _
  rw [Vv]
  generalize AV (aP m c) = X
  blk_ext [e0, hi, hj]

theorem blk_g (c : Dev nD) (t : Fin cfg0.N) (r : Fin 512) (l : Fin 512) (n : Fin 2) (hn : n.val = t.val / 24) (s : Fin 4096) (hs : s.val = t.val % 8 * 512 + r.val) (j : Fin 9216) (hj : j.val = (14 + t.val / 8 % 3) * 512 + l.val) :
    (iblk m c 4 t : Vec Ideal S1x512x512 .f32) (ix3 (0 : Fin 1) r l) = AG (aP m c) (ix3 n s j) := by
  obtain ⟨-, -, -, -, e0, -⟩ := idx t
  unfold iblk
  show V m c main_v69 _ = _
  rw [Vg]
  generalize AG (aP m c) = X
  blk_ext [e0, hn, hs, hj]

/-- The keys' arrays. -/
def K0 (p : TP) (b : TB) : FVec Ideal S2x4096x1536 .bf16 := PR (EV (KK p)) (EV (BIAS (CC (CUM (LF (NF p b))))))
def K1 (p : TP) (b : TB) : FVec Ideal S2x4096x1536 .bf16 := PR (OD (BIAS (CC (CUM (LF (NF p b)))))) (OD (KK p))
theorem Vk0' (c : Dev nD) : (V m c main_v43 : FVec Ideal S2x4096x1536 .bf16) = K0 (aP m c) (aB m c) := by
  unfold K0
  exact Vk0 m c
theorem Vk1' (c : Dev nD) : (V m c main_v50 : FVec Ideal S2x4096x1536 .bf16) = K1 (aP m c) (aB m c) := by
  unfold K1
  exact Vk1 m c

theorem blk_k0 (c : Dev nD) (t : Fin cfg0.N) (r : Fin 4096) (l : Fin 512) (n : Fin 2) (hn : n.val = t.val / 24) (j : Fin 1536) (hj : j.val = t.val / 8 % 3 * 512 + l.val) :
    (iblk m c 1 t : Vec Ideal S1x4096x512 .bf16) (ix3 (0 : Fin 1) r l) = K0 (aP m c) (aB m c) (ix3 n r j) := by
  obtain ⟨-, e0, -⟩ := idx t
  have he : ((cfg0.win 1).blk t).view.emb (ix3 (0 : Fin 1) r l) = ix3 n r j := by
    blk_ext [e0, hn, hj]
  have gen : ∀ VV : (b : Ref sig .tc) → Buf (Elt Ideal) ((c : Thread nD τ).loc b),
      (((cfg0.win 1).blk t).view.read (Elt Ideal) (VV (Pipeline.arrRef spec0 1)) : Vec Ideal S1x4096x512 .bf16) (ix3 (0 : Fin 1) r l) = (VV main_v43 : FVec Ideal S2x4096x1536 .bf16) (ix3 n r j) :=
    fun VV => congrArg (VV main_v43 : FVec Ideal S2x4096x1536 .bf16) he
  rw [← Vk0']
  exact gen (V m c)
theorem blk_k1 (c : Dev nD) (t : Fin cfg0.N) (r : Fin 4096) (l : Fin 512) (n : Fin 2) (hn : n.val = t.val / 24) (j : Fin 1536) (hj : j.val = t.val / 8 % 3 * 512 + l.val) :
    (iblk m c 2 t : Vec Ideal S1x4096x512 .bf16) (ix3 (0 : Fin 1) r l) = K1 (aP m c) (aB m c) (ix3 n r j) := by
  obtain ⟨-, -, e0, -⟩ := idx t
  have he : ((cfg0.win 2).blk t).view.emb (ix3 (0 : Fin 1) r l) = ix3 n r j := by
    blk_ext [e0, hn, hj]
  have gen : ∀ VV : (b : Ref sig .tc) → Buf (Elt Ideal) ((c : Thread nD τ).loc b),
      (((cfg0.win 2).blk t).view.read (Elt Ideal) (VV (Pipeline.arrRef spec0 2)) : Vec Ideal S1x4096x512 .bf16) (ix3 (0 : Fin 1) r l) = (VV main_v50 : FVec Ideal S2x4096x1536 .bf16) (ix3 n r j) :=
    fun VV => congrArg (VV main_v50 : FVec Ideal S2x4096x1536 .bf16) he
  rw [← Vk1']
  exact gen (V m c)

theorem K0_key (p : TP) (b : TB) (n : Fin 2) (s : Fin 4096) (q : Fin 12) (d : Fin 64) (j : Fin 1536) (hj : j.val = 128 * q.val + d.val) (e : Fin 14616) (he : e.val = 7936 + 128 * q.val + d.val) :
    K0 p b (ix3 n s j) = p (ix3 n s e) := by
  unfold K0
  rw [PR_left _ _ n s q d j hj, EV_apply, KK_apply]
  exact congrArg (fun e => p (ix3 n s e)) (Fin.ext (by simp only [Fin.val_zero]; omega))

theorem K0_bias (p : TP) (b : TB) (n : Fin 2) (s : Fin 4096) (q : Fin 12) (d : Fin 64) (j : Fin 1536) (hj : j.val = 128 * q.val + 64 + d.val) (h : Fin 24) (hh : h.val = 2 * q.val)
    (r : ℝ) (hr : CUM (LF (NF p b)) (ix3 n s h) = r) : K0 p b (ix3 n s j) = if d.val = 0 then ((r / Real.log 2 : ℝ) : EReal) else 0 := by
  unfold K0
  rw [PR_right _ _ n s q d j hj, EV_apply]
  refine BIAS_apply _ n s q 0 d _ ?_
  rw [← CC_apply _ n s h r hr]
  exact congrArg (fun e => CC (CUM (LF (NF p b))) (ix3 n s e)) (Fin.ext (by simp only [Fin.val_zero]; omega))

theorem K1_key (p : TP) (b : TB) (n : Fin 2) (s : Fin 4096) (q : Fin 12) (d : Fin 64) (j : Fin 1536) (hj : j.val = 128 * q.val + 64 + d.val) (e : Fin 14616) (he : e.val = 7936 + 128 * q.val + 64 + d.val) :
    K1 p b (ix3 n s j) = p (ix3 n s e) := by
  unfold K1
  rw [PR_right _ _ n s q d j hj, OD_apply, KK_apply]
  exact congrArg (fun e => p (ix3 n s e)) (Fin.ext (by simp only [Fin.val_one]; omega))

theorem K1_bias (p : TP) (b : TB) (n : Fin 2) (s : Fin 4096) (q : Fin 12) (d : Fin 64) (j : Fin 1536) (hj : j.val = 128 * q.val + d.val) (h : Fin 24) (hh : h.val = 2 * q.val + 1)
    (r : ℝ) (hr : CUM (LF (NF p b)) (ix3 n s h) = r) : K1 p b (ix3 n s j) = if d.val = 0 then ((r / Real.log 2 : ℝ) : EReal) else 0 := by
  unfold K1
  rw [PR_left _ _ n s q d j hj, OD_apply]
  refine BIAS_apply _ n s q 1 d _ ?_
  rw [← CC_apply _ n s h r hr]
  exact congrArg (fun e => CC (CUM (LF (NF p b))) (ix3 n s e)) (Fin.ext (by simp only [Fin.val_one]; omega))

section
variable (c : Dev nD) (t : Fin cfg0.N) (ci : Fin 8) (n : Fin 2) (hn : n.val = t.val / 24) (H : Fin 24) (hH : H.val = 8 * (t.val / 8 % 3) + ci.val)
include hn hH

theorem q_at (r : Fin 512) (s : Fin 4096) (hs : s.val = t.val % 8 * 512 + r.val) (d : Fin 64) (l : Fin 512) (hl : l.val = 64 * ci.val + d.val) :
    (iblk m c 0 t : Vec Ideal S1x512x512 .bf16) (ix3 (0 : Fin 1) r l) = aP m c (ix3 n s (⟨6400 + (64 * H.val + d.val), by omega⟩ : Fin 14616)) := by
  rw [blk_q m c t r l n hn s hs (⟨64 * H.val + d.val, by omega⟩ : Fin 4096) (by simp only []; omega)]
  exact AQ_apply (aP m c) n s (⟨64 * H.val + d.val, by omega⟩ : Fin 1536)

theorem g_at (r : Fin 512) (s : Fin 4096) (hs : s.val = t.val % 8 * 512 + r.val) (d : Fin 64) (l : Fin 512) (hl : l.val = 64 * ci.val + d.val) :
    (iblk m c 4 t : Vec Ideal S1x512x512 .f32) (ix3 (0 : Fin 1) r l) = aP m c (ix3 n s (⟨11032 + (64 * H.val + d.val), by omega⟩ : Fin 14616)) := by
  rw [blk_g m c t r l n hn s hs (⟨7168 + (64 * H.val + d.val), by omega⟩ : Fin 9216) (by simp only []; omega)]
  exact AG_apply (aP m c) n s (⟨64 * H.val + d.val, by omega⟩ : Fin 1536)

theorem v_at (s : Fin 4096) (d : Fin 64) (i : Fin 640) (hi : i.val = 80 * ci.val + d.val) :
    (iblk m c 3 t : Vec Ideal S640x4096 .bf16) (ix2 i s) = aP m c (ix3 n s (⟨9472 + (64 * H.val + d.val), by omega⟩ : Fin 14616)) := by
  rw [blk_v m c t i s (⟨80 * H.val + d.val, by omega⟩ : Fin 1920) (by simp only []; omega) (⟨4096 * n.val + s.val, by omega⟩ : Fin 8192) (by simp only []; omega)]
  rw [AV_apply]
  exact congrArg (fun e => aP m c (ix3 n s e)) (Fin.ext (by simp only []; omega))

theorem v_one (s : Fin 4096) (i : Fin 640) (hi : i.val = 80 * ci.val + 64) :
    (iblk m c 3 t : Vec Ideal S640x4096 .bf16) (ix2 i s) = (1 : EReal) := by
  rw [blk_v m c t i s (⟨80 * H.val + 64, by omega⟩ : Fin 1920) (by simp only []; omega) (⟨4096 * n.val + s.val, by omega⟩ : Fin 8192) (by simp only []; omega)]
  exact AV_one (aP m c) H _

theorem k0_at (hc : ci.val % 2 = 0) (s : Fin 4096) (d : Fin 64) (l : Fin 512) (hl : l.val = 64 * ci.val + d.val) :
    (iblk m c 1 t : Vec Ideal S1x4096x512 .bf16) (ix3 (0 : Fin 1) s l) = aP m c (ix3 n s (⟨7936 + (64 * H.val + d.val), by omega⟩ : Fin 14616)) := by
  rw [blk_k0 m c t s l n hn (⟨64 * H.val + d.val, by omega⟩ : Fin 1536) (by simp only []; omega)]
  exact K0_key _ _ n s (⟨H.val / 2, by omega⟩ : Fin 12) d _ (by simp only []; omega) _ (by simp only []; omega)

theorem u0_at (hc : ci.val % 2 = 0) (s : Fin 4096) (r : ℝ) (hr : CUM (LF (NF (aP m c) (aB m c))) (ix3 n s H) = r) (d : Fin 64) (l : Fin 512) (hl : l.val = 64 * ci.val + 64 + d.val) :
    (iblk m c 1 t : Vec Ideal S1x4096x512 .bf16) (ix3 (0 : Fin 1) s l) = if d.val = 0 then ((r / Real.log 2 : ℝ) : EReal) else 0 := by
  rw [blk_k0 m c t s l n hn (⟨64 * H.val + 64 + d.val, by omega⟩ : Fin 1536) (by simp only []; omega)]
  exact K0_bias _ _ n s (⟨H.val / 2, by omega⟩ : Fin 12) d _ (by simp only []; omega) H (by simp only []; omega) r hr

theorem k1_at (hc : ci.val % 2 = 1) (s : Fin 4096) (d : Fin 64) (l : Fin 512) (hl : l.val = 64 * ci.val + d.val) :
    (iblk m c 2 t : Vec Ideal S1x4096x512 .bf16) (ix3 (0 : Fin 1) s l) = aP m c (ix3 n s (⟨7936 + (64 * H.val + d.val), by omega⟩ : Fin 14616)) := by
  rw [blk_k1 m c t s l n hn (⟨64 * H.val + d.val, by omega⟩ : Fin 1536) (by simp only []; omega)]
  exact K1_key _ _ n s (⟨H.val / 2, by omega⟩ : Fin 12) d _ (by simp only []; omega) _ (by simp only []; omega)

theorem u1_at (hc : ci.val % 2 = 1) (s : Fin 4096) (r : ℝ) (hr : CUM (LF (NF (aP m c) (aB m c))) (ix3 n s H) = r) (d : Fin 64) (l : Fin 512) (hl : l.val + 64 = 64 * ci.val + d.val) :
    (iblk m c 2 t : Vec Ideal S1x4096x512 .bf16) (ix3 (0 : Fin 1) s l) = if d.val = 0 then ((r / Real.log 2 : ℝ) : EReal) else 0 := by
  rw [blk_k1 m c t s l n hn (⟨64 * H.val + d.val - 64, by omega⟩ : Fin 1536) (by simp only []; omega)]
  exact K1_bias _ _ n s (⟨H.val / 2, by omega⟩ : Fin 12) d _ (by simp only []; omega) H (by simp only []; omega) r hr

end

theorem Z_eq (p : TP) (b : TB) : Cert.ReferenceIdeal.Fox.Z p b = NF p b := rfl
theorem CU_eq (x : FVec Ideal S2x4096x24 .f32) : Cert.ReferenceIdeal.Fox.CU x = CUM x := rfl
theorem LG_eq (z : FVec Ideal S2x4096x24 .f32) : Cert.ReferenceIdeal.Fox.LG z = LF z := by
  funext i
  idx_vars i
  rw [LF_apply]
  exact Cert.ReferenceIdeal.Fox.LG_apply z i0 i1 i2

theorem eighth : Ideal.ofBits FTy.f32 0x3E000000#32 = ((1 / 8 : ℝ) : EReal) := by
  have h : ((8388608 : ℝ) : EReal) * (((2 ^ 26 : ℝ)⁻¹ : ℝ) : EReal) = ((1 / 8 : ℝ) : EReal) := by
    rw [← EReal.coe_mul]; congr 1; norm_num
  have h' : ((8388608 : ℝ) : EReal) * (((2 ^ 26 : ℝ)⁻¹ : ℝ) : EReal) = ((8 : ℝ)⁻¹ : ℝ) := by
    rw [h]; norm_num
  simpa [Ideal.ofBits, Ideal.ieee] using h'

/-- A score of the reference, of real queries, keys and running sums. -/
theorem score_real (q k : Fin 64 → ℝ) (τ c : ℝ) :
    (∑ d : Fin 64, (q d : EReal) * (k d : EReal)) * ((1 / 8 : ℝ) : EReal) + (τ : EReal) - (c : EReal)
      = ((Real.log 2 * (scl * ∑ d, k d * q d - c / Real.log 2) + τ : ℝ) : EReal) := by
  have h2 : Real.log 2 ≠ 0 := (Real.log_pos (by norm_num)).ne'
  have e : ∑ d : Fin 64, (q d : EReal) * (k d : EReal) = ((∑ d, k d * q d : ℝ) : EReal) := by
    rw [← Cert.Fox.coe_sum]
    refine Finset.sum_congr rfl fun d _ => ?_
    rw [← EReal.coe_mul]; congr 1; ring
  rw [e, ← EReal.coe_mul, ← EReal.coe_add, ← EReal.coe_sub]
  congr 1
  unfold scl
  field_simp
  ring

/-- The real queries, keys and running sums of a head, and the reference's scores over them. -/
theorem data (p : TP) (b : TB) (hp : Cert.Pre_fox_finite.fn (F := Ideal) p b = (fun _ => 1#1)) (n : Fin 2) (H : Fin 24) (s : Fin 4096) :
    ∃ (q : Fin 64 → ℝ) (k : Fin 4096 → Fin 64 → ℝ) (w : Fin 4096 → ℝ),
      (∀ d : Fin 64, p (ix3 n s (⟨6400 + (64 * H.val + d.val), by omega⟩ : Fin 14616)) = (q d : EReal))
      ∧ (∀ s', ∀ d : Fin 64, p (ix3 n s' (⟨7936 + (64 * H.val + d.val), by omega⟩ : Fin 14616)) = (k s' d : EReal))
      ∧ (∀ s', CUM (LF (NF p b)) (ix3 n s' H) = (w s' : EReal))
      ∧ ∀ s' : Fin 4096, Cert.ReferenceIdeal.Fox.ROW p b (ix4 n H s s') = if s'.val ≤ s.val then ((Real.log 2 * (scl * ∑ d, k s' d * q d - w s' / Real.log 2) + w s : ℝ) : EReal) else ⊥ := by
  obtain ⟨P1, P2, P3⟩ := pre_parts p b hp
  have hN : ∀ n t h, ∃ r : ℝ, NF p b (ix3 n t h) = r := fun n t h => by
    obtain ⟨x, hx⟩ := P2 n t h
    obtain ⟨y, hy⟩ := P3 h
    rw [NF_apply, hx, hy, ← EReal.coe_add, ← EReal.coe_neg]
    exact ⟨_, rfl⟩
  have hC := CUM_real _ (LF_real _ hN)
  choose f hf using P1
  choose g hg using hC
  have h1 : ∀ d : Fin 64, p (ix3 n s (⟨6400 + (64 * H.val + d.val), by omega⟩ : Fin 14616)) = (f n s (⟨64 * H.val + d.val, by omega⟩ : Fin 3072) : EReal) := fun d => hf n s (⟨64 * H.val + d.val, by omega⟩ : Fin 3072)
  have h2 : ∀ s', ∀ d : Fin 64, p (ix3 n s' (⟨7936 + (64 * H.val + d.val), by omega⟩ : Fin 14616)) = (f n s' (⟨1536 + (64 * H.val + d.val), by omega⟩ : Fin 3072) : EReal) := fun s' d => by
    rw [← hf n s' _]
    exact congrArg (fun e => p (ix3 n s' e)) (Fin.ext (by simp only []; omega))
  refine ⟨_, _, fun s' => g (ix3 n s' H), h1, h2, fun s' => hg _, fun s' => ?_⟩
  have e := Cert.ReferenceIdeal.Fox.ROW_apply p b n H s s'
  rw [Z_eq, LG_eq, CU_eq, eighth] at e
  rw [e]
  by_cases hle : s'.val ≤ s.val
  · rw [if_pos hle, if_pos hle, ← score_real]
    simp only [h1, h2, hg]
  · rw [if_neg hle, if_neg hle]

end Cert.KernelIdeal.Fox
-- ==== Proof.FoxFinal.lean ====
/- The forgetting attention: what its grid points store is the reference. -/
module

public import proofs.«01_k».proof.Defs
public import proofs.«01_k».proof.Proof.FoxBlk
public import proofs.«01_k».proof.Proof.FoxEnt
public import proofs.«01_k».proof.Proof.FoxV
public import proofs.«01_k».proof.Proof.FoxPre
public import proofs.«01_k».proof.Proof.FoxOut
public import proofs.«01_k».proof.Proof.FoxRef
public import Idealize.ShloMosaic.Lib.Pipeline.ValueKit

public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.KernelIdeal.Fox

open Cert.KernelIdeal Cert.KernelIdeal.Gen
/-- A head's row times its gate is the reference's result. -/
theorem fin_eq (p : TP) (b : TB) (n : Fin 2) (s : Fin 4096) (H : Fin 24) (d : Fin 64) (j : Fin 1536) (hj : j.val = 64 * H.val + d.val) (x g : EReal)
    (hy : x = Cert.ReferenceIdeal.Fox.YY p b (ix4 n s H d)) (hg : g = p (ix3 n s (⟨11032 + (64 * H.val + d.val), by omega⟩ : Fin 14616))) :
    x * (g * Ideal.div 1 (1 + Ideal.exp (0 - g))) = Cert.ReferenceIdeal.Fox.OUT p b (ix3 n s j) := by
  have ej : p (ix3 n s (⟨11032 + j.val, by omega⟩ : Fin 14616)) = g := by
    rw [hg]
    exact congrArg (fun e => p (ix3 n s e)) (Fin.ext (by simp only []; omega))
  rw [Cert.ReferenceIdeal.Fox.OUT_apply p b n s H d j hj, Cert.ReferenceIdeal.Fox.SL_apply, hy, ej, zero_sub]

variable (m : (ℓ : Loc nD τ sig) → Buf (Elt Ideal) ℓ)

section
variable (c : Dev nD) (t : Fin cfg0.N) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S640x4096 .bf16) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S8x1x512 .f32) (harg9 : arg9.IsWhole) (arg10 : Memref sig .tc .vmem S8x80x512 .f32) (harg10 : arg10.IsWhole)

variable (hp : Cert.Pre_fox_finite.fn (F := Ideal) (aP m c) (aB m c) = (fun _ => 1#1)) (r : Fin 512) (n : Fin 2) (hn : n.val = t.val / 24) (s : Fin 4096) (hs : s.val = t.val % 8 * 512 + r.val)
include hp hn hs

/-- Head 0 of the eight of a grid point. -/
theorem head_0 (H : Fin 24) (hH : H.val = 8 * (t.val / 8 % 3) + (0 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (0 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (0 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_0 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (0 : Fin 8) n hn H hH r s hs d _ (by show 0 + d.val = 64 * 0 + d.val; omega)).trans (h1 d))
    (fun s' d => (k0_at m c t (0 : Fin 8) n hn H hH rfl s' d _ (by show 0 + d.val = 64 * 0 + d.val; omega)).trans (h2 s' d))
    (fun s' d => u0_at m c t (0 : Fin 8) n hn H hH rfl s' (w s') (h3 s') d _ (by show 64 + d.val = 64 * 0 + 64 + d.val; omega))
    (fun s' => v_one m c t (0 : Fin 8) n hn H hH s' _ rfl)
    d _ (fun s' => v_at m c t (0 : Fin 8) n hn H hH s' d _ (by show 0 + d.val = 80 * 0 + d.val; omega))
    (w s) (fun s' => Cert.ReferenceIdeal.Fox.ROW (aP m c) (aB m c) (ix4 n H s s')) (fun s' => ?_) _ rfl
  exact (h4 s').trans (if_congr (by omega) rfl rfl)

/-- Head 1 of the eight of a grid point. -/
theorem head_1 (H : Fin 24) (hH : H.val = 8 * (t.val / 8 % 3) + (1 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (1 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (1 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_1 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (1 : Fin 8) n hn H hH r s hs d _ (by show 64 + d.val = 64 * 1 + d.val; omega)).trans (h1 d))
    (fun s' d => (k1_at m c t (1 : Fin 8) n hn H hH rfl s' d _ (by show 64 + d.val = 64 * 1 + d.val; omega)).trans (h2 s' d))
    (fun s' d => u1_at m c t (1 : Fin 8) n hn H hH rfl s' (w s') (h3 s') d _ (by show 0 + d.val + 64 = 64 * 1 + d.val; omega))
    (fun s' => v_one m c t (1 : Fin 8) n hn H hH s' _ rfl)
    d _ (fun s' => v_at m c t (1 : Fin 8) n hn H hH s' d _ (by show 80 + d.val = 80 * 1 + d.val; omega))
    (w s) (fun s' => Cert.ReferenceIdeal.Fox.ROW (aP m c) (aB m c) (ix4 n H s s')) (fun s' => ?_) _ rfl
  exact (h4 s').trans (if_congr (by omega) rfl rfl)

/-- Head 2 of the eight of a grid point. -/
theorem head_2 (H : Fin 24) (hH : H.val = 8 * (t.val / 8 % 3) + (2 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (2 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (2 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_2 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (2 : Fin 8) n hn H hH r s hs d _ (by show 128 + d.val = 64 * 2 + d.val; omega)).trans (h1 d))
    (fun s' d => (k0_at m c t (2 : Fin 8) n hn H hH rfl s' d _ (by show 128 + d.val = 64 * 2 + d.val; omega)).trans (h2 s' d))
    (fun s' d => u0_at m c t (2 : Fin 8) n hn H hH rfl s' (w s') (h3 s') d _ (by show 192 + d.val = 64 * 2 + 64 + d.val; omega))
    (fun s' => v_one m c t (2 : Fin 8) n hn H hH s' _ rfl)
    d _ (fun s' => v_at m c t (2 : Fin 8) n hn H hH s' d _ (by show 160 + d.val = 80 * 2 + d.val; omega))
    (w s) (fun s' => Cert.ReferenceIdeal.Fox.ROW (aP m c) (aB m c) (ix4 n H s s')) (fun s' => ?_) _ rfl
  exact (h4 s').trans (if_congr (by omega) rfl rfl)

/-- Head 3 of the eight of a grid point. -/
theorem head_3 (H : Fin 24) (hH : H.val = 8 * (t.val / 8 % 3) + (3 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (3 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (3 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_3 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (3 : Fin 8) n hn H hH r s hs d _ (by show 192 + d.val = 64 * 3 + d.val; omega)).trans (h1 d))
    (fun s' d => (k1_at m c t (3 : Fin 8) n hn H hH rfl s' d _ (by show 192 + d.val = 64 * 3 + d.val; omega)).trans (h2 s' d))
    (fun s' d => u1_at m c t (3 : Fin 8) n hn H hH rfl s' (w s') (h3 s') d _ (by show 128 + d.val + 64 = 64 * 3 + d.val; omega))
    (fun s' => v_one m c t (3 : Fin 8) n hn H hH s' _ rfl)
    d _ (fun s' => v_at m c t (3 : Fin 8) n hn H hH s' d _ (by show 240 + d.val = 80 * 3 + d.val; omega))
    (w s) (fun s' => Cert.ReferenceIdeal.Fox.ROW (aP m c) (aB m c) (ix4 n H s s')) (fun s' => ?_) _ rfl
  exact (h4 s').trans (if_congr (by omega) rfl rfl)

/-- Head 4 of the eight of a grid point. -/
theorem head_4 (H : Fin 24) (hH : H.val = 8 * (t.val / 8 % 3) + (4 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (4 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (4 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_4 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (4 : Fin 8) n hn H hH r s hs d _ (by show 256 + d.val = 64 * 4 + d.val; omega)).trans (h1 d))
    (fun s' d => (k0_at m c t (4 : Fin 8) n hn H hH rfl s' d _ (by show 256 + d.val = 64 * 4 + d.val; omega)).trans (h2 s' d))
    (fun s' d => u0_at m c t (4 : Fin 8) n hn H hH rfl s' (w s') (h3 s') d _ (by show 320 + d.val = 64 * 4 + 64 + d.val; omega))
    (fun s' => v_one m c t (4 : Fin 8) n hn H hH s' _ rfl)
    d _ (fun s' => v_at m c t (4 : Fin 8) n hn H hH s' d _ (by show 320 + d.val = 80 * 4 + d.val; omega))
    (w s) (fun s' => Cert.ReferenceIdeal.Fox.ROW (aP m c) (aB m c) (ix4 n H s s')) (fun s' => ?_) _ rfl
  exact (h4 s').trans (if_congr (by omega) rfl rfl)

/-- Head 5 of the eight of a grid point. -/
theorem head_5 (H : Fin 24) (hH : H.val = 8 * (t.val / 8 % 3) + (5 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (5 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (5 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_5 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (5 : Fin 8) n hn H hH r s hs d _ (by show 320 + d.val = 64 * 5 + d.val; omega)).trans (h1 d))
    (fun s' d => (k1_at m c t (5 : Fin 8) n hn H hH rfl s' d _ (by show 320 + d.val = 64 * 5 + d.val; omega)).trans (h2 s' d))
    (fun s' d => u1_at m c t (5 : Fin 8) n hn H hH rfl s' (w s') (h3 s') d _ (by show 256 + d.val + 64 = 64 * 5 + d.val; omega))
    (fun s' => v_one m c t (5 : Fin 8) n hn H hH s' _ rfl)
    d _ (fun s' => v_at m c t (5 : Fin 8) n hn H hH s' d _ (by show 400 + d.val = 80 * 5 + d.val; omega))
    (w s) (fun s' => Cert.ReferenceIdeal.Fox.ROW (aP m c) (aB m c) (ix4 n H s s')) (fun s' => ?_) _ rfl
  exact (h4 s').trans (if_congr (by omega) rfl rfl)

/-- Head 6 of the eight of a grid point. -/
theorem head_6 (H : Fin 24) (hH : H.val = 8 * (t.val / 8 % 3) + (6 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (6 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (6 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_6 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (6 : Fin 8) n hn H hH r s hs d _ (by show 384 + d.val = 64 * 6 + d.val; omega)).trans (h1 d))
    (fun s' d => (k0_at m c t (6 : Fin 8) n hn H hH rfl s' d _ (by show 384 + d.val = 64 * 6 + d.val; omega)).trans (h2 s' d))
    (fun s' d => u0_at m c t (6 : Fin 8) n hn H hH rfl s' (w s') (h3 s') d _ (by show 448 + d.val = 64 * 6 + 64 + d.val; omega))
    (fun s' => v_one m c t (6 : Fin 8) n hn H hH s' _ rfl)
    d _ (fun s' => v_at m c t (6 : Fin 8) n hn H hH s' d _ (by show 480 + d.val = 80 * 6 + d.val; omega))
    (w s) (fun s' => Cert.ReferenceIdeal.Fox.ROW (aP m c) (aB m c) (ix4 n H s s')) (fun s' => ?_) _ rfl
  exact (h4 s').trans (if_congr (by omega) rfl rfl)

/-- Head 7 of the eight of a grid point. -/
theorem head_7 (H : Fin 24) (hH : H.val = 8 * (t.val / 8 % 3) + (7 : Fin 8).val) (d : Fin 64) :
    View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (7 : Fin 8) (⟨d.val, by omega⟩ : Fin 80) r) * Ideal.div 1 (View.canon (kernelRun0_A.sl.HS1_16 c (grid0.coords t) arg3 harg3 arg4 harg4 arg5 harg5 arg6 harg6 arg7 harg7 arg8 harg8 arg9 harg9 arg10 harg10 (iblk m c 0 t) (iblk m c 1 t) (iblk m c 2 t) (iblk m c 3 t)) (ix3 (7 : Fin 8) (64 : Fin 80) r))
      = Cert.ReferenceIdeal.Fox.YY (aP m c) (aB m c) (ix4 n s H d) := by
  obtain ⟨q, k, w, h1, h2, h3, h4⟩ := data (aP m c) (aB m c) hp n H s
  obtain ⟨-, -, -, -, -, -, hi, -⟩ := idx t
  rw [Cert.ReferenceIdeal.Fox.YY_apply]
  refine acc_7 c t arg3 harg3 arg4 harg4 arg5 harg5 arg6 harg6 arg7 harg7 arg8 harg8 arg9 harg9 arg10 harg10 (iblk m c 0 t) (iblk m c 1 t) (iblk m c 2 t) (iblk m c 3 t) r q k (fun s' => w s' / Real.log 2)
    (fun d => (q_at m c t (7 : Fin 8) n hn H hH r s hs d _ (by show 448 + d.val = 64 * 7 + d.val; omega)).trans (h1 d))
    (fun s' d => (k1_at m c t (7 : Fin 8) n hn H hH rfl s' d _ (by show 448 + d.val = 64 * 7 + d.val; omega)).trans (h2 s' d))
    (fun s' d => u1_at m c t (7 : Fin 8) n hn H hH rfl s' (w s') (h3 s') d _ (by show 384 + d.val + 64 = 64 * 7 + d.val; omega))
    (fun s' => v_one m c t (7 : Fin 8) n hn H hH s' _ rfl)
    d _ (fun s' => v_at m c t (7 : Fin 8) n hn H hH s' d _ (by show 560 + d.val = 80 * 7 + d.val; omega))
    (w s) (fun s' => Cert.ReferenceIdeal.Fox.ROW (aP m c) (aB m c) (ix4 n H s s')) (fun s' => ?_) _ rfl
  exact (h4 s').trans (if_congr (by omega) rfl rfl)

/-- What is stored for heads 0 and 1 of a grid point is the reference's. -/
theorem pt_0 (l : Fin 128) (col : Fin 512) (hx : 0 + l.val = col.val) (j : Fin 1536) (hj : j.val = t.val / 8 % 3 * 512 + col.val) :
    View.canon (kernelRun0_A c (grid0.coords t) arg3 harg3 arg4 harg4 arg5 harg5 arg6 harg6 arg7 harg7 arg8 harg8 arg9 harg9 arg10 harg10 (iblk m c 0 t) (iblk m c 1 t) (iblk m c 2 t) (iblk m c 3 t) (iblk m c 4 t)).1 (ix3 (0 : Fin 1) r col)
      = Cert.ReferenceIdeal.Fox.OUT (aP m c) (aB m c) (ix3 n s j) := by
  have e := out_at_0 c t arg3 harg3 arg4 harg4 arg5 harg5 arg6 harg6 arg7 harg7 arg8 harg8 arg9 harg9 arg10 harg10 (iblk m c 0 t) (iblk m c 1 t) (iblk m c 2 t) (iblk m c 3 t) (iblk m c 4 t) r l col hx
  refine e.trans ?_
  by_cases h : l.val < 64
  · have hb : 8 * (t.val / 8 % 3) + 0 < 24 := by omega
    have g := g_at m c t (0 : Fin 8) n hn ⟨8 * (t.val / 8 % 3) + 0, hb⟩ rfl r s hs ⟨l.val, h⟩ col (by show col.val = 64 * 0 + l.val; omega)
    have y := head_0 m c t arg3 harg3 arg4 harg4 arg5 harg5 arg6 harg6 arg7 harg7 arg8 harg8 arg9 harg9 arg10 harg10 hp r n hn s hs ⟨8 * (t.val / 8 % 3) + 0, hb⟩ rfl ⟨l.val, h⟩
    rw [dif_pos h]
    refine (fin_eq (aP m c) (aB m c) n s ⟨8 * (t.val / 8 % 3) + 0, hb⟩ ⟨l.val, h⟩ j (by simp only []; omega) _ _ y g)
  · have hb : 8 * (t.val / 8 % 3) + 1 < 24 := by omega
    have hl : l.val - 64 < 64 := by omega
    have g := g_at m c t (1 : Fin 8) n hn ⟨8 * (t.val / 8 % 3) + 1, hb⟩ rfl r s hs ⟨l.val - 64, hl⟩ col (by show col.val = 64 * 1 + (l.val - 64); omega)
    have y := head_1 m c t arg3 harg3 arg4 harg4 arg5 harg5 arg6 harg6 arg7 harg7 arg8 harg8 arg9 harg9 arg10 harg10 hp r n hn s hs ⟨8 * (t.val / 8 % 3) + 1, hb⟩ rfl ⟨l.val - 64, hl⟩
    rw [dif_neg h]
    refine (fin_eq (aP m c) (aB m c) n s ⟨8 * (t.val / 8 % 3) + 1, hb⟩ ⟨l.val - 64, hl⟩ j (by simp only []; omega) _ _ y g)

/-- What is stored for heads 2 and 3 of a grid point is the reference's. -/
theorem pt_1 (l : Fin 128) (col : Fin 512) (hx : 128 + l.val = col.val) (j : Fin 1536) (hj : j.val = t.val / 8 % 3 * 512 + col.val) :
    View.canon (kernelRun0_A c (grid0.coords t) arg3 harg3 arg4 harg4 arg5 harg5 arg6 harg6 arg7 harg7 arg8 harg8 arg9 harg9 arg10 harg10 (iblk m c 0 t) (iblk m c 1 t) (iblk m c 2 t) (iblk m c 3 t) (iblk m c 4 t)).1 (ix3 (0 : Fin 1) r col)
      = Cert.ReferenceIdeal.Fox.OUT (aP m c) (aB m c) (ix3 n s j) := by
  have e := out_at_1 c t arg3 harg3 arg4 harg4 arg5 harg5 arg6 harg6 arg7 harg7 arg8 harg8 arg9 harg9 arg10 harg10 (iblk m c 0 t) (iblk m c 1 t) (iblk m c 2 t) (iblk m c 3 t) (iblk m c 4 t) r l col hx
  refine e.trans ?_
  by_cases h : l.val < 64
  · have hb : 8 * (t.val / 8 % 3) + 2 < 24 := by omega
    have g := g_at m c t (2 : Fin 8) n hn ⟨8 * (t.val / 8 % 3) + 2, hb⟩ rfl r s hs ⟨l.val, h⟩ col (by show col.val = 64 * 2 + l.val; omega)
    have y := head_2 m c t arg3 harg3 arg4 harg4 arg5 harg5 arg6 harg6 arg7 harg7 arg8 harg8 arg9 harg9 arg10 harg10 hp r n hn s hs ⟨8 * (t.val / 8 % 3) + 2, hb⟩ rfl ⟨l.val, h⟩
    rw [dif_pos h]
    refine (fin_eq (aP m c) (aB m c) n s ⟨8 * (t.val / 8 % 3) + 2, hb⟩ ⟨l.val, h⟩ j (by simp only []; omega) _ _ y g)
  · have hb : 8 * (t.val / 8 % 3) + 3 < 24 := by omega
    have hl : l.val - 64 < 64 := by omega
    have g := g_at m c t (3 : Fin 8) n hn ⟨8 * (t.val / 8 % 3) + 3, hb⟩ rfl r s hs ⟨l.val - 64, hl⟩ col (by show col.val = 64 * 3 + (l.val - 64); omega)
    have y := head_3 m c t arg3 harg3 arg4 harg4 arg5 harg5 arg6 harg6 arg7 harg7 arg8 harg8 arg9 harg9 arg10 harg10 hp r n hn s hs ⟨8 * (t.val / 8 % 3) + 3, hb⟩ rfl ⟨l.val - 64, hl⟩
    rw [dif_neg h]
    refine (fin_eq (aP m c) (aB m c) n s ⟨8 * (t.val / 8 % 3) + 3, hb⟩ ⟨l.val - 64, hl⟩ j (by simp only []; omega) _ _ y g)

/-- What is stored for heads 4 and 5 of a grid point is the reference's. -/
theorem pt_2 (l : Fin 128) (col : Fin 512) (hx : 256 + l.val = col.val) (j : Fin 1536) (hj : j.val = t.val / 8 % 3 * 512 + col.val) :
    View.canon (kernelRun0_A c (grid0.coords t) arg3 harg3 arg4 harg4 arg5 harg5 arg6 harg6 arg7 harg7 arg8 harg8 arg9 harg9 arg10 harg10 (iblk m c 0 t) (iblk m c 1 t) (iblk m c 2 t) (iblk m c 3 t) (iblk m c 4 t)).1 (ix3 (0 : Fin 1) r col)
      = Cert.ReferenceIdeal.Fox.OUT (aP m c) (aB m c) (ix3 n s j) := by
  have e := out_at_2 c t arg3 harg3 arg4 harg4 arg5 harg5 arg6 harg6 arg7 harg7 arg8 harg8 arg9 harg9 arg10 harg10 (iblk m c 0 t) (iblk m c 1 t) (iblk m c 2 t) (iblk m c 3 t) (iblk m c 4 t) r l col hx
  refine e.trans ?_
  by_cases h : l.val < 64
  · have hb : 8 * (t.val / 8 % 3) + 4 < 24 := by omega
    have g := g_at m c t (4 : Fin 8) n hn ⟨8 * (t.val / 8 % 3) + 4, hb⟩ rfl r s hs ⟨l.val, h⟩ col (by show col.val = 64 * 4 + l.val; omega)
    have y := head_4 m c t arg3 harg3 arg4 harg4 arg5 harg5 arg6 harg6 arg7 harg7 arg8 harg8 arg9 harg9 arg10 harg10 hp r n hn s hs ⟨8 * (t.val / 8 % 3) + 4, hb⟩ rfl ⟨l.val, h⟩
    rw [dif_pos h]
    refine (fin_eq (aP m c) (aB m c) n s ⟨8 * (t.val / 8 % 3) + 4, hb⟩ ⟨l.val, h⟩ j (by simp only []; omega) _ _ y g)
  · have hb : 8 * (t.val / 8 % 3) + 5 < 24 := by omega
    have hl : l.val - 64 < 64 := by omega
    have g := g_at m c t (5 : Fin 8) n hn ⟨8 * (t.val / 8 % 3) + 5, hb⟩ rfl r s hs ⟨l.val - 64, hl⟩ col (by show col.val = 64 * 5 + (l.val - 64); omega)
    have y := head_5 m c t arg3 harg3 arg4 harg4 arg5 harg5 arg6 harg6 arg7 harg7 arg8 harg8 arg9 harg9 arg10 harg10 hp r n hn s hs ⟨8 * (t.val / 8 % 3) + 5, hb⟩ rfl ⟨l.val - 64, hl⟩
    rw [dif_neg h]
    refine (fin_eq (aP m c) (aB m c) n s ⟨8 * (t.val / 8 % 3) + 5, hb⟩ ⟨l.val - 64, hl⟩ j (by simp only []; omega) _ _ y g)

/-- What is stored for heads 6 and 7 of a grid point is the reference's. -/
theorem pt_3 (l : Fin 128) (col : Fin 512) (hx : 384 + l.val = col.val) (j : Fin 1536) (hj : j.val = t.val / 8 % 3 * 512 + col.val) :
    View.canon (kernelRun0_A c (grid0.coords t) arg3 harg3 arg4 harg4 arg5 harg5 arg6 harg6 arg7 harg7 arg8 harg8 arg9 harg9 arg10 harg10 (iblk m c 0 t) (iblk m c 1 t) (iblk m c 2 t) (iblk m c 3 t) (iblk m c 4 t)).1 (ix3 (0 : Fin 1) r col)
      = Cert.ReferenceIdeal.Fox.OUT (aP m c) (aB m c) (ix3 n s j) := by
  have e := out_at_3 c t arg3 harg3 arg4 harg4 arg5 harg5 arg6 harg6 arg7 harg7 arg8 harg8 arg9 harg9 arg10 harg10 (iblk m c 0 t) (iblk m c 1 t) (iblk m c 2 t) (iblk m c 3 t) (iblk m c 4 t) r l col hx
  refine e.trans ?_
  by_cases h : l.val < 64
  · have hb : 8 * (t.val / 8 % 3) + 6 < 24 := by omega
    have g := g_at m c t (6 : Fin 8) n hn ⟨8 * (t.val / 8 % 3) + 6, hb⟩ rfl r s hs ⟨l.val, h⟩ col (by show col.val = 64 * 6 + l.val; omega)
    have y := head_6 m c t arg3 harg3 arg4 harg4 arg5 harg5 arg6 harg6 arg7 harg7 arg8 harg8 arg9 harg9 arg10 harg10 hp r n hn s hs ⟨8 * (t.val / 8 % 3) + 6, hb⟩ rfl ⟨l.val, h⟩
    rw [dif_pos h]
    refine (fin_eq (aP m c) (aB m c) n s ⟨8 * (t.val / 8 % 3) + 6, hb⟩ ⟨l.val, h⟩ j (by simp only []; omega) _ _ y g)
  · have hb : 8 * (t.val / 8 % 3) + 7 < 24 := by omega
    have hl : l.val - 64 < 64 := by omega
    have g := g_at m c t (7 : Fin 8) n hn ⟨8 * (t.val / 8 % 3) + 7, hb⟩ rfl r s hs ⟨l.val - 64, hl⟩ col (by show col.val = 64 * 7 + (l.val - 64); omega)
    have y := head_7 m c t arg3 harg3 arg4 harg4 arg5 harg5 arg6 harg6 arg7 harg7 arg8 harg8 arg9 harg9 arg10 harg10 hp r n hn s hs ⟨8 * (t.val / 8 % 3) + 7, hb⟩ rfl ⟨l.val - 64, hl⟩
    rw [dif_neg h]
    refine (fin_eq (aP m c) (aB m c) n s ⟨8 * (t.val / 8 % 3) + 7, hb⟩ ⟨l.val - 64, hl⟩ j (by simp only []; omega) _ _ y g)

/-- What a grid point stores is the reference's term. -/
theorem pt (col : Fin 512) (j : Fin 1536) (hj : j.val = t.val / 8 % 3 * 512 + col.val) :
    View.canon (kernelRun0_A c (grid0.coords t) arg3 harg3 arg4 harg4 arg5 harg5 arg6 harg6 arg7 harg7 arg8 harg8 arg9 harg9 arg10 harg10 (iblk m c 0 t) (iblk m c 1 t) (iblk m c 2 t) (iblk m c 3 t) (iblk m c 4 t)).1 (ix3 (0 : Fin 1) r col)
      = Cert.ReferenceIdeal.Fox.OUT (aP m c) (aB m c) (ix3 n s j) := by
  by_cases h0 : col.val < 128
  · exact pt_0 m c t arg3 harg3 arg4 harg4 arg5 harg5 arg6 harg6 arg7 harg7 arg8 harg8 arg9 harg9 arg10 harg10 hp r n hn s hs (⟨col.val, h0⟩ : Fin 128) col (Nat.zero_add _) j hj
  by_cases h1 : col.val < 256
  · exact pt_1 m c t arg3 harg3 arg4 harg4 arg5 harg5 arg6 harg6 arg7 harg7 arg8 harg8 arg9 harg9 arg10 harg10 hp r n hn s hs (⟨col.val - 128, by omega⟩ : Fin 128) col (by simp only []; omega) j hj
  by_cases h2 : col.val < 384
  · exact pt_2 m c t arg3 harg3 arg4 harg4 arg5 harg5 arg6 harg6 arg7 harg7 arg8 harg8 arg9 harg9 arg10 harg10 hp r n hn s hs (⟨col.val - 256, by omega⟩ : Fin 128) col (by simp only []; omega) j hj
  · exact pt_3 m c t arg3 harg3 arg4 harg4 arg5 harg5 arg6 harg6 arg7 harg7 arg8 harg8 arg9 harg9 arg10 harg10 hp r n hn s hs (⟨col.val - 384, by omega⟩ : Fin 128) col (by simp only []; omega) j hj

end

/-- The block a grid point writes back. -/
theorem out_blk (c : Dev nD) (t : Fin cfg0.N) (hp : Cert.Pre_fox_finite.fn (F := Ideal) (aP m c) (aB m c) = (fun _ => 1#1)) (r : Fin 512) (col : Fin 512)
    (n : Fin 2) (hn : n.val = t.val / 24) (s : Fin 4096) (hs : s.val = t.val % 8 * 512 + r.val) (j : Fin 1536) (hj : j.val = t.val / 8 % 3 * 512 + col.val) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (ix3 (0 : Fin 1) r col)
      = Cert.ReferenceIdeal.Fox.OUT (aP m c) (aB m c) (ix3 n s j) := by
  unfold out0_A_5
  rw [View.read_writes_junk_eq_canon]
  exact pt m c t _ _ _ _ _ _ _ _ _ _ _ _ _ _ _ _ hp r n hn s hs col j hj

theorem out_emb (t : Fin cfg0.N) (r : Fin 512) (col : Fin 512)
    (n : Fin 2) (hn : n.val = t.val / 24) (s : Fin 4096) (hs : s.val = t.val % 8 * 512 + r.val) (j : Fin 1536) (hj : j.val = t.val / 8 % 3 * 512 + col.val) :
    ((cfg0.win 5).blk t).view.emb (ix3 (0 : Fin 1) r col) = ix3 n s j := by
  obtain ⟨-, -, -, -, -, e0, -⟩ := idx t
  blk_ext [e0, hn, hs, hj]

/-- The result array after the run. -/
theorem final (c : Dev nD) (hp : Cert.Pre_fox_finite.fn (F := Ideal) (aP m c) (aB m c) = (fun _ => 1#1)) : (dats m 0 c).arrAt 5 (cfgs 0).N
    = Cert.ReferenceIdeal.Fox.OUT (aP m c) (aB m c) := by
  refine (dats m 0 c).arrAt_eq_of_covers 5 _ (by decide +kernel) fun t _ y => ?_
  blk_simp
  rw [after0_5]
  obtain ⟨-, -, -, -, -, -, -, h2⟩ := idx t
  idx_vars y
  obtain rfl : y0 = 0 := Subsingleton.elim _ _
  have hN : t.val % 8 * 512 + y1.val < 4096 := by omega
  have hJ : t.val / 8 % 3 * 512 + y2.val < 1536 := by omega
  rw [out_emb t y1 y2 ⟨t.val / 24, h2⟩ rfl ⟨_, hN⟩ rfl ⟨_, hJ⟩ rfl]
  exact out_blk m c t hp y1 y2 ⟨t.val / 24, h2⟩ rfl ⟨_, hN⟩ rfl ⟨_, hJ⟩ rfl

end Cert.KernelIdeal.Fox
-- ==== Proof.InProj.lean ====
/- The input projection's first product: what the kernel's result array holds is the product of the hidden states with the
   gathered columns of the weights, which is the gathered columns of the whole product. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ)

/-- The whole product. -/
abbrev full (h : FVec Ideal S8192x4096 .f32) (w : FVec Ideal S4096x14616 .f32) : FVec Ideal Cert.Reference2Ideal.S8192x14616 .f32 :=
  Host.dotGeneral Cert.Reference2Ideal.dot_S8192x4096_S4096x14616_S8192x14616_1_0_0_1_n_n none h w

/-- The reference's term over the argument arrays: the gathered columns of the whole product. -/
abbrev REF (h : FVec Ideal S8192x4096 .f32) (w : FVec Ideal S4096x14616 .f32) : FVec Ideal S8192x9216 .f32 :=
  concatenate Cert.Reference2Ideal.S8192x9216 1
    [⟨Cert.Reference2Ideal.S8192x1536, extractStridedSlice Cert.Reference2Ideal.S8192x1536 ![0, 4864] (full h w) Cert.Reference2Ideal.Gen.slices_S8192x14616_S8192x1536_0_4864⟩,
     ⟨Cert.Reference2Ideal.S8192x4608, extractStridedSlice Cert.Reference2Ideal.S8192x4608 ![0, 0] (full h w) Cert.Reference2Ideal.Gen.slices_S8192x14616_S8192x4608_0_0⟩,
     ⟨Cert.Reference2Ideal.S8192x1024, extractStridedSlice Cert.Reference2Ideal.S8192x1024 ![0, 13592] (full h w) Cert.Reference2Ideal.Gen.slices_S8192x14616_S8192x1024_0_13592⟩,
     ⟨Cert.Reference2Ideal.S8192x1536, extractStridedSlice Cert.Reference2Ideal.S8192x1536 ![0, 11032] (full h w) Cert.Reference2Ideal.Gen.slices_S8192x14616_S8192x1536_0_11032⟩,
     ⟨Cert.Reference2Ideal.S8192x256, extractStridedSlice Cert.Reference2Ideal.S8192x256 ![0, 4608] (full h w) Cert.Reference2Ideal.Gen.slices_S8192x14616_S8192x256_0_4608⟩,
     ⟨Cert.Reference2Ideal.S8192x256, extractStridedSlice Cert.Reference2Ideal.S8192x256 ![0, 11008] (full h w) Cert.Reference2Ideal.Gen.slices_S8192x14616_S8192x256_0_11008⟩]
    Cert.Reference2Ideal.Gen.concatenates_S8192x1536_S8192x4608_S8192x1024_S8192x1536_S8192x256_S8192x256_S8192x9216_d1

/-- The gathered columns of the weights, as the region finds them. -/
def W (w : FVec Ideal S4096x14616 .f32) : FVec Ideal S4096x9216 .bf16 :=
  truncf .bf16 (concatenate S4096x9216 1
    [⟨S4096x1536, extractStridedSlice S4096x1536 ![0, 4864] w slices_S4096x14616_S4096x1536_0_4864⟩,
     ⟨S4096x4608, extractStridedSlice S4096x4608 ![0, 0] w slices_S4096x14616_S4096x4608_0_0⟩,
     ⟨S4096x1024, extractStridedSlice S4096x1024 ![0, 13592] w slices_S4096x14616_S4096x1024_0_13592⟩,
     ⟨S4096x1536, extractStridedSlice S4096x1536 ![0, 11032] w slices_S4096x14616_S4096x1536_0_11032⟩,
     ⟨S4096x256, extractStridedSlice S4096x256 ![0, 4608] w slices_S4096x14616_S4096x256_0_4608⟩,
     ⟨S4096x256, extractStridedSlice S4096x256 ![0, 11008] w slices_S4096x14616_S4096x256_0_11008⟩]
    concatenates_S4096x1536_S4096x4608_S4096x1024_S4096x1536_S4096x256_S4096x256_S4096x9216_d1 : FVec Ideal S4096x9216 .f32) bitsLt_bf16_f32

/-- The reference's term at an index is the product's sum over the gathered weights. -/
theorem ref_apply (h : FVec Ideal S8192x4096 .f32) (w : FVec Ideal S4096x14616 .f32) (i : Fin 8192) (n : Fin 9216) :
    REF h w (ix2 i n) = ∑ k : Fin 4096, (h (ix2 i k) : EReal) * W w (ix2 k n) := by
  pointwise [REF, W]
  by_cases h1 : (n : ℕ) < 1536
  · simp only [h1, ↓reduceDIte]
  by_cases h2 : (n : ℕ) - 1536 < 4608
  · simp only [h1, h2, ↓reduceDIte]
  by_cases h3 : (n : ℕ) - 1536 - 4608 < 1024
  · simp only [h1, h2, h3, ↓reduceDIte]
  by_cases h4 : (n : ℕ) - 1536 - 4608 - 1024 < 1536
  · simp only [h1, h2, h3, h4, ↓reduceDIte]
  by_cases h5 : (n : ℕ) - 1536 - 4608 - 1024 - 1536 < 256
  · simp only [h1, h2, h3, h4, h5, ↓reduceDIte]
  · simp only [h1, h2, h3, h4, h5, ↓reduceDIte]

theorem idx : ∀ t : Fin cfg0.N, win0_0.index t = ![t.val % 8, 0] ∧ win0_1.index t = ![0, t.val / 8] ∧ win0_2.index t = ![t.val % 8, t.val / 8]
    ∧ t.val / 8 < 9 :=
  (by decide +kernel : ∀ t : Fin grid0.N, _)

/-- The weights' window reads the gathered weights. -/
theorem V7 (c : Dev nD) : (V m c main_v7 : FVec Ideal S4096x9216 .bf16) = W (m ((c : Thread nD τ).loc main_arg1)) := by
  unfold W
  unfold V
  after_results
  rfl

theorem V8 (c : Dev nD) : (V m c main_v8 : FVec Ideal S8192x4096 .bf16) = (truncf .bf16 (m ((c : Thread nD τ).loc main_arg0) : FVec Ideal S8192x4096 .f32) bitsLt_bf16_f32 : FVec Ideal S8192x4096 .bf16) := by
  entry_read
  rfl

/-- What a grid point stores is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨e0, e1, e2, e3⟩ := idx t
  idx_vars y
  have hn : t.val / 8 * 1024 + (y1 : ℕ) < 9216 := by omega
  have hi : t.val % 8 * 1024 + (y0 : ℕ) < 8192 := by omega
  have he : ((cfg0.win 2).blk t).view.emb (ix2 y0 y1) = ix2 (⟨t.val % 8 * 1024 + y0, hi⟩ : Fin 8192) (⟨t.val / 8 * 1024 + y1, hn⟩ : Fin 9216) := by
    blk_ext [e2]
  rw [he, ref_apply]
  pointwise [k0_pay1]
  refine Finset.sum_congr rfl fun k _ => ?_
  refine Ideal.mul_congr ?_ ?_
  · unfold iblk
    show V m c main_v8 _ = _
    rw [V8]
    blk_ext [e0]
  · unfold iblk
    show V m c main_v7 _ = _
    rw [V7]
    blk_ext [e1]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.InProj

namespace Cert.Proof.InProj

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  exact (Cert.Kernel2Ideal.InProj.final m c).symm

end Cert.Proof.InProj

end
-- ==== Proof.InProjB.lean ====
/- The input projection's second product: what the kernel's result array holds is the product of the hidden states with the
   gathered columns of the weights, which is the gathered columns of the whole product. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.InProjB

open Cert.Kernel3Ideal Cert.Kernel3Ideal.Gen

variable (m : (ℓ : Loc nD τ sig) → Buf (Elt Ideal) ℓ)

/-- The whole product. -/
abbrev full (h : FVec Ideal S8192x4096 .f32) (w : FVec Ideal S4096x14616 .f32) : FVec Ideal Cert.Reference3Ideal.S8192x14616 .f32 :=
  Host.dotGeneral Cert.Reference3Ideal.dot_S8192x4096_S4096x14616_S8192x14616_1_0_0_1_n_n none h w

/-- The reference's term over the argument arrays: the gathered columns of the whole product. -/
abbrev REF (h : FVec Ideal S8192x4096 .f32) (w : FVec Ideal S4096x14616 .f32) : FVec Ideal S8192x4096 .bf16 :=
  truncf .bf16 (concatenate Cert.Reference3Ideal.S8192x4096 1
    [⟨Cert.Reference3Ideal.S8192x3072, extractStridedSlice Cert.Reference3Ideal.S8192x3072 ![0, 6400] (full h w) Cert.Reference3Ideal.Gen.slices_S8192x14616_S8192x3072_0_6400⟩,
     ⟨Cert.Reference3Ideal.S8192x1024, extractStridedSlice Cert.Reference3Ideal.S8192x1024 ![0, 12568] (full h w) Cert.Reference3Ideal.Gen.slices_S8192x14616_S8192x1024_0_12568⟩]
    Cert.Reference3Ideal.Gen.concatenates_S8192x3072_S8192x1024_S8192x4096_d1 : FVec Ideal S8192x4096 .f32) bitsLt_bf16_f32

/-- The gathered columns of the weights, as the region finds them. -/
def W (w : FVec Ideal S4096x14616 .f32) : FVec Ideal S4096x4096 .bf16 :=
  truncf .bf16 (concatenate S4096x4096 1
    [⟨S4096x3072, extractStridedSlice S4096x3072 ![0, 6400] w slices_S4096x14616_S4096x3072_0_6400⟩,
     ⟨S4096x1024, extractStridedSlice S4096x1024 ![0, 12568] w slices_S4096x14616_S4096x1024_0_12568⟩]
    concatenates_S4096x3072_S4096x1024_S4096x4096_d1 : FVec Ideal S4096x4096 .f32) bitsLt_bf16_f32

/-- The reference's term at an index is the product's sum over the gathered weights. -/
theorem ref_apply (h : FVec Ideal S8192x4096 .f32) (w : FVec Ideal S4096x14616 .f32) (i : Fin 8192) (n : Fin 4096) :
    REF h w (ix2 i n) = ∑ k : Fin 4096, (h (ix2 i k) : EReal) * W w (ix2 k n) := by
  pointwise [REF, W]
  by_cases h1 : (n : ℕ) < 3072
  · simp only [h1, ↓reduceDIte]
  · simp only [h1, ↓reduceDIte]

theorem idx : ∀ t : Fin cfg0.N, win0_0.index t = ![t.val % 8, 0] ∧ win0_1.index t = ![0, t.val / 8] ∧ win0_2.index t = ![t.val % 8, t.val / 8]
    ∧ t.val / 8 < 4 :=
  (by decide +kernel : ∀ t : Fin grid0.N, _)

/-- The weights' window reads the gathered weights. -/
theorem V3 (c : Dev nD) : (V m c main_v3 : FVec Ideal S4096x4096 .bf16) = W (m ((c : Thread nD τ).loc main_arg1)) := by
  unfold W
  unfold V
  after_results

theorem V4 (c : Dev nD) : (V m c main_v4 : FVec Ideal S8192x4096 .bf16) = (truncf .bf16 (m ((c : Thread nD τ).loc main_arg0) : FVec Ideal S8192x4096 .f32) bitsLt_bf16_f32 : FVec Ideal S8192x4096 .bf16) := by
  entry_read
  rfl

/-- What a grid point stores is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  obtain ⟨e0, e1, e2, e3⟩ := idx t
  idx_vars y
  have hn : t.val / 8 * 1024 + (y1 : ℕ) < 4096 := by omega
  have hi : t.val % 8 * 1024 + (y0 : ℕ) < 8192 := by omega
  have he : ((cfg0.win 2).blk t).view.emb (ix2 y0 y1) = ix2 (⟨t.val % 8 * 1024 + y0, hi⟩ : Fin 8192) (⟨t.val / 8 * 1024 + y1, hn⟩ : Fin 4096) := by
    blk_ext [e2]
  rw [he, ref_apply]
  pointwise [k0_pay1]
  refine Finset.sum_congr rfl fun k _ => ?_
  refine Ideal.mul_congr ?_ ?_
  · unfold iblk
    show V m c main_v4 _ = _
    rw [V4]
    blk_ext [e0]
  · unfold iblk
    show V m c main_v3 _ = _
    rw [V3]
    blk_ext [e1]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.InProjB

namespace Cert.Proof.InProjB

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [(hagree c).1, (hagree c).2]
  exact (Cert.Kernel3Ideal.InProjB.final m c).symm

end Cert.Proof.InProjB

end
-- ==== Proof.InProjVt.lean ====
/- The input projection's third product: what the kernel's result array holds is the transposed values of all heads, with
   sixteen rows of ones after each head. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.InProjVt

open Cert.Kernel4Ideal Cert.Kernel4Ideal.Gen

/-- The whole product. -/
abbrev full (h : FVec Ideal S8192x4096 .f32) (w : FVec Ideal S4096x14616 .f32) : FVec Ideal Cert.Reference4Ideal.S8192x14616 .f32 :=
  Host.dotGeneral Cert.Reference4Ideal.dot_S8192x4096_S4096x14616_S8192x14616_1_0_0_1_n_n none h w

/-- The values' columns, with the heads apart. -/
def vals (h : FVec Ideal S8192x4096 .f32) (w : FVec Ideal S4096x14616 .f32) : FVec Ideal Cert.Reference4Ideal.S8192x24x64 .f32 :=
  shapeCast _ (extractStridedSlice Cert.Reference4Ideal.S8192x1536 ![0, 9472] (full h w) Cert.Reference4Ideal.Gen.slices_S8192x14616_S8192x1536_0_9472)
    Cert.Reference4Ideal.Gen.shapeCasts_S8192x1536_S8192x24x64

/-- The ones after each head. -/
def ones : FVec Ideal Cert.Reference4Ideal.S8192x24x16 .f32 :=
  broadcastInDim Cert.Reference4Ideal.S8192x24x16 ![] Cert.Reference4Ideal.Gen.bcast_S_S8192x24x16 (constant Cert.Reference4Ideal.S_ .f32 0x3F800000#32)

/-- The values and the ones, head by head. -/
def both (h : FVec Ideal S8192x4096 .f32) (w : FVec Ideal S4096x14616 .f32) : FVec Ideal Cert.Reference4Ideal.S8192x24x80 .f32 :=
  concatenate Cert.Reference4Ideal.S8192x24x80 2 [⟨Cert.Reference4Ideal.S8192x24x64, vals h w⟩, ⟨Cert.Reference4Ideal.S8192x24x16, ones⟩]
    Cert.Reference4Ideal.Gen.concatenates_S8192x24x64_S8192x24x16_S8192x24x80_d2

/-- The reference's term over the argument arrays. -/
def REF (h : FVec Ideal S8192x4096 .f32) (w : FVec Ideal S4096x14616 .f32) : FVec Ideal S1920x8192 .bf16 :=
  truncf .bf16 (transpose Cert.Reference4Ideal.S1920x8192 [1, 0] (shapeCast _ (both h w) Cert.Reference4Ideal.Gen.shapeCasts_S8192x24x80_S8192x1920 : FVec Ideal Cert.Reference4Ideal.S8192x1920 .f32)
    Cert.Reference4Ideal.Gen.transposes_S8192x1920_S1920x8192_1_0 : FVec Ideal S1920x8192 .f32) bitsLt_bf16_f32

theorem vals_apply (h : FVec Ideal S8192x4096 .f32) (w : FVec Ideal S4096x14616 .f32) (n : Fin 8192) (a : Fin 24) (d : Fin 64) (q : Fin 14616) (hq : q.val = 9472 + (a.val * 64 + d.val)) :
    vals h w (ix3 n a d) = ∑ k : Fin 4096, (h (ix2 n k) : EReal) * w (ix2 k q) := by
  unfold vals
  have hb : a.val * 64 + d.val < 1536 := by omega
  refine (shapeCast_apply _ _ (ix3 n a d) (ix2 n (⟨a.val * 64 + d.val, hb⟩ : Fin 1536)) ?_).trans ?_
  · rw [Shape.rowMajor_val_two, Shape.rowMajor_val_three]
    show n.val * 1536 + (a.val * 64 + d.val) = (n.val * 24 + a.val) * 64 + d.val
    omega
  pointwise []
  refine Finset.sum_congr rfl fun k _ => Ideal.mul_congr rfl ?_
  congr 2
  apply Fin.ext; simp; omega

theorem both_apply (h : FVec Ideal S8192x4096 .f32) (w : FVec Ideal S4096x14616 .f32) (n : Fin 8192) (a : Fin 24) (e : Fin 80) :
    both h w (ix3 n a e) = if he : e.val < 64 then vals h w (ix3 n a (⟨e.val, he⟩ : Fin 64)) else (1 : EReal) := by
  pointwise [both, ones]

/-- The reference's term at an index. -/
theorem ref_apply (h : FVec Ideal S8192x4096 .f32) (w : FVec Ideal S4096x14616 .f32) (r : Fin 1920) (n : Fin 8192) :
    REF h w (ix2 r n) = both h w (ix3 n (⟨r.val / 80, by omega⟩ : Fin 24) (⟨r.val % 80, by omega⟩ : Fin 80)) := by
  pointwise [REF]

/-- A row of the kernel's block, of its product: a row of the product, or ones. -/
def VAL (M : FVec Ideal S1536x1024 .f32) (r : Fin 1920) (j : Fin 1024) : EReal :=
  if h : r.val % 80 < 64 then M (ix2 (⟨r.val / 80 * 64 + r.val % 80, by omega⟩ : Fin 1536) j) else 1

theorem one16 : (Scalar.ofBits .bf16 0x3F80#16 : Ideal .bf16) = (1 : EReal) := by
  pointwise []

/-- The rows of ones after head `a`. -/
theorem ones_at (M : FVec Ideal S1536x1024 .f32) (a o : ℕ) (ho : o = 80 * a + 64) (r : Fin 1920) (j : Fin 1024) :
    View.TileAt (Val := Elt Ideal) (S := S1920x1024) (e := .bf16) (ix2 r j) ![o, 0] S16x1024.size (k0_pay3 (F := Ideal)) (VAL M r j) := by
  intro x hx
  have h0 : r.val = o + (x 0).val := hx 0
  have hl : (x 0).val < 16 := (x 0).isLt
  have hn : ¬ r.val % 80 < 64 := by omega
  unfold VAL
  rw [dif_neg hn]
  exact one16

/-- The rows of head `a`. -/
theorem vals_at (M : FVec Ideal S1536x1024 .f32) (a o o' : ℕ) (ho : o = 80 * a) (ho' : o' = 64 * a) (sl : S1536x1024.Slices ![o', 0] S64x1024) (r : Fin 1920) (j : Fin 1024) :
    View.TileAt (Val := Elt Ideal) (S := S1920x1024) (e := .bf16) (ix2 r j) ![o, 0] S64x1024.size (truncf .bf16 (extractStridedSlice S64x1024 ![o', 0] M sl : FVec Ideal S64x1024 .f32) bitsLt_bf16_f32) (VAL M r j) := by
  intro x hx
  have h0 : r.val = o + (x 0).val := hx 0
  have h1 : j.val = 0 + (x 1).val := hx 1
  have hl : (x 0).val < 64 := (x 0).isLt
  have hn : r.val % 80 < 64 := by omega
  unfold VAL
  rw [dif_pos hn]
  show M _ = M _
  congr 1
  funext b; apply Fin.ext
  fin_cases b
  · show o' + (x 0).val = r.val / 80 * 64 + r.val % 80
    omega
  · show 0 + (x 1).val = j.val
    omega

theorem rd (d : Fin 2 → ℕ) (e : EltTy) (arg : Memref sig .tc .vmem ⟨2, d⟩ e) (harg : arg.IsWhole) (X : Vec Ideal ⟨2, d⟩ e)
    (inb : ∀ a', (![0, 0] : Fin 2 → ℕ) a' + d a' ≤ d a') :
    View.readAt (Elt Ideal) arg.view (Rect.unit (s := ⟨2, d⟩) ![0, 0] d inb).toLoadRect (harg.unread X) = X := by
  funext x
  rw [View.readAt_apply, harg.read_unread]
  congr 1
  funext y; apply Fin.ext
  fin_cases y
  · show 0 + 1 * (x 0).val = (x 0).val; omega
  · show 0 + 1 * (x 1).val = (x 1).val; omega

/-- The block that a grid point leaves, of its input blocks. -/
theorem out_val (c : Dev nD) (i : grid0.Coords) (arg1 : Memref sig .tc .vmem S1536x4096 .bf16) (harg1 : arg1.IsWhole) (arg2 : Memref sig .tc .vmem S1024x4096 .bf16) (harg2 : arg2.IsWhole) (arg3 : Memref sig .tc .vmem S1920x1024 .bf16) (harg3 : arg3.IsWhole)
    (x0 : Vec Ideal S1536x4096 .bf16) (x1 : Vec Ideal S1024x4096 .bf16) (r : Fin 1920) (j : Fin 1024) :
    View.canon (kernelRun0_A c i arg1 harg1 arg2 harg2 arg3 harg3 x0 x1).1 (ix2 r j) = VAL (k0_pay2 (F := Ideal) x0 x1) r j := by
  refine View.canon_eq_of_allAt _ _ _ (cover0_A_2 ..) ?_
  unfold kernelRun0_A
  dsimp only
  unfold kernelRun0_A.sl.r
  simp only [rd]
  refine View.allAt_cons_unit _ _ _ _ _ (ones_at (k0_pay2 x0 x1) 23 1904 rfl r j) ?_
  refine View.allAt_cons_unit _ _ _ _ _ (vals_at (k0_pay2 x0 x1) 23 1840 1472 rfl rfl slices_S1536x1024_o1472_0_S64x1024 r j) ?_
  refine View.allAt_cons_unit _ _ _ _ _ (ones_at (k0_pay2 x0 x1) 22 1824 rfl r j) ?_
  refine View.allAt_cons_unit _ _ _ _ _ (vals_at (k0_pay2 x0 x1) 22 1760 1408 rfl rfl slices_S1536x1024_o1408_0_S64x1024 r j) ?_
  refine View.allAt_cons_unit _ _ _ _ _ (ones_at (k0_pay2 x0 x1) 21 1744 rfl r j) ?_
  refine View.allAt_cons_unit _ _ _ _ _ (vals_at (k0_pay2 x0 x1) 21 1680 1344 rfl rfl slices_S1536x1024_o1344_0_S64x1024 r j) ?_
  refine View.allAt_cons_unit _ _ _ _ _ (ones_at (k0_pay2 x0 x1) 20 1664 rfl r j) ?_
  refine View.allAt_cons_unit _ _ _ _ _ (vals_at (k0_pay2 x0 x1) 20 1600 1280 rfl rfl slices_S1536x1024_o1280_0_S64x1024 r j) ?_
  refine View.allAt_cons_unit _ _ _ _ _ (ones_at (k0_pay2 x0 x1) 19 1584 rfl r j) ?_
  refine View.allAt_cons_unit _ _ _ _ _ (vals_at (k0_pay2 x0 x1) 19 1520 1216 rfl rfl slices_S1536x1024_o1216_0_S64x1024 r j) ?_
  refine View.allAt_cons_unit _ _ _ _ _ (ones_at (k0_pay2 x0 x1) 18 1504 rfl r j) ?_
  refine View.allAt_cons_unit _ _ _ _ _ (vals_at (k0_pay2 x0 x1) 18 1440 1152 rfl rfl slices_S1536x1024_o1152_0_S64x1024 r j) ?_
  refine View.allAt_cons_unit _ _ _ _ _ (ones_at (k0_pay2 x0 x1) 17 1424 rfl r j) ?_
  refine View.allAt_cons_unit _ _ _ _ _ (vals_at (k0_pay2 x0 x1) 17 1360 1088 rfl rfl slices_S1536x1024_o1088_0_S64x1024 r j) ?_
  refine View.allAt_cons_unit _ _ _ _ _ (ones_at (k0_pay2 x0 x1) 16 1344 rfl r j) ?_
  refine View.allAt_cons_unit _ _ _ _ _ (vals_at (k0_pay2 x0 x1) 16 1280 1024 rfl rfl slices_S1536x1024_o1024_0_S64x1024 r j) ?_
  refine View.allAt_cons_unit _ _ _ _ _ (ones_at (k0_pay2 x0 x1) 15 1264 rfl r j) ?_
  refine View.allAt_cons_unit _ _ _ _ _ (vals_at (k0_pay2 x0 x1) 15 1200 960 rfl rfl slices_S1536x1024_o960_0_S64x1024 r j) ?_
  refine View.allAt_cons_unit _ _ _ _ _ (ones_at (k0_pay2 x0 x1) 14 1184 rfl r j) ?_
  refine View.allAt_cons_unit _ _ _ _ _ (vals_at (k0_pay2 x0 x1) 14 1120 896 rfl rfl slices_S1536x1024_o896_0_S64x1024 r j) ?_
  refine View.allAt_cons_unit _ _ _ _ _ (ones_at (k0_pay2 x0 x1) 13 1104 rfl r j) ?_
  refine View.allAt_cons_unit _ _ _ _ _ (vals_at (k0_pay2 x0 x1) 13 1040 832 rfl rfl slices_S1536x1024_o832_0_S64x1024 r j) ?_
  refine View.allAt_cons_unit _ _ _ _ _ (ones_at (k0_pay2 x0 x1) 12 1024 rfl r j) ?_
  refine View.allAt_cons_unit _ _ _ _ _ (vals_at (k0_pay2 x0 x1) 12 960 768 rfl rfl slices_S1536x1024_o768_0_S64x1024 r j) ?_
  refine View.allAt_cons_unit _ _ _ _ _ (ones_at (k0_pay2 x0 x1) 11 944 rfl r j) ?_
  refine View.allAt_cons_unit _ _ _ _ _ (vals_at (k0_pay2 x0 x1) 11 880 704 rfl rfl slices_S1536x1024_o704_0_S64x1024 r j) ?_
  refine View.allAt_cons_unit _ _ _ _ _ (ones_at (k0_pay2 x0 x1) 10 864 rfl r j) ?_
  refine View.allAt_cons_unit _ _ _ _ _ (vals_at (k0_pay2 x0 x1) 10 800 640 rfl rfl slices_S1536x1024_o640_0_S64x1024 r j) ?_
  refine View.allAt_cons_unit _ _ _ _ _ (ones_at (k0_pay2 x0 x1) 9 784 rfl r j) ?_
  refine View.allAt_cons_unit _ _ _ _ _ (vals_at (k0_pay2 x0 x1) 9 720 576 rfl rfl slices_S1536x1024_o576_0_S64x1024 r j) ?_
  refine View.allAt_cons_unit _ _ _ _ _ (ones_at (k0_pay2 x0 x1) 8 704 rfl r j) ?_
  refine View.allAt_cons_unit _ _ _ _ _ (vals_at (k0_pay2 x0 x1) 8 640 512 rfl rfl slices_S1536x1024_o512_0_S64x1024 r j) ?_
  refine View.allAt_cons_unit _ _ _ _ _ (ones_at (k0_pay2 x0 x1) 7 624 rfl r j) ?_
  refine View.allAt_cons_unit _ _ _ _ _ (vals_at (k0_pay2 x0 x1) 7 560 448 rfl rfl slices_S1536x1024_o448_0_S64x1024 r j) ?_
  refine View.allAt_cons_unit _ _ _ _ _ (ones_at (k0_pay2 x0 x1) 6 544 rfl r j) ?_
  refine View.allAt_cons_unit _ _ _ _ _ (vals_at (k0_pay2 x0 x1) 6 480 384 rfl rfl slices_S1536x1024_o384_0_S64x1024 r j) ?_
  refine View.allAt_cons_unit _ _ _ _ _ (ones_at (k0_pay2 x0 x1) 5 464 rfl r j) ?_
  refine View.allAt_cons_unit _ _ _ _ _ (vals_at (k0_pay2 x0 x1) 5 400 320 rfl rfl slices_S1536x1024_o320_0_S64x1024 r j) ?_
  refine View.allAt_cons_unit _ _ _ _ _ (ones_at (k0_pay2 x0 x1) 4 384 rfl r j) ?_
  refine View.allAt_cons_unit _ _ _ _ _ (vals_at (k0_pay2 x0 x1) 4 320 256 rfl rfl slices_S1536x1024_o256_0_S64x1024 r j) ?_
  refine View.allAt_cons_unit _ _ _ _ _ (ones_at (k0_pay2 x0 x1) 3 304 rfl r j) ?_
  refine View.allAt_cons_unit _ _ _ _ _ (vals_at (k0_pay2 x0 x1) 3 240 192 rfl rfl slices_S1536x1024_o192_0_S64x1024 r j) ?_
  refine View.allAt_cons_unit _ _ _ _ _ (ones_at (k0_pay2 x0 x1) 2 224 rfl r j) ?_
  refine View.allAt_cons_unit _ _ _ _ _ (vals_at (k0_pay2 x0 x1) 2 160 128 rfl rfl slices_S1536x1024_o128_0_S64x1024 r j) ?_
  refine View.allAt_cons_unit _ _ _ _ _ (ones_at (k0_pay2 x0 x1) 1 144 rfl r j) ?_
  refine View.allAt_cons_unit _ _ _ _ _ (vals_at (k0_pay2 x0 x1) 1 80 64 rfl rfl slices_S1536x1024_o64_0_S64x1024 r j) ?_
  refine View.allAt_cons_unit _ _ _ _ _ (ones_at (k0_pay2 x0 x1) 0 64 rfl r j) ?_
  refine View.allAt_cons_unit _ _ _ _ _ (vals_at (k0_pay2 x0 x1) 0 0 0 rfl rfl slices_S1536x1024_o0_0_S64x1024 r j) ?_
  exact View.allAt_nil _ _

theorem prod_at (x0 : Vec Ideal S1536x4096 .bf16) (x1 : Vec Ideal S1024x4096 .bf16) (a : Fin 1536) (b : Fin 1024) :
    k0_pay2 (F := Ideal) x0 x1 (ix2 a b) = ∑ k : Fin 4096, (x0 (ix2 a k) : EReal) * x1 (ix2 b k) := by
  pointwise [k0_pay2]

variable (m : (ℓ : Loc nD τ sig) → Buf (Elt Ideal) ℓ)

theorem idx : ∀ t : Fin cfg0.N, win0_0.index t = ![0, 0] ∧ win0_1.index t = ![t.val, 0] ∧ win0_2.index t = ![0, t.val] ∧ t.val < 8 :=
  (by decide +kernel : ∀ t : Fin grid0.N, _)

/-- The weights' window reads the values' rows of the transposed weights. -/
theorem V2 (c : Dev nD) : (V m c main_v2 : FVec Ideal S1536x4096 .bf16)
    = (truncf .bf16 (extractStridedSlice S1536x4096 ![9472, 0] (transpose S14616x4096 [1, 0] (m ((c : Thread nD τ).loc main_arg1) : FVec Ideal S4096x14616 .f32) transposes_S4096x14616_S14616x4096_1_0 : FVec Ideal S14616x4096 .f32) slices_S14616x4096_S1536x4096_9472_0 : FVec Ideal S1536x4096 .f32) bitsLt_bf16_f32 : FVec Ideal S1536x4096 .bf16) := by
  unfold V
  after_results

theorem V3 (c : Dev nD) : (V m c main_v3 : FVec Ideal S8192x4096 .bf16) = (truncf .bf16 (m ((c : Thread nD τ).loc main_arg0) : FVec Ideal S8192x4096 .f32) bitsLt_bf16_f32 : FVec Ideal S8192x4096 .bf16) := by
  unfold V
  after_results

theorem V2_at (c : Dev nD) (a : Fin 1536) (k : Fin 4096) (q : Fin 14616) (hq : q.val = 9472 + a.val) :
    (V m c main_v2 : FVec Ideal S1536x4096 .bf16) (ix2 a k) = (m ((c : Thread nD τ).loc main_arg1) : FVec Ideal S4096x14616 .f32) (ix2 k q) := by
  rw [V2]
  generalize (m ((c : Thread nD τ).loc main_arg1) : FVec Ideal S4096x14616 .f32) = w
  pointwise []
  congr 2
  apply Fin.ext; simp; omega

theorem blk0_at (c : Dev nD) (t : Fin cfg0.N) (a : Fin 1536) (k : Fin 4096) (q : Fin 14616) (hq : q.val = 9472 + a.val) :
    (iblk m c 0 t : FVec Ideal S1536x4096 .bf16) (ix2 a k) = (m ((c : Thread nD τ).loc main_arg1) : FVec Ideal S4096x14616 .f32) (ix2 k q) := by
  obtain ⟨e0, -⟩ := idx t
  refine Eq.trans ?_ (V2_at m c a k q hq)
  unfold iblk
  show V m c main_v2 _ = _
  blk_ext [e0]

theorem blk1_at (c : Dev nD) (t : Fin cfg0.N) (j : Fin 1024) (k : Fin 4096) (n : Fin 8192) (hn : n.val = t.val * 1024 + j.val) :
    (iblk m c 1 t : FVec Ideal S1024x4096 .bf16) (ix2 j k) = (m ((c : Thread nD τ).loc main_arg0) : FVec Ideal S8192x4096 .f32) (ix2 n k) := by
  obtain ⟨-, e1, -⟩ := idx t
  unfold iblk
  show V m c main_v3 _ = _
  rw [V3]
  blk_ext [e1, hn]

/-- What a grid point stores is the reference's term at the array index. -/
theorem point (c : Dev nD) (t : Fin cfg0.N) (r : Fin 1920) (j : Fin 1024) (n : Fin 8192) (hn : n.val = t.val * 1024 + j.val) :
    VAL (k0_pay2 (F := Ideal) (iblk m c 0 t) (iblk m c 1 t)) r j = REF (m ((c : Thread nD τ).loc main_arg0)) (m ((c : Thread nD τ).loc main_arg1)) (ix2 r n) := by
  obtain ⟨e0, e1, e2, e3⟩ := idx t
  rw [ref_apply]
  generalize ha : (⟨r.val / 80, by omega⟩ : Fin 24) = a
  generalize hd : (⟨r.val % 80, by omega⟩ : Fin 80) = d
  have ha' : a.val = r.val / 80 := by rw [← ha]
  have hd' : d.val = r.val % 80 := by rw [← hd]
  rw [both_apply]
  unfold VAL
  by_cases h : r.val % 80 < 64
  · have h' : d.val < 64 := by omega
    rw [dif_pos h, dif_pos h']
    obtain ⟨q, hq⟩ : ∃ q : Fin 14616, q.val = 9472 + (a.val * 64 + d.val) := ⟨⟨9472 + (a.val * 64 + d.val), by omega⟩, rfl⟩
    rw [vals_apply _ _ n a ⟨d.val, h'⟩ q hq]
    obtain ⟨b, hb⟩ : ∃ b : Fin 1536, b.val = r.val / 80 * 64 + r.val % 80 := ⟨⟨r.val / 80 * 64 + r.val % 80, by omega⟩, rfl⟩
    have hb' : (⟨r.val / 80 * 64 + r.val % 80, by omega⟩ : Fin 1536) = b := Fin.ext hb.symm
    rw [hb', prod_at]
    refine Finset.sum_congr rfl fun k _ => ?_
    rw [blk0_at m c t b k q (by omega), blk1_at m c t j k n hn]
    exact mul_comm _ _
  · have h' : ¬ d.val < 64 := by omega
    rw [dif_neg h, dif_neg h']

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  obtain ⟨-, -, e2, e3⟩ := idx t
  idx_vars y
  have hN : t.val * 1024 + y1.val < 8192 := by omega
  have he : ((cfg0.win 2).blk t).view.emb (ix2 y0 y1) = ix2 y0 (⟨t.val * 1024 + y1.val, hN⟩ : Fin 8192) := by
    blk_ext [e2]
  rw [he]
  refine Eq.trans ?_ (point m c t y0 y1 ⟨_, hN⟩ rfl)
  unfold outsAt0 out0_A_2
  rw [View.read_writes_junk_eq_canon]
  exact out_val c _ _ _ _ _ _ _ _ _ y0 y1

end Cert.Kernel4Ideal.InProjVt

namespace Cert.Proof.InProjVt

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  exact (Cert.Kernel4Ideal.InProjVt.final m c).symm

end Cert.Proof.InProjVt

end
-- ==== Proof.MemRef.lean ====
/- The memory cross-attention of the reference, stage by stage and index by index. -/
module

public import proofs.«01_k».proof.Defs
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Reference5Ideal.Mem

open Cert.Reference5Ideal Cert.Reference5Ideal.Gen

/-- The queries, head by head. -/
def RQ (p : FVec Ideal S2x4096x14616 .f32) : FVec Ideal S2x4096x4x256 .f32 :=
  shapeCast S2x4096x4x256 (extractStridedSlice S2x4096x1024 ![0, 0, 12568] p slices_S2x4096x14616_S2x4096x1024_0_0_12568) shapeCasts_S2x4096x1024_S2x4096x4x256

/-- The memory's keys, head by head. -/
def RK (x : FVec Ideal S2x256x2048 .f32) : FVec Ideal S2x256x4x256 .f32 :=
  shapeCast S2x256x4x256 (extractStridedSlice S2x256x1024 ![0, 0, 0] x slices_S2x256x2048_S2x256x1024_0_0_0) shapeCasts_S2x256x1024_S2x256x4x256

/-- The memory's values, head by head. -/
def RV (x : FVec Ideal S2x256x2048 .f32) : FVec Ideal S2x256x4x256 .f32 :=
  shapeCast S2x256x4x256 (extractStridedSlice S2x256x1024 ![0, 0, 1024] x slices_S2x256x2048_S2x256x1024_0_0_1024) shapeCasts_S2x256x1024_S2x256x4x256

/-- The scores. -/
def RS (q : FVec Ideal S2x4096x4x256 .f32) (k : FVec Ideal S2x256x4x256 .f32) : FVec Ideal S2x4x4096x256 .f32 :=
  mulf (Host.dotGeneral dot_S2x4096x4x256_S2x256x4x256_S2x4x4096x256_3_3_1_1_02_02 none q k) (broadcastInDim S2x4x4096x256 ![] bcast_S_S2x4x4096x256 (constant S_ .f32 0x3D800000#32))

/-- The greatest score of each row, of no other score than the row's. -/
def RM (s : FVec Ideal S2x4x4096x256 .f32) : FVec Ideal S2x4x4096 .f32 :=
  Host.reduce FloatOps.maximumf s (constant S_ .f32 0xFF800000#32) reducesTo_S2x4x4096x256_S2x4x4096_d3 h_S_

/-- The greatest score of each row. -/
def RX (s : FVec Ideal S2x4x4096x256 .f32) : FVec Ideal S2x4x4096 .f32 :=
  maximumf (broadcastInDim S2x4x4096 ![] bcast_S_S2x4x4096 (constant S_ .f32 0xFF800000#32)) (RM s)

/-- The exponentials. -/
def RE (x : FVec Ideal S2x4x4096 .f32) (s : FVec Ideal S2x4x4096x256 .f32) : FVec Ideal S2x4x4096x256 .f32 :=
  Host.exp (subf s (broadcastInDim S2x4x4096x256 ![0, 1, 2, 3] bcast_S2x4x4096x1_S2x4x4096x256_0_1_2_3 (broadcastInDim S2x4x4096x1 ![0, 1, 2] bcast_S2x4x4096_S2x4x4096x1_0_1_2 x)))

/-- The weights. -/
def RW (e : FVec Ideal S2x4x4096x256 .f32) : FVec Ideal S2x4x4096x256 .f32 :=
  Host.divf e (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd e (constant S_ .f32 0x00000000#32) reducesTo_S2x4x4096x256_S2x4x4096_d3 h_S_)))

/-- The means of the values, the heads side by side. -/
def RY (v : FVec Ideal S2x256x4x256 .f32) (w : FVec Ideal S2x4x4096x256 .f32) : FVec Ideal S2x4096x1024 .f32 :=
  shapeCast S2x4096x1024 (transpose S2x4096x4x256 [0, 3, 1, 2] (Host.dotGeneral dot_S2x256x4x256_S2x4x4096x256_S2x4x256x4096_1_3_3_2_02_01 none v w : FVec Ideal S2x4x256x4096 .f32) transposes_S2x4x256x4096_S2x4096x4x256_0_3_1_2 : FVec Ideal S2x4096x4x256 .f32) shapeCasts_S2x4096x4x256_S2x4096x1024

/-- The gates. -/
def RG (p : FVec Ideal S2x4096x14616 .f32) : FVec Ideal S2x4096x1024 .f32 :=
  mulf (extractStridedSlice S2x4096x1024 ![0, 0, 13592] p slices_S2x4096x14616_S2x4096x1024_0_0_13592) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (extractStridedSlice S2x4096x1024 ![0, 0, 13592] p slices_S2x4096x14616_S2x4096x1024_0_0_13592)))))

/-- The reference. -/
def OUT (p : FVec Ideal S2x4096x14616 .f32) (x : FVec Ideal S2x256x2048 .f32) : FVec Ideal S2x4096x1024 .bf16 :=
  truncf .bf16 (mulf (RY (RV x) (RW (RE (RX (RS (RQ p) (RK x))) (RS (RQ p) (RK x))))) (RG p)) bitsLt_bf16_f32

/-- The printed result is the last stage. -/
theorem res_eq (m : (ℓ : Loc nD τ sig) → Buf (Elt Ideal) ℓ) (c : Dev nD) :
    Cert.Reference5Ideal.Value.res_out0 m c = OUT (m ((c.tc : Thread nD τ).loc main_arg0)) (m ((c.tc : Thread nD τ).loc main_arg1)) := rfl

theorem RQ_apply (p : FVec Ideal S2x4096x14616 .f32) (b : Fin 2) (t : Fin 4096) (h : Fin 4) (d : Fin 256) (j : Fin 14616) (hj : j.val = 12568 + (h.val * 256 + d.val)) :
    RQ p (ix4 b t h d) = p (ix3 b t j) := by
  obtain ⟨i, hi⟩ : ∃ i : Fin 1024, i.val = h.val * 256 + d.val := ⟨⟨h.val * 256 + d.val, by omega⟩, rfl⟩
  unfold RQ
  refine (shapeCast_apply _ _ _ (ix3 b t i) ?_).trans ?_
  · rw [Shape.rowMajor_val_three, Shape.rowMajor_val_four]
    show (b.val * 4096 + t.val) * 1024 + i.val = ((b.val * 4096 + t.val) * 4 + h.val) * 256 + d.val
    omega
  pointwise []
  congr 2
  apply Fin.ext; simp; omega

theorem RK_apply (p : FVec Ideal S2x256x2048 .f32) (b : Fin 2) (t : Fin 256) (h : Fin 4) (d : Fin 256) (j : Fin 2048) (hj : j.val = h.val * 256 + d.val) :
    RK p (ix4 b t h d) = p (ix3 b t j) := by
  obtain ⟨i, hi⟩ : ∃ i : Fin 1024, i.val = h.val * 256 + d.val := ⟨⟨h.val * 256 + d.val, by omega⟩, rfl⟩
  unfold RK
  refine (shapeCast_apply _ _ _ (ix3 b t i) ?_).trans ?_
  · rw [Shape.rowMajor_val_three, Shape.rowMajor_val_four]
    show (b.val * 256 + t.val) * 1024 + i.val = ((b.val * 256 + t.val) * 4 + h.val) * 256 + d.val
    omega
  pointwise []
  congr 2
  apply Fin.ext; simp; omega

theorem RV_apply (p : FVec Ideal S2x256x2048 .f32) (b : Fin 2) (t : Fin 256) (h : Fin 4) (d : Fin 256) (j : Fin 2048) (hj : j.val = 1024 + (h.val * 256 + d.val)) :
    RV p (ix4 b t h d) = p (ix3 b t j) := by
  obtain ⟨i, hi⟩ : ∃ i : Fin 1024, i.val = h.val * 256 + d.val := ⟨⟨h.val * 256 + d.val, by omega⟩, rfl⟩
  unfold RV
  refine (shapeCast_apply _ _ _ (ix3 b t i) ?_).trans ?_
  · rw [Shape.rowMajor_val_three, Shape.rowMajor_val_four]
    show (b.val * 256 + t.val) * 1024 + i.val = ((b.val * 256 + t.val) * 4 + h.val) * 256 + d.val
    omega
  pointwise []
  congr 2
  apply Fin.ext; simp; omega

theorem RS_apply (q : FVec Ideal S2x4096x4x256 .f32) (k : FVec Ideal S2x256x4x256 .f32) (b : Fin 2) (h : Fin 4) (t : Fin 4096) (m : Fin 256) :
    RS q k (ix4 b h t m) = (∑ e : Fin 256, (q (ix4 b t h e) : EReal) * k (ix4 b m h e)) * Ideal.ofBits .f32 0x3D800000#32 := by
  pointwise [RS]

theorem neg_inf : Ideal.ofBits FTy.f32 4286578688#32 = ⊥ := by
  simp [Ideal.ofBits, Ideal.ieee]

theorem mx_at (x y : FVec Ideal S2x4x4096 .f32) (i : S2x4x4096.Idx) : maximumf x y i = max (x i) (y i) := rfl

theorem bc_at (x : BitVec 32) (i : S2x4x4096.Idx) : (broadcastInDim S2x4x4096 ![] bcast_S_S2x4x4096 (constant S_ .f32 x : FVec Ideal S_ .f32) : FVec Ideal S2x4x4096 .f32) i = Ideal.ofBits .f32 x := rfl

theorem RM_apply (z : FVec Ideal S2x4x4096x256 .f32) (b : Fin 2) (h : Fin 4) (t : Fin 4096) :
    RM z (ix3 b h t) = Finset.fold max (Ideal.ofBits .f32 0xFF800000#32) (fun s : Fin 256 => z (ix4 b h t s)) Finset.univ := by
  pointwise [RM]

theorem RX_apply (z : FVec Ideal S2x4x4096x256 .f32) (b : Fin 2) (h : Fin 4) (t : Fin 4096) :
    RX z (ix3 b h t) = Finset.fold max ⊥ (fun s : Fin 256 => z (ix4 b h t s)) Finset.univ := by
  unfold RX
  rw [mx_at, bc_at, RM_apply, neg_inf, max_eq_right bot_le]

theorem RE_apply (x : FVec Ideal S2x4x4096 .f32) (z : FVec Ideal S2x4x4096x256 .f32) (b : Fin 2) (h : Fin 4) (t : Fin 4096) (s : Fin 256) :
    RE x z (ix4 b h t s) = Ideal.exp (z (ix4 b h t s) - x (ix3 b h t)) := by
  pointwise [RE]

theorem RW_apply (z : FVec Ideal S2x4x4096x256 .f32) (b : Fin 2) (h : Fin 4) (t : Fin 4096) (s : Fin 256) :
    RW z (ix4 b h t s) = Ideal.div (z (ix4 b h t s)) (∑ s' : Fin 256, z (ix4 b h t s')) := by
  pointwise [RW]

theorem RY_apply (v : FVec Ideal S2x256x4x256 .f32) (w : FVec Ideal S2x4x4096x256 .f32) (b : Fin 2) (t : Fin 4096) (h : Fin 4) (d : Fin 256) (j : Fin 1024) (hj : j.val = h.val * 256 + d.val) :
    RY v w (ix3 b t j) = ∑ m : Fin 256, (v (ix4 b m h d) : EReal) * w (ix4 b h t m) := by
  unfold RY
  refine (shapeCast_apply _ _ _ (ix4 b t h d) ?_).trans ?_
  · rw [Shape.rowMajor_val_three, Shape.rowMajor_val_four]
    show ((b.val * 4096 + t.val) * 4 + h.val) * 256 + d.val = (b.val * 4096 + t.val) * 1024 + j.val
    omega
  pointwise []

theorem RG_apply (p : FVec Ideal S2x4096x14616 .f32) (b : Fin 2) (t : Fin 4096) (i : Fin 1024) (j : Fin 14616) (hj : j.val = 13592 + i.val) :
    RG p (ix3 b t i) = (p (ix3 b t j) : EReal) * Ideal.div 1 (1 + Ideal.exp (- p (ix3 b t j))) := by
  have hj' : (⟨13592 + i.val, by omega⟩ : Fin 14616) = j := Fin.ext hj.symm
  pointwise [RG]
  rw [hj']

theorem tr_at (z : FVec Ideal S2x4096x1024 .f32) (i : S2x4096x1024.Idx) : (truncf .bf16 z bitsLt_bf16_f32 : FVec Ideal S2x4096x1024 .bf16) i = z i := rfl

theorem mul_at (x y : FVec Ideal S2x4096x1024 .f32) (i : S2x4096x1024.Idx) : mulf x y i = x i * y i := rfl

/-- The reference at an index, of its scores. -/
theorem OUT_apply (p : FVec Ideal S2x4096x14616 .f32) (x : FVec Ideal S2x256x2048 .f32) (b : Fin 2) (t : Fin 4096) (h : Fin 4) (d : Fin 256) (j : Fin 1024)
    (hj : j.val = h.val * 256 + d.val) :
    OUT p x (ix3 b t j) = (∑ m : Fin 256, (RV x (ix4 b m h d) : EReal) * Ideal.div (Ideal.exp (RS (RQ p) (RK x) (ix4 b h t m) - Finset.fold max ⊥ (fun s : Fin 256 => RS (RQ p) (RK x) (ix4 b h t s)) Finset.univ))
      (∑ n : Fin 256, Ideal.exp (RS (RQ p) (RK x) (ix4 b h t n) - Finset.fold max ⊥ (fun s : Fin 256 => RS (RQ p) (RK x) (ix4 b h t s)) Finset.univ))) * RG p (ix3 b t j) := by
  unfold OUT
  generalize RS (RQ p) (RK x) = s
  generalize RV x = v
  generalize RG p = g
  rw [tr_at, mul_at, RY_apply v _ b t h d j hj]
  congr 1
  refine Finset.sum_congr rfl fun m _ => ?_
  rw [RW_apply]
  simp only [RE_apply, RX_apply]

end Cert.Reference5Ideal.Mem

end
-- ==== Proof.MemBlk.lean ====
/- The memory cross-attention's block: what the kernel computes of its input blocks, index by index. -/
module

public import proofs.«01_k».proof.Defs
public import proofs.«01_k».proof.Proof.FoxRow
public import proofs.«01_k».proof.Proof.Gen.Kernel5Ideal.Value
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel5Ideal.Mem

open Cert.Kernel5Ideal Cert.Kernel5Ideal.Gen

/-- The scores of a head. -/
def KS (q : FVec Ideal S512x256 .bf16) (k : FVec Ideal S256x256 .bf16) : FVec Ideal S512x256 .f32 :=
  mulf (matmul dot_S512x256_S256x256_S512x256_1_1_0_0_n_n none q k (constant S512x256 .f32 0x00000000#32)) (broadcast S512x256 (Scalar.ofBits .f32 0x3D800000#32 : Ideal .f32))

/-- The exponentials of a head. -/
def KE (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1 : FVec Ideal S512x1 .f32) broadcasts_S512x1_S512x256))

/-- The quotient of the weighted values by the sum of the weights. -/
def KH (e : FVec Ideal S512x256 .f32) (v : FVec Ideal S256x256 .bf16) : FVec Ideal S512x256 .f32 :=
  divf (matmul dot_S512x256_S256x256_S512x256_1_0_0_1_n_n none (truncf .bf16 e bitsLt_bf16_f32 : FVec Ideal S512x256 .bf16) v (constant S512x256 .f32 0x00000000#32))
    (broadcastTo S512x256 (shapeCast S512x1 (multiReduction .add [1] S512 e 0x00000000#32 reduces_S512x256_S512 (.inl rfl) rfl) shapeCasts_S512_S512x1 : FVec Ideal S512x1 .f32) broadcasts_S512x1_S512x256)

/-- A head, of its loaded blocks. -/
def HD (q : FVec Ideal S1x512x256 .bf16) (k v : FVec Ideal S1x256x256 .bf16) : FVec Ideal S512x256 .f32 :=
  KH (KE (KS (shapeCast S512x256 q shapeCasts_S1x512x256_S512x256) (shapeCast S256x256 k shapeCasts_S1x256x256_S256x256))) (shapeCast S256x256 v shapeCasts_S1x256x256_S256x256)

/-- The gates. -/
def GT (g : FVec Ideal S1x512x1024 .f32) : FVec Ideal S512x1024 .f32 :=
  mulf (shapeCast S512x1024 g shapeCasts_S1x512x1024_S512x1024) (divf (broadcast S512x1024 (Scalar.ofBits .f32 0x3F800000#32 : Ideal .f32)) (addf (broadcast S512x1024 (Scalar.ofBits .f32 0x3F800000#32 : Ideal .f32)) (exp (subf (broadcast S512x1024 (Scalar.ofBits .f32 0x00000000#32 : Ideal .f32)) (shapeCast S512x1024 g shapeCasts_S1x512x1024_S512x1024)))))

/-- The heads side by side. -/
def CT (a b c d : FVec Ideal S512x256 .f32) : FVec Ideal S512x1024 .f32 :=
  concatenate S512x1024 1 [⟨S512x256, a⟩, ⟨S512x256, b⟩, ⟨S512x256, c⟩, ⟨S512x256, d⟩] concatenates_S512x256_S512x256_S512x256_S512x256_S512x1024_d1

/-- The gated heads. -/
def OT (x y : FVec Ideal S512x1024 .f32) : FVec Ideal S1x512x1024 .bf16 :=
  shapeCast S1x512x1024 (truncf .bf16 (mulf x y) bitsLt_bf16_f32 : FVec Ideal S512x1024 .bf16) shapeCasts_S512x1024_S1x512x1024

theorem h0 (q k v) : k0_pay2 (F := Ideal) q k v = HD q k v := rfl
theorem h1 (q k v) : k0_pay6 (F := Ideal) (k0_pay3 v) (k0_pay4 q k) (k0_pay5 q k) = HD q k v := rfl
theorem h2 (q k v) : k0_pay7 (F := Ideal) q k v = HD q k v := rfl
theorem h3 (a b c q k v g) : k0_pay1 (F := Ideal) a b c (k0_pay8 q) (k0_pay9 k) (k0_pay10 v) (constant S512x256 .f32 0x00000000#32) g = OT (CT a b c (HD q k v)) (GT g) := rfl

theorem KS_apply (q : FVec Ideal S512x256 .bf16) (k : FVec Ideal S256x256 .bf16) (t : Fin 512) (m : Fin 256) :
    KS q k (ix2 t m) = (∑ e : Fin 256, (q (ix2 t e) : EReal) * k (ix2 m e)) * Ideal.ofBits .f32 0x3D800000#32 := by
  pointwise [KS]

theorem neg_inf : Ideal.ofBits FTy.f32 4286578688#32 = ⊥ := by
  simp [Ideal.ofBits, Ideal.ieee]

theorem KE_apply (s : FVec Ideal S512x256 .f32) (t : Fin 512) (m : Fin 256) :
    KE s (ix2 t m) = Ideal.exp (s (ix2 t m) - Finset.fold max ⊥ (fun n : Fin 256 => (s (ix2 t n) : EReal)) Finset.univ) := by
  pointwise [KE]
  rw [neg_inf]

theorem KH_apply (e : FVec Ideal S512x256 .f32) (v : FVec Ideal S256x256 .bf16) (t : Fin 512) (d : Fin 256) :
    KH e v (ix2 t d) = Ideal.div (∑ m : Fin 256, (e (ix2 t m) : EReal) * v (ix2 m d)) (∑ m : Fin 256, (e (ix2 t m) : EReal)) := by
  pointwise [KH]

theorem GT_apply (g : FVec Ideal S1x512x1024 .f32) (t : Fin 512) (j : Fin 1024) :
    GT g (ix2 t j) = (g (ix3 (0 : Fin 1) t j) : EReal) * Ideal.div 1 (1 + Ideal.exp (0 - g (ix3 (0 : Fin 1) t j))) := by
  pointwise [GT]

theorem OT_apply (x y : FVec Ideal S512x1024 .f32) (z : Fin 1) (t : Fin 512) (j : Fin 1024) :
    OT x y (ix3 z t j) = (x (ix2 t j) : EReal) * y (ix2 t j) := by
  pointwise [OT]

theorem q_apply (q : FVec Ideal S1x512x256 .bf16) (t : Fin 512) (e : Fin 256) : (shapeCast S512x256 q shapeCasts_S1x512x256_S512x256 : FVec Ideal S512x256 .bf16) (ix2 t e) = q (ix3 (0 : Fin 1) t e) := by
  pointwise []

theorem k_apply (k : FVec Ideal S1x256x256 .bf16) (m : Fin 256) (e : Fin 256) : (shapeCast S256x256 k shapeCasts_S1x256x256_S256x256 : FVec Ideal S256x256 .bf16) (ix2 m e) = k (ix3 (0 : Fin 1) m e) := by
  pointwise []

/-- The heads side by side, at a head. -/
theorem CT_apply (f : Fin 4 → FVec Ideal S512x256 .f32) (t : Fin 512) (h : Fin 4) (d : Fin 256) (j : Fin 1024) (hj : j.val = h.val * 256 + d.val) :
    CT (f 0) (f 1) (f 2) (f 3) (ix2 t j) = f h (ix2 t d) := by
  pointwise [CT]
  have hd := d.isLt
  fin_cases h
  · have e : j.val = d.val := by simpa using hj
    rw [dif_pos (by omega)]
    congr 2; exact Fin.ext e
  · have e : j.val = 256 + d.val := by simpa using hj
    rw [dif_neg (by omega), dif_pos (by omega)]
    congr 2; apply Fin.ext; show j.val - 256 = d.val; omega
  · have e : j.val = 512 + d.val := by simpa using hj
    rw [dif_neg (by omega), dif_neg (by omega), dif_pos (by omega)]
    congr 2; apply Fin.ext; show j.val - 256 - 256 = d.val; omega
  · have e : j.val = 768 + d.val := by simpa using hj
    rw [dif_neg (by omega), dif_neg (by omega), dif_neg (by omega)]
    congr 2; apply Fin.ext; show j.val - 256 - 256 - 256 = d.val; omega

/-- The quotient of the weighted sum by the weights' sum is the sum of the values under the weights' quotients, the scores
    being real. -/
theorem row (s v : Fin 256 → EReal) (hs : ∀ m, ∃ r : ℝ, s m = r) :
    Ideal.div (∑ m, Ideal.exp (s m - Finset.fold max ⊥ s Finset.univ) * v m) (∑ m, Ideal.exp (s m - Finset.fold max ⊥ s Finset.univ))
      = ∑ m, v m * Ideal.div (Ideal.exp (s m - Finset.fold max ⊥ s Finset.univ)) (∑ n, Ideal.exp (s n - Finset.fold max ⊥ s Finset.univ)) := by
  have hμ : ∃ μ : ℝ, Finset.fold max ⊥ s Finset.univ = μ := by
    have hM : Finset.fold max ⊥ s Finset.univ = Finset.univ.sup s := rfl
    obtain ⟨i, _, hi⟩ := Finset.exists_mem_eq_sup (Finset.univ : Finset (Fin 256)) ⟨⟨0, by omega⟩, Finset.mem_univ _⟩ s
    obtain ⟨r, hr⟩ := hs i
    exact ⟨r, hM.trans (hi.trans hr)⟩
  obtain ⟨μ, hμ⟩ := hμ
  choose r hr using hs
  rw [hμ]
  have hw : ∀ m, Ideal.exp (s m - (μ : EReal)) = ((Real.exp (r m - μ) : ℝ) : EReal) := fun m => by rw [hr, Cert.Fox.exp_sub]
  simp only [hw]
  rw [Cert.Fox.coe_sum]
  have hpos : 0 < ∑ m, Real.exp (r m - μ) := Finset.sum_pos (fun m _ => Real.exp_pos _) ⟨⟨0, by omega⟩, Finset.mem_univ _⟩
  rw [Ideal.div_coe hpos.ne', mul_comm, Cert.Fox.coe_mul_sum _ (by positivity)]
  refine Finset.sum_congr rfl fun m _ => ?_
  rw [Ideal.div_coe hpos.ne', ← mul_assoc, mul_comm]
  congr 1
  exact mul_comm _ _

/-- A head at an index, of its scores. -/
theorem HD_apply (q : FVec Ideal S1x512x256 .bf16) (k v : FVec Ideal S1x256x256 .bf16) (t : Fin 512) (d : Fin 256) (s w : Fin 256 → EReal)
    (hs : ∀ m, (∑ e : Fin 256, (q (ix3 (0 : Fin 1) t e) : EReal) * k (ix3 (0 : Fin 1) m e)) * Ideal.ofBits .f32 0x3D800000#32 = s m)
    (hw : ∀ m, v (ix3 (0 : Fin 1) m d) = w m) (hr : ∀ m, ∃ r : ℝ, s m = r) :
    HD q k v (ix2 t d) = ∑ m, w m * Ideal.div (Ideal.exp (s m - Finset.fold max ⊥ s Finset.univ)) (∑ n, Ideal.exp (s n - Finset.fold max ⊥ s Finset.univ)) := by
  unfold HD
  rw [KH_apply, ← row s w hr]
  simp only [KE_apply, KS_apply, q_apply, k_apply, hs, hw]

end Cert.Kernel5Ideal.Mem

end
-- ==== Proof.Mem.lean ====
/- The memory cross-attention: what the kernel's result array holds is the reference's, on finite queries and keys. -/
module

public import proofs.«01_k».proof.Defs
public import proofs.«01_k».proof.Proof.MemRef
public import proofs.«01_k».proof.Proof.MemBlk
public import proofs.«01_k».proof.Proof.FoxPre
public import proofs.«01_k».proof.Proof.Gen.Kernel5.Frame
public import proofs.«01_k».proof.Proof.Gen.Pre_mem_finite
public import Idealize.ShloMosaic.Lib.Pipeline.ValueKit
public import Idealize.ShloMosaic.Lib.Pointwise
public import Idealize.ShloMosaic.Lib.ReduceAll
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Mem

open Cert.Kernel5Ideal Cert.Kernel5Ideal.Gen

open Cert.Reference5Ideal.Mem (RQ RK RV RS RG OUT)

/-- The precondition's two parts. -/
theorem pre_parts (p : FVec Ideal S2x4096x14616 .f32) (x : FVec Ideal S2x256x2048 .f32) (h : Cert.Pre_mem_finite.fn (F := Ideal) p x = (fun _ => 1#1)) :
    (∀ (n : Fin 2) (t : Fin 4096) (j : Fin 1024), ∃ r : ℝ, p (ix3 n t (⟨12568 + j.val, by omega⟩ : Fin 14616)) = r)
    ∧ ∀ (n : Fin 2) (t : Fin 256) (j : Fin 1024), ∃ r : ℝ, x (ix3 n t (⟨j.val, by omega⟩ : Fin 2048)) = r := by
  unfold Cert.Pre_mem_finite.fn at h
  have h0 := congrFun h ix0
  obtain ⟨h1, h2⟩ := IntOp.andi_eq_one.1 h0
  haveI : Subsingleton Cert.Pre_mem_finite.S_.Idx := ⟨fun a b => funext fun i => i.elim0⟩
  refine ⟨fun n t j => ?_, fun n t j => ?_⟩
  · have := Host.reduce_andi_all _ _ _ _ _ h1 (ix3 n t j)
    refine Cert.KernelIdeal.Fox.real_of _ ((?_ : _ = _).trans this)
    pointwise []
  · have := Host.reduce_andi_all _ _ _ _ _ h2 (ix3 n t j)
    refine Cert.KernelIdeal.Fox.real_of _ ((?_ : _ = _).trans this)
    pointwise []

theorem scale_bits : Ideal.ofBits FTy.f32 0x3D800000#32 = ((1 / 16 : ℝ) : EReal) := by
  have h : ((8388608 : ℝ) : EReal) * (((2 ^ 27 : ℝ)⁻¹ : ℝ) : EReal) = ((1 / 16 : ℝ) : EReal) := by
    rw [← EReal.coe_mul]; congr 1; norm_num
  simpa [Ideal.ofBits, Ideal.ieee] using h

/-- The scores of real queries and keys are real. -/
theorem score_real (p : FVec Ideal S2x4096x14616 .f32) (x : FVec Ideal S2x256x2048 .f32) (h : Cert.Pre_mem_finite.fn (F := Ideal) p x = (fun _ => 1#1))
    (b : Fin 2) (g : Fin 4) (t : Fin 4096) (n : Fin 256) : ∃ r : ℝ, RS (RQ p) (RK x) (ix4 b g t n) = r := by
  obtain ⟨hp, hx⟩ := pre_parts p x h
  have hq : ∀ e : Fin 256, ∃ r : ℝ, RQ p (ix4 b t g e) = r := by
    intro e
    obtain ⟨i, hi⟩ : ∃ i : Fin 1024, i.val = g.val * 256 + e.val := ⟨⟨g.val * 256 + e.val, by omega⟩, rfl⟩
    obtain ⟨r, hr⟩ := hp b t i
    refine ⟨r, (Cert.Reference5Ideal.Mem.RQ_apply p b t g e _ ?_).trans hr⟩
    show 12568 + i.val = _
    omega
  have hk : ∀ e : Fin 256, ∃ r : ℝ, RK x (ix4 b n g e) = r := by
    intro e
    obtain ⟨i, hi⟩ : ∃ i : Fin 1024, i.val = g.val * 256 + e.val := ⟨⟨g.val * 256 + e.val, by omega⟩, rfl⟩
    obtain ⟨r, hr⟩ := hx b n i
    exact ⟨r, (Cert.Reference5Ideal.Mem.RK_apply x b n g e _ hi).trans hr⟩
  choose q hq using hq
  choose k hk using hk
  refine ⟨(∑ e, q e * k e) * (1 / 16), ?_⟩
  rw [Cert.Reference5Ideal.Mem.RS_apply, scale_bits]
  simp only [hq, hk, ← EReal.coe_mul]
  rw [Cert.Fox.coe_sum, ← EReal.coe_mul]

variable (m : (ℓ : Loc nD τ sig) → Buf (Elt Ideal) ℓ)

abbrev aP (c : Dev nD) : FVec Ideal S2x4096x14616 .f32 := m ((c : Thread nD τ).loc main_arg0)
abbrev aX (c : Dev nD) : FVec Ideal S2x256x2048 .f32 := m ((c : Thread nD τ).loc main_arg1)

theorem idx : ∀ t : Fin cfg0.N, win0_0.index t = ![t.val / 8, t.val % 8, 3] ∧ win0_1.index t = ![t.val / 8, 0, 0] ∧ win0_2.index t = ![t.val / 8, t.val % 8, 6]
    ∧ win0_3.index t = ![t.val / 8, t.val % 8, 0] ∧ t.val < 16 :=
  (by decide +kernel : ∀ t : Fin grid0.N, _)

theorem V3 (c : Dev nD) : (V m c main_v3 : FVec Ideal S2x4096x4096 .bf16)
    = (truncf .bf16 (concatenate S2x4096x4096 2
      [⟨S2x4096x3072, extractStridedSlice S2x4096x3072 ![0, 0, 6400] (aP m c) slices_S2x4096x14616_S2x4096x3072_0_0_6400⟩,
       ⟨S2x4096x1024, extractStridedSlice S2x4096x1024 ![0, 0, 12568] (aP m c) slices_S2x4096x14616_S2x4096x1024_0_0_12568⟩]
      concatenates_S2x4096x3072_S2x4096x1024_S2x4096x4096_d2 : FVec Ideal S2x4096x4096 .f32) bitsLt_bf16_f32 : FVec Ideal S2x4096x4096 .bf16) := by
  unfold V
  after_results

theorem V4 (c : Dev nD) : (V m c main_v4 : FVec Ideal S2x256x2048 .bf16) = (truncf .bf16 (aX m c) bitsLt_bf16_f32 : FVec Ideal S2x256x2048 .bf16) := by
  unfold V
  after_results

theorem V11 (c : Dev nD) : (V m c main_v11 : FVec Ideal S2x4096x9216 .f32)
    = (concatenate S2x4096x9216 2
      [⟨S2x4096x1536, extractStridedSlice S2x4096x1536 ![0, 0, 4864] (aP m c) slices_S2x4096x14616_S2x4096x1536_0_0_4864⟩,
       ⟨S2x4096x4608, extractStridedSlice S2x4096x4608 ![0, 0, 0] (aP m c) slices_S2x4096x14616_S2x4096x4608_0_0_0⟩,
       ⟨S2x4096x1024, extractStridedSlice S2x4096x1024 ![0, 0, 13592] (aP m c) slices_S2x4096x14616_S2x4096x1024_0_0_13592⟩,
       ⟨S2x4096x1536, extractStridedSlice S2x4096x1536 ![0, 0, 11032] (aP m c) slices_S2x4096x14616_S2x4096x1536_0_0_11032⟩,
       ⟨S2x4096x256, extractStridedSlice S2x4096x256 ![0, 0, 4608] (aP m c) slices_S2x4096x14616_S2x4096x256_0_0_4608⟩,
       ⟨S2x4096x256, extractStridedSlice S2x4096x256 ![0, 0, 11008] (aP m c) slices_S2x4096x14616_S2x4096x256_0_0_11008⟩]
      concatenates_S2x4096x1536_S2x4096x4608_S2x4096x1024_S2x4096x1536_S2x4096x256_S2x4096x256_S2x4096x9216_d2 : FVec Ideal S2x4096x9216 .f32) := by
  unfold V
  after_results
  rfl

theorem V3_at (c : Dev nD) (b : Fin 2) (t : Fin 4096) (i : Fin 4096) (q : Fin 14616) (hi : 3072 ≤ i.val) (hq : q.val = 12568 + (i.val - 3072)) :
    (V m c main_v3 : FVec Ideal S2x4096x4096 .bf16) (ix3 b t i) = aP m c (ix3 b t q) := by
  rw [V3]
  generalize aP m c = p
  pointwise []
  rw [dif_neg (by omega)]
  congr 2
  apply Fin.ext; simp; omega

theorem V11_at (c : Dev nD) (b : Fin 2) (t : Fin 4096) (i : Fin 9216) (q : Fin 14616) (hi : 6144 ≤ i.val) (hi' : i.val < 7168) (hq : q.val = 13592 + (i.val - 6144)) :
    (V m c main_v11 : FVec Ideal S2x4096x9216 .f32) (ix3 b t i) = aP m c (ix3 b t q) := by
  rw [V11]
  generalize aP m c = p
  pointwise []
  rw [dif_neg (by omega), dif_neg (by omega), dif_pos (by omega)]
  have e : (⟨13592 + (i.val - 1536 - 4608), by omega⟩ : Fin 14616) = q := Fin.ext (by show 13592 + (i.val - 1536 - 4608) = q.val; omega)
  rw [← e]

theorem q_at (c : Dev nD) (t : Fin cfg0.N) (a : Fin 512) (i : Fin 1024) (b : Fin 2) (s : Fin 4096) (q : Fin 14616)
    (hb : b.val = t.val / 8) (hs : s.val = t.val % 8 * 512 + a.val) (hq : q.val = 12568 + i.val) :
    (iblk m c 0 t : FVec Ideal S1x512x1024 .bf16) (ix3 (0 : Fin 1) a i) = aP m c (ix3 b s q) := by
  obtain ⟨e0, e1, e2, e3, e4⟩ := idx t
  obtain ⟨u, hu⟩ : ∃ u : Fin 4096, u.val = 3072 + i.val := ⟨⟨3072 + i.val, by omega⟩, rfl⟩
  refine Eq.trans ?_ (V3_at m c b s u q (by omega) (by omega))
  unfold iblk
  show V m c main_v3 _ = _
  blk_ext [e0, hb, hs, hu]

theorem x_at (c : Dev nD) (t : Fin cfg0.N) (n : Fin 256) (i : Fin 2048) (b : Fin 2) (hb : b.val = t.val / 8) :
    (iblk m c 1 t : FVec Ideal S1x256x2048 .bf16) (ix3 (0 : Fin 1) n i) = aX m c (ix3 b n i) := by
  obtain ⟨e0, e1, e2, e3, e4⟩ := idx t
  unfold iblk
  show V m c main_v4 _ = _
  rw [V4]
  blk_ext [e1, hb]

theorem g_at (c : Dev nD) (t : Fin cfg0.N) (a : Fin 512) (i : Fin 1024) (b : Fin 2) (s : Fin 4096) (q : Fin 14616)
    (hb : b.val = t.val / 8) (hs : s.val = t.val % 8 * 512 + a.val) (hq : q.val = 13592 + i.val) :
    (iblk m c 2 t : FVec Ideal S1x512x1024 .f32) (ix3 (0 : Fin 1) a i) = aP m c (ix3 b s q) := by
  obtain ⟨e0, e1, e2, e3, e4⟩ := idx t
  obtain ⟨u, hu⟩ : ∃ u : Fin 9216, u.val = 6144 + i.val := ⟨⟨6144 + i.val, by omega⟩, rfl⟩
  refine Eq.trans ?_ (V11_at m c b s u q (by omega) (by omega) (by omega))
  unfold iblk
  show V m c main_v11 _ = _
  blk_ext [e2, hb, hs, hu]

theorem ldq (x : FVec Ideal S1x512x1024 .bf16) (o : ℕ) (inb) (a : Fin 512) (e : Fin 256) (i : Fin 1024) (hi : i.val = o + e.val) :
    (View.ld (Val := Elt Ideal) (e' := .bf16) x (Rect.unit (s := S1x512x1024) ![0, 0, o] S1x512x256.size inb) : FVec Ideal S1x512x256 .bf16) (ix3 (0 : Fin 1) a e) = x (ix3 (0 : Fin 1) a i) := by
  show x _ = x _
  congr 1
  funext y; apply Fin.ext
  fin_cases y
  · show 0 + 1 * 0 = 0; omega
  · show 0 + 1 * a.val = a.val; omega
  · show o + 1 * e.val = i.val; omega

theorem ldk (x : FVec Ideal S1x256x2048 .bf16) (o : ℕ) (inb) (a : Fin 256) (e : Fin 256) (i : Fin 2048) (hi : i.val = o + e.val) :
    (View.ld (Val := Elt Ideal) (e' := .bf16) x (Rect.unit (s := S1x256x2048) ![0, 0, o] S1x256x256.size inb) : FVec Ideal S1x256x256 .bf16) (ix3 (0 : Fin 1) a e) = x (ix3 (0 : Fin 1) a i) := by
  show x _ = x _
  congr 1
  funext y; apply Fin.ext
  fin_cases y
  · show 0 + 1 * 0 = 0; omega
  · show 0 + 1 * a.val = a.val; omega
  · show o + 1 * e.val = i.val; omega

theorem ldg (x : FVec Ideal S1x512x1024 .f32) (inb) : (View.ld (Val := Elt Ideal) (e' := .f32) x (Rect.unit (s := S1x512x1024) ![0, 0, 0] S1x512x1024.size inb) : FVec Ideal S1x512x1024 .f32) = x := by
  funext y
  show x _ = x _
  congr 1
  funext a; apply Fin.ext
  fin_cases a
  · show 0 + 1 * (y 0).val = (y 0).val; omega
  · show 0 + 1 * (y 1).val = (y 1).val; omega
  · show 0 + 1 * (y 2).val = (y 2).val; omega

/-- A head at an index is the reference's, before the gate. -/
theorem head (c : Dev nD) (hp : Cert.Pre_mem_finite.fn (F := Ideal) (aP m c) (aX m c) = (fun _ => 1#1)) (t : Fin cfg0.N) (a : Fin 512) (g : Fin 4) (d : Fin 256) (b : Fin 2) (s : Fin 4096)
    (hb : b.val = t.val / 8) (hs : s.val = t.val % 8 * 512 + a.val) (o o' : ℕ) (ho : o = g.val * 256) (ho' : o' = 1024 + g.val * 256) (i1) (i2) (i3) :
    HD (View.ld (Val := Elt Ideal) (e' := .bf16) (iblk m c 0 t : FVec Ideal S1x512x1024 .bf16) (Rect.unit (s := S1x512x1024) ![0, 0, o] S1x512x256.size i1))
      (View.ld (Val := Elt Ideal) (e' := .bf16) (iblk m c 1 t : FVec Ideal S1x256x2048 .bf16) (Rect.unit (s := S1x256x2048) ![0, 0, o] S1x256x256.size i2))
      (View.ld (Val := Elt Ideal) (e' := .bf16) (iblk m c 1 t : FVec Ideal S1x256x2048 .bf16) (Rect.unit (s := S1x256x2048) ![0, 0, o'] S1x256x256.size i3)) (ix2 a d)
    = ∑ n : Fin 256, (RV (aX m c) (ix4 b n g d) : EReal) * Ideal.div (Ideal.exp (RS (RQ (aP m c)) (RK (aX m c)) (ix4 b g s n) - Finset.fold max ⊥ (fun n : Fin 256 => RS (RQ (aP m c)) (RK (aX m c)) (ix4 b g s n)) Finset.univ))
      (∑ n' : Fin 256, Ideal.exp (RS (RQ (aP m c)) (RK (aX m c)) (ix4 b g s n') - Finset.fold max ⊥ (fun n : Fin 256 => RS (RQ (aP m c)) (RK (aX m c)) (ix4 b g s n)) Finset.univ)) := by
  refine HD_apply _ _ _ a d (fun n => RS (RQ (aP m c)) (RK (aX m c)) (ix4 b g s n)) (fun n => RV (aX m c) (ix4 b n g d)) (fun n => ?_) (fun n => ?_) (fun n => score_real _ _ hp b g s n)
  · refine Eq.trans ?_ (Cert.Reference5Ideal.Mem.RS_apply _ _ b g s n).symm
    congr 1
    refine Finset.sum_congr rfl fun e _ => Ideal.mul_congr ?_ ?_
    · obtain ⟨i, hi⟩ : ∃ i : Fin 1024, i.val = o + e.val := ⟨⟨o + e.val, by omega⟩, rfl⟩
      obtain ⟨q, hq⟩ : ∃ q : Fin 14616, q.val = 12568 + i.val := ⟨⟨12568 + i.val, by omega⟩, rfl⟩
      rw [ldq _ o _ a e i hi, q_at m c t a i b s q hb hs hq, Cert.Reference5Ideal.Mem.RQ_apply _ b s g e q (by omega)]
    · obtain ⟨i, hi⟩ : ∃ i : Fin 2048, i.val = o + e.val := ⟨⟨o + e.val, by omega⟩, rfl⟩
      rw [ldk _ o _ n e i hi, x_at m c t n i b hb, Cert.Reference5Ideal.Mem.RK_apply _ b n g e i (by omega)]
  · obtain ⟨i, hi⟩ : ∃ i : Fin 2048, i.val = o' + d.val := ⟨⟨o' + d.val, by omega⟩, rfl⟩
    rw [ldk _ o' _ n d i hi, x_at m c t n i b hb, Cert.Reference5Ideal.Mem.RV_apply _ b n g d i (by omega)]

/-- The result array after the run. -/
theorem final (c : Dev nD) (hp : Cert.Pre_mem_finite.fn (F := Ideal) (aP m c) (aX m c) = (fun _ => 1#1)) : (dats m 0 c).arrAt 3 (cfgs 0).N
    = OUT (aP m c) (aX m c) := by
  refine (dats m 0 c).arrAt_eq_of_covers 3 _ (by decide +kernel) fun t _ y => ?_
  blk_simp
  rw [after0_3]
  unfold out0_3
  obtain ⟨e0, e1, e2, e3, e4⟩ := idx t
  idx_vars y
  have hB : t.val / 8 < 2 := by omega
  have hN : t.val % 8 * 512 + y1.val < 4096 := by omega
  obtain ⟨b, hb⟩ : ∃ b : Fin 2, b.val = t.val / 8 := ⟨⟨_, hB⟩, rfl⟩
  obtain ⟨s, hs⟩ : ∃ s : Fin 4096, s.val = t.val % 8 * 512 + y1.val := ⟨⟨_, hN⟩, rfl⟩
  have he : ((cfg0.win 3).blk t).view.emb (ix3 y0 y1 y2) = ix3 b s y2 := by
    blk_ext [e3, hb, hs]
  rw [he]
  obtain ⟨g, hg⟩ : ∃ g : Fin 4, g.val = y2.val / 256 := ⟨⟨y2.val / 256, by omega⟩, rfl⟩
  obtain ⟨d, hd⟩ : ∃ d : Fin 256, d.val = y2.val % 256 := ⟨⟨y2.val % 256, by omega⟩, rfl⟩
  have hj : y2.val = g.val * 256 + d.val := by omega
  rw [Cert.Reference5Ideal.Mem.OUT_apply _ _ b s g d y2 hj]
  rw [h0, h1, h2, h3, ldg]
  have hc : ∀ (w : FVec Ideal S1x512x1024 .bf16) z, View.canon (Val := Elt Ideal) [(⟨r0_12, w⟩ : View.Piece (Elt Ideal) S1x512x1024 .bf16)] z = w z := by
    intro w z
    refine View.canon_eq_of_allAt _ _ _ (cover0_3 _ z) ?_
    refine View.allAt_cons_unit _ _ _ _ _ ?_ (View.allAt_nil _ _)
    intro x hx
    congr 1
    funext i; apply Fin.ext
    have := hx i
    fin_cases i
    · exact (this.trans (Nat.zero_add _)).symm
    · exact (this.trans (Nat.zero_add _)).symm
    · exact (this.trans (Nat.zero_add _)).symm
  refine (hc _ _).trans ?_
  rw [OT_apply]
  refine Ideal.mul_congr ?_ ?_
  · refine (CT_apply ![_, _, _, _] y1 g d y2 hj).trans ?_
    fin_cases g
    · exact head m c hp t y1 0 d b s hb hs _ _ rfl rfl _ _ _
    · exact head m c hp t y1 1 d b s hb hs _ _ rfl rfl _ _ _
    · exact head m c hp t y1 2 d b s hb hs _ _ rfl rfl _ _ _
    · exact head m c hp t y1 3 d b s hb hs _ _ rfl rfl _ _ _
  · obtain ⟨q, hq⟩ : ∃ q : Fin 14616, q.val = 13592 + y2.val := ⟨⟨13592 + y2.val, by omega⟩, rfl⟩
    rw [GT_apply, g_at m c t y1 y2 b s q hb hs hq, Cert.Reference5Ideal.Mem.RG_apply _ b s y2 q hq, zero_sub]

end Cert.Kernel5Ideal.Mem

namespace Cert.Proof.Mem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_pi_pre : Cert.quiescent_Kernel5Ideal_pre_mem_finite := fun m ρ _ => Cert.Kernel5Ideal.Gen.frame m ρ
theorem frame_ri_pre : Cert.quiescent_Reference5Ideal_pre_mem_finite := fun m ρ _ => frame_ri m ρ trivial

theorem preserves : Cert.preserves_Kernel5_Kernel5Ideal := trivial

/-- On finite queries and keys the kernel's heads are the reference's. -/
theorem algebraic : Cert.algebraic_Kernel5Ideal_Reference5Ideal_pre_mem_finite := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  refine (Cert.Reference5Ideal.Mem.res_eq m' c).trans ?_
  rw [(hagree c).1, (hagree c).2]
  exact (Cert.Kernel5Ideal.Mem.final m c (hpre c)).symm

end Cert.Proof.Mem

end
-- ==== Proof.MemKv.lean ====
/- The memory's keys and values: what the kernel's result array holds is the product of the normalised memory with the weights. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.VecWindow
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.MemKv

open Cert.Kernel6Ideal Cert.Kernel6Ideal.Gen

/-- The reference: the product, the batches one below the other. -/
def REF (h : FVec Ideal S2x256x4096 .f32) (w : FVec Ideal S4096x2048 .f32) : FVec Ideal S512x2048 .bf16 :=
  truncf .bf16 (shapeCast S512x2048 (Host.dotGeneral Cert.Reference6Ideal.dot_S2x256x4096_S4096x2048_S2x256x2048_2_0_01_1_n_n none h w : FVec Ideal Cert.Reference6Ideal.S2x256x2048 .f32)
    Cert.Reference6Ideal.Gen.shapeCasts_S2x256x2048_S512x2048 : FVec Ideal S512x2048 .f32) bitsLt_bf16_f32

theorem tr_at (z : FVec Ideal S512x2048 .f32) (i : S512x2048.Idx) : (truncf .bf16 z bitsLt_bf16_f32 : FVec Ideal S512x2048 .bf16) i = z i := rfl

theorem ref_apply (h : FVec Ideal S2x256x4096 .f32) (w : FVec Ideal S4096x2048 .f32) (n : Fin 512) (j : Fin 2048) (b : Fin 2) (t : Fin 256) (hn : n.val = b.val * 256 + t.val) :
    REF h w (ix2 n j) = ∑ k : Fin 4096, (h (ix3 b t k) : EReal) * w (ix2 k j) := by
  unfold REF
  rw [tr_at]
  refine (shapeCast_apply _ _ _ (ix3 b t j) ?_).trans ?_
  · rw [Shape.rowMajor_val_three, Shape.rowMajor_val_two]
    show (b.val * 256 + t.val) * 2048 + j.val = n.val * 2048 + j.val
    omega
  pointwise []

theorem rd (d : Fin 2 → ℕ) (e : EltTy) (arg : Memref sig .tc .vmem ⟨2, d⟩ e) (harg : arg.IsWhole) (X : Vec Ideal ⟨2, d⟩ e)
    (inb : ∀ a', (![0, 0] : Fin 2 → ℕ) a' + d a' ≤ d a') :
    View.readAt (Elt Ideal) arg.view (Rect.unit (s := ⟨2, d⟩) ![0, 0] d inb).toLoadRect (harg.unread X) = X := by
  funext x
  rw [View.readAt_apply, harg.read_unread]
  congr 1
  funext y; apply Fin.ext
  fin_cases y
  · show 0 + 1 * (x 0).val = (x 0).val; omega
  · show 0 + 1 * (x 1).val = (x 1).val; omega

theorem prod_at (x : Vec Ideal S512x4096 .bf16) (w : Vec Ideal S4096x512 .f32) (a b : Fin 512) :
    k0_pay2 (F := Ideal) x (k0_pay1 (F := Ideal) w) (ix2 a b) = ∑ k : Fin 4096, (x (ix2 a k) : EReal) * w (ix2 k b) := by
  pointwise [k0_pay2, k0_pay1]

variable (m : (ℓ : Loc nD τ sig) → Buf (Elt Ideal) ℓ)

theorem idx : ∀ t : Fin cfg0.N, win0_0.index t = ![0, 0] ∧ win0_1.index t = ![0, t.val] ∧ win0_2.index t = ![0, t.val] ∧ t.val < 4 :=
  (by decide +kernel : ∀ t : Fin grid0.N, _)

theorem V1 (c : Dev nD) : (V m c main_v1 : FVec Ideal S512x4096 .bf16)
    = (truncf .bf16 (shapeCast S512x4096 (m ((c : Thread nD τ).loc main_arg0) : FVec Ideal S2x256x4096 .f32) shapeCasts_S2x256x4096_S512x4096 : FVec Ideal S512x4096 .f32) bitsLt_bf16_f32 : FVec Ideal S512x4096 .bf16) := by
  unfold V
  after_results
  rfl

theorem x_at (c : Dev nD) (n : Fin 512) (k : Fin 4096) (b : Fin 2) (t : Fin 256) (hn : n.val = b.val * 256 + t.val) :
    (V m c main_v1 : FVec Ideal S512x4096 .bf16) (ix2 n k) = (m ((c : Thread nD τ).loc main_arg0) : FVec Ideal S2x256x4096 .f32) (ix3 b t k) := by
  rw [V1]
  generalize (m ((c : Thread nD τ).loc main_arg0) : FVec Ideal S2x256x4096 .f32) = x
  show (shapeCast S512x4096 x shapeCasts_S2x256x4096_S512x4096 : FVec Ideal S512x4096 .f32) (ix2 n k) = _
  refine shapeCast_apply _ _ _ (ix3 b t k) ?_
  rw [Shape.rowMajor_val_three, Shape.rowMajor_val_two]
  show (b.val * 256 + t.val) * 4096 + k.val = n.val * 4096 + k.val
  omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  obtain ⟨e0, e1, e2, e3⟩ := idx t
  idx_vars y
  have hN : t.val * 512 + y1.val < 2048 := by omega
  have he : ((cfg0.win 2).blk t).view.emb (ix2 y0 y1) = ix2 y0 (⟨t.val * 512 + y1.val, hN⟩ : Fin 2048) := by
    blk_ext [e2]
  rw [he]
  obtain ⟨b, hb⟩ : ∃ b : Fin 2, b.val = y0.val / 256 := ⟨⟨y0.val / 256, by omega⟩, rfl⟩
  obtain ⟨s, hs⟩ : ∃ s : Fin 256, s.val = y0.val % 256 := ⟨⟨y0.val % 256, by omega⟩, rfl⟩
  rw [ref_apply _ _ y0 _ b s (by omega)]
  unfold outsAt0 out0_A_2
  unfold kernelRun0_A
  dsimp only
  unfold kernelRun0_A.sl.v5 kernelRun0_A.sl.HS0_1
  refine (congrFun (View.read_writes_full VO0_2 VO0_2.junk inb_S512x512_S512x512_0_0 _ []) _).trans ?_
  rw [View.readCov_full]
  simp only [rd]
  refine (prod_at _ _ y0 y1).trans ?_
  refine Finset.sum_congr rfl fun k _ => Ideal.mul_congr ?_ ?_
  · refine Eq.trans ?_ (x_at m c y0 k b s (by omega))
    unfold iblk
    show V m c main_v1 _ = _
    blk_ext [e0]
  · unfold iblk
    show V m c main_arg1 _ = _
    rw [V_main_arg1]
    blk_ext [e1]

end Cert.Kernel6Ideal.MemKv

namespace Cert.Proof.MemKv

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  rw [(hagree c).1, (hagree c).2]
  exact (Cert.Kernel6Ideal.MemKv.final m c).symm

end Cert.Proof.MemKv

end
-- ==== Proof.Norm.lean ====
/- The normalisation: what the kernel's result array holds is each row over the root of its mean square, times the gains. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Norm

open Cert.Kernel7Ideal Cert.Kernel7Ideal.Gen

/-- A normalised row at an index. -/
def NV (x : Fin 4096 → EReal) (g : EReal) (j : Fin 4096) : EReal :=
  x j * Ideal.rsqrt (Ideal.div (∑ k, x k * x k) (Ideal.ofBits FTy.f32 0x45800000#32) + Ideal.ofBits FTy.f32 0x358637BD#32) * g

section
open Cert.Reference7Ideal Cert.Reference7Ideal.Gen

/-- The rows over the roots of their mean squares, times the gains. -/
def RN (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))

/-- The reference. -/
def REF (x : FVec Ideal S2x4096x4096 .f32) (g : FVec Ideal S4096 .f32) : FVec Ideal S8192x4096 .bf16 :=
  truncf .bf16 (shapeCast S8192x4096 (RN x g) Cert.Reference7Ideal.Gen.shapeCasts_S2x4096x4096_S8192x4096 : FVec Ideal S8192x4096 .f32) Cert.Reference7Ideal.Gen.bitsLt_bf16_f32

theorem RN_apply (x : FVec Ideal S2x4096x4096 .f32) (g : FVec Ideal S4096 .f32) (b : Fin 2) (t : Fin 4096) (j : Fin 4096) :
    RN x g (ix3 b t j) = NV (fun k => x (ix3 b t k)) (g (ix1 j)) j := by
  unfold NV
  pointwise [RN]

theorem tr_at (z : FVec Ideal S8192x4096 .f32) (i : S8192x4096.Idx) : (truncf .bf16 z Cert.Reference7Ideal.Gen.bitsLt_bf16_f32 : FVec Ideal S8192x4096 .bf16) i = z i := rfl

theorem ref_apply (x : FVec Ideal S2x4096x4096 .f32) (g : FVec Ideal S4096 .f32) (n : Fin 8192) (j : Fin 4096) (b : Fin 2) (t : Fin 4096) (hn : n.val = b.val * 4096 + t.val) :
    REF x g (ix2 n j) = NV (fun k => x (ix3 b t k)) (g (ix1 j)) j := by
  rw [← RN_apply]
  unfold REF
  rw [tr_at]
  refine shapeCast_apply _ _ _ (ix3 b t j) ?_
  rw [Shape.rowMajor_val_three, Shape.rowMajor_val_two]
  show (b.val * 4096 + t.val) * 4096 + j.val = n.val * 4096 + j.val
  omega

end

theorem pay (x : FVec Ideal S512x4096 .f32) (g : FVec Ideal S1x4096 .f32) (t : Fin 512) (j : Fin 4096) :
    k0_pay1 (F := Ideal) x g (ix2 t j) = NV (fun k => x (ix2 t k)) (g (ix2 (0 : Fin 1) j)) j := by
  unfold NV
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 16 :=
  (by decide +kernel : ∀ t : Fin grid0.N, _)

theorem V0 (c : Dev nD) : (V m c main_v0 : FVec Ideal S8192x4096 .f32)
    = (shapeCast S8192x4096 (m ((c : Thread nD τ).loc main_arg0) : FVec Ideal S2x4096x4096 .f32) shapeCasts_S2x4096x4096_S8192x4096 : FVec Ideal S8192x4096 .f32) := by
  unfold V
  after_results
  rfl

theorem V1 (c : Dev nD) : (V m c main_v1 : FVec Ideal S1x4096 .f32)
    = (shapeCast S1x4096 (m ((c : Thread nD τ).loc main_arg1) : FVec Ideal S4096 .f32) shapeCasts_S4096_S1x4096 : FVec Ideal S1x4096 .f32) := by
  unfold V
  after_results
  rfl

theorem x_at (c : Dev nD) (n : Fin 8192) (k : Fin 4096) (b : Fin 2) (t : Fin 4096) (hn : n.val = b.val * 4096 + t.val) :
    (V m c main_v0 : FVec Ideal S8192x4096 .f32) (ix2 n k) = (m ((c : Thread nD τ).loc main_arg0) : FVec Ideal S2x4096x4096 .f32) (ix3 b t k) := by
  rw [V0]
  refine shapeCast_apply _ _ _ (ix3 b t k) ?_
  rw [Shape.rowMajor_val_three, Shape.rowMajor_val_two]
  show (b.val * 4096 + t.val) * 4096 + k.val = n.val * 4096 + k.val
  omega

theorem g_at (c : Dev nD) (k : Fin 4096) :
    (V m c main_v1 : FVec Ideal S1x4096 .f32) (ix2 (0 : Fin 1) k) = (m ((c : Thread nD τ).loc main_arg1) : FVec Ideal S4096 .f32) (ix1 k) := by
  rw [V1]
  refine shapeCast_apply _ _ _ (ix1 k) ?_
  rw [Shape.rowMajor_val_one, Shape.rowMajor_val_two]
  show k.val = 0 * 4096 + k.val
  omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨e0, e1, e2, e3⟩ := idx t
  idx_vars y
  have hN : t.val * 512 + y0.val < 8192 := by omega
  have he : ((cfg0.win 2).blk t).view.emb (ix2 y0 y1) = ix2 (⟨t.val * 512 + y0.val, hN⟩ : Fin 8192) y1 := by
    blk_ext [e2]
  rw [he]
  obtain ⟨n, hn⟩ : ∃ n : Fin 8192, n.val = t.val * 512 + y0.val := ⟨⟨_, hN⟩, rfl⟩
  have hn' : (⟨t.val * 512 + y0.val, hN⟩ : Fin 8192) = n := Fin.ext hn.symm
  rw [hn']
  obtain ⟨b, hb⟩ : ∃ b : Fin 2, b.val = n.val / 4096 := ⟨⟨n.val / 4096, by omega⟩, rfl⟩
  obtain ⟨s, hs⟩ : ∃ s : Fin 4096, s.val = n.val % 4096 := ⟨⟨n.val % 4096, by omega⟩, rfl⟩
  rw [ref_apply _ _ n _ b s (by omega)]
  refine (pay _ _ y0 y1).trans ?_
  have h0 : (fun k : Fin 4096 => (iblk m c 0 t : FVec Ideal S512x4096 .f32) (ix2 y0 k)) = fun k => (m ((c : Thread nD τ).loc main_arg0) : FVec Ideal S2x4096x4096 .f32) (ix3 b s k) := by
    funext k
    refine Eq.trans ?_ (x_at m c n k b s (by omega))
    unfold iblk
    show V m c main_v0 _ = _
    blk_ext [e0, hn]
  have h1 : (iblk m c 1 t : FVec Ideal S1x4096 .f32) (ix2 (0 : Fin 1) y1) = (m ((c : Thread nD τ).loc main_arg1) : FVec Ideal S4096 .f32) (ix1 y1) := by
    refine Eq.trans ?_ (g_at m c y1)
    unfold iblk
    show V m c main_v1 _ = _
    blk_ext [e1]
  exact congrArg₂ (fun f g => NV f g y1) h0 h1

end Cert.Kernel7Ideal.Norm

namespace Cert.Proof.Norm

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨(h c).1.trans ?_, (h c).2⟩)
    (Cert.Reference7Ideal.Value.run (F := Ideal) m' ρ')
  rw [(hagree c).1, (hagree c).2]
  exact (Cert.Kernel7Ideal.Norm.final m c).symm

end Cert.Proof.Norm

end
-- ==== Proof.MemNorm.lean ====
/- The normalisation of the memory: what the kernel's result array holds is each row over the root of its mean square, times the gains. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.MemNorm

open Cert.Kernel8Ideal Cert.Kernel8Ideal.Gen

/-- A normalised row at an index. -/
def NV (x : Fin 4096 → EReal) (g : EReal) (j : Fin 4096) : EReal :=
  x j * Ideal.rsqrt (Ideal.div (∑ k, x k * x k) (Ideal.ofBits FTy.f32 0x45800000#32) + Ideal.ofBits FTy.f32 0x358637BD#32) * g

section
open Cert.Reference8Ideal Cert.Reference8Ideal.Gen

/-- The rows over the roots of their mean squares, times the gains. -/
def RN (x : FVec Ideal S2x256x4096 .f32) (g : FVec Ideal S4096 .f32) : FVec Ideal S2x256x4096 .f32 :=
  mulf (mulf x (broadcastInDim S2x256x4096 ![0, 1, 2] bcast_S2x256x1_S2x256x4096_0_1_2 (Host.rsqrt (addf (Host.divf (broadcastInDim S2x256x1 ![0, 1] bcast_S2x256_S2x256x1_0_1 (Host.reduceAdd (mulf x x) (constant S_ .f32 0x00000000#32) reducesTo_S2x256x4096_S2x256_d2 h_S_)) (broadcastInDim S2x256x1 ![] bcast_S_S2x256x1 (constant S_ .f32 0x45800000#32))) (broadcastInDim S2x256x1 ![] bcast_S_S2x256x1 (constant S_ .f32 0x358637BD#32)))))) (broadcastInDim S2x256x4096 ![0, 1, 2] bcast_S1x1x4096_S2x256x4096_0_1_2 (broadcastInDim S1x1x4096 ![2] bcast_S4096_S1x1x4096_2 g))

/-- The reference. -/
def REF (x : FVec Ideal S2x256x4096 .f32) (g : FVec Ideal S4096 .f32) : FVec Ideal S512x4096 .bf16 :=
  truncf .bf16 (shapeCast S512x4096 (RN x g) Cert.Reference8Ideal.Gen.shapeCasts_S2x256x4096_S512x4096 : FVec Ideal S512x4096 .f32) Cert.Reference8Ideal.Gen.bitsLt_bf16_f32

theorem RN_apply (x : FVec Ideal S2x256x4096 .f32) (g : FVec Ideal S4096 .f32) (b : Fin 2) (t : Fin 256) (j : Fin 4096) :
    RN x g (ix3 b t j) = NV (fun k => x (ix3 b t k)) (g (ix1 j)) j := by
  unfold NV
  pointwise [RN]

theorem tr_at (z : FVec Ideal S512x4096 .f32) (i : S512x4096.Idx) : (truncf .bf16 z Cert.Reference8Ideal.Gen.bitsLt_bf16_f32 : FVec Ideal S512x4096 .bf16) i = z i := rfl

theorem ref_apply (x : FVec Ideal S2x256x4096 .f32) (g : FVec Ideal S4096 .f32) (n : Fin 512) (j : Fin 4096) (b : Fin 2) (t : Fin 256) (hn : n.val = b.val * 256 + t.val) :
    REF x g (ix2 n j) = NV (fun k => x (ix3 b t k)) (g (ix1 j)) j := by
  rw [← RN_apply]
  unfold REF
  rw [tr_at]
  refine shapeCast_apply _ _ _ (ix3 b t j) ?_
  rw [Shape.rowMajor_val_three, Shape.rowMajor_val_two]
  show (b.val * 256 + t.val) * 4096 + j.val = n.val * 4096 + j.val
  omega

end

theorem pay (x : FVec Ideal S512x4096 .f32) (g : FVec Ideal S1x4096 .f32) (t : Fin 512) (j : Fin 4096) :
    k0_pay1 (F := Ideal) x g (ix2 t j) = NV (fun k => x (ix2 t k)) (g (ix2 (0 : Fin 1) j)) j := by
  unfold NV
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 1 :=
  (by decide +kernel : ∀ t : Fin grid0.N, _)

theorem V0 (c : Dev nD) : (V m c main_v0 : FVec Ideal S512x4096 .f32)
    = (shapeCast S512x4096 (m ((c : Thread nD τ).loc main_arg0) : FVec Ideal S2x256x4096 .f32) shapeCasts_S2x256x4096_S512x4096 : FVec Ideal S512x4096 .f32) := by
  unfold V
  after_results
  rfl

theorem V1 (c : Dev nD) : (V m c main_v1 : FVec Ideal S1x4096 .f32)
    = (shapeCast S1x4096 (m ((c : Thread nD τ).loc main_arg1) : FVec Ideal S4096 .f32) shapeCasts_S4096_S1x4096 : FVec Ideal S1x4096 .f32) := by
  unfold V
  after_results
  rfl

theorem x_at (c : Dev nD) (n : Fin 512) (k : Fin 4096) (b : Fin 2) (t : Fin 256) (hn : n.val = b.val * 256 + t.val) :
    (V m c main_v0 : FVec Ideal S512x4096 .f32) (ix2 n k) = (m ((c : Thread nD τ).loc main_arg0) : FVec Ideal S2x256x4096 .f32) (ix3 b t k) := by
  rw [V0]
  refine shapeCast_apply _ _ _ (ix3 b t k) ?_
  rw [Shape.rowMajor_val_three, Shape.rowMajor_val_two]
  show (b.val * 256 + t.val) * 4096 + k.val = n.val * 4096 + k.val
  omega

theorem g_at (c : Dev nD) (k : Fin 4096) :
    (V m c main_v1 : FVec Ideal S1x4096 .f32) (ix2 (0 : Fin 1) k) = (m ((c : Thread nD τ).loc main_arg1) : FVec Ideal S4096 .f32) (ix1 k) := by
  rw [V1]
  refine shapeCast_apply _ _ _ (ix1 k) ?_
  rw [Shape.rowMajor_val_one, Shape.rowMajor_val_two]
  show k.val = 0 * 4096 + k.val
  omega

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨e0, e1, e2, e3⟩ := idx t
  idx_vars y
  have hN : t.val * 512 + y0.val < 512 := by omega
  have he : ((cfg0.win 2).blk t).view.emb (ix2 y0 y1) = ix2 (⟨t.val * 512 + y0.val, hN⟩ : Fin 512) y1 := by
    blk_ext [e2]
  rw [he]
  obtain ⟨n, hn⟩ : ∃ n : Fin 512, n.val = t.val * 512 + y0.val := ⟨⟨_, hN⟩, rfl⟩
  have hn' : (⟨t.val * 512 + y0.val, hN⟩ : Fin 512) = n := Fin.ext hn.symm
  rw [hn']
  obtain ⟨b, hb⟩ : ∃ b : Fin 2, b.val = n.val / 256 := ⟨⟨n.val / 256, by omega⟩, rfl⟩
  obtain ⟨s, hs⟩ : ∃ s : Fin 256, s.val = n.val % 256 := ⟨⟨n.val % 256, by omega⟩, rfl⟩
  rw [ref_apply _ _ n _ b s (by omega)]
  refine (pay _ _ y0 y1).trans ?_
  have h0 : (fun k : Fin 4096 => (iblk m c 0 t : FVec Ideal S512x4096 .f32) (ix2 y0 k)) = fun k => (m ((c : Thread nD τ).loc main_arg0) : FVec Ideal S2x256x4096 .f32) (ix3 b s k) := by
    funext k
    refine Eq.trans ?_ (x_at m c n k b s (by omega))
    unfold iblk
    show V m c main_v0 _ = _
    blk_ext [e0, hn]
  have h1 : (iblk m c 1 t : FVec Ideal S1x4096 .f32) (ix2 (0 : Fin 1) y1) = (m ((c : Thread nD τ).loc main_arg1) : FVec Ideal S4096 .f32) (ix1 y1) := by
    refine Eq.trans ?_ (g_at m c y1)
    unfold iblk
    show V m c main_v1 _ = _
    blk_ext [e1]
  exact congrArg₂ (fun f g => NV f g y1) h0 h1

end Cert.Kernel8Ideal.MemNorm

namespace Cert.Proof.MemNorm

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨(h c).1.trans ?_, (h c).2⟩)
    (Cert.Reference8Ideal.Value.run (F := Ideal) m' ρ')
  rw [(hagree c).1, (hagree c).2]
  exact (Cert.Kernel8Ideal.MemNorm.final m c).symm

end Cert.Proof.MemNorm

end
-- ==== Proof.lean ====
/- The proof of the certificate's claims: the forgetting attention, the three products of the input projection, the memory's attention and its keys
   and values, and the two normalisations, assembled behind the witnesses of the programs' stated facts. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_mem_finite
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference4Ideal.Run
public import proofs.«01_k».proof.Proof.Gen.Pre_fox_finite
public import proofs.«01_k».proof.Proof.FoxFinal
public import proofs.«01_k».proof.Proof.FoxRef
public import proofs.«01_k».proof.Proof.InProj
public import proofs.«01_k».proof.Proof.InProjB
public import proofs.«01_k».proof.Proof.InProjVt
public import proofs.«01_k».proof.Proof.Mem
public import proofs.«01_k».proof.Proof.MemKv
public import proofs.«01_k».proof.Proof.Norm
public import proofs.«01_k».proof.Proof.MemNorm
public import Idealize.ShloMosaic.Adequacy
public import Idealize.ShloMosaic.Init
public import Idealize.ShloMosaic.Lib.Quiescent

@[expose] public section

noncomputable section

namespace Cert.Proof

open Idealize.ShloMosaic Idealize.SL.Sem

theorem fox_frame_p : Cert.quiescent_Kernel := fun m ρ _ => Cert.Kernel.Gen.frame m ρ
theorem fox_frame_pi : Cert.quiescent_KernelIdeal := fun m ρ _ => Cert.KernelIdeal.Gen.frame m ρ
theorem fox_frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem fox_frame_pi_pre : Cert.quiescent_KernelIdeal_pre_fox_finite := fun m ρ _ => Cert.KernelIdeal.Gen.frame m ρ
theorem fox_frame_ri_pre : Cert.quiescent_ReferenceIdeal_pre_fox_finite := fun m ρ _ => fox_frame_ri m ρ trivial

/-- The kernel's one named constant is the real it stands for. -/
theorem fox_preserves : Cert.preserves_Kernel_KernelIdeal :=
  IdealRules.named_const.statement Cert.KernelIdeal.κ "scale" .f32 0x3E38AA3B#32 (((8 * (Real.log 2))⁻¹ : ℝ) : EReal) rfl

/-- On finite queries, keys and forget logits the kernel's heads are the reference's. -/
theorem fox_algebraic : Cert.algebraic_KernelIdeal_ReferenceIdeal_pre_fox_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Fox.res_eq, (hagree c).1, (hagree c).2]
  exact (Cert.KernelIdeal.Fox.final m c (hpre c)).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Pre_fox_finite.Gen.facts, Cert.Pre_mem_finite.Gen.facts,
    fox_frame_p, fox_frame_pi, fox_frame_pi_pre, fox_frame_ri, fox_frame_ri_pre,
    InProj.frame_p, InProj.frame_pi, InProj.frame_ri, InProjB.frame_p, InProjB.frame_pi, InProjB.frame_ri,
    InProjVt.frame_p, InProjVt.frame_pi, InProjVt.frame_ri,
    Mem.frame_p, Mem.frame_pi, Mem.frame_pi_pre, Mem.frame_ri, Mem.frame_ri_pre,
    MemKv.frame_p, MemKv.frame_pi, MemKv.frame_ri, Norm.frame_p, Norm.frame_pi, Norm.frame_ri,
    MemNorm.frame_p, MemNorm.frame_pi, MemNorm.frame_ri,
    fox_preserves, fox_algebraic, InProj.preserves, InProj.algebraic, InProjB.preserves, InProjB.algebraic,
    InProjVt.preserves, InProjVt.algebraic, Mem.preserves, Mem.algebraic, MemKv.preserves, MemKv.algebraic,
    Norm.preserves, Norm.algebraic, MemNorm.preserves, MemNorm.algebraic⟩

end Cert.Proof

end
